-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_4)) (v2 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_4) = v1 c
          ∧ r.2.mem ((c.tc : Thread Cert.KernelIdeal.nD Cert.KernelIdeal.τ).loc Cert.KernelIdeal.main_v11_5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v1) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v25) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v4)) (v2 : (c : Dev Cert.Kernel24Ideal.nD) → Buf (Elt Ideal) ((c.tc : Thread Cert.Kernel24Ideal.nD Cert.Kernel24Ideal.τ).loc Cert.Kernel24Ideal.main_v5)) (v3 : (c : Dev Cert.Kernel24Ideal.nD) → Buf (Elt Ideal) ((c.tc : Thread Cert.Kernel24Ideal.nD Cert.Kernel24Ideal.τ).loc Cert.Kernel24Ideal.main_v6)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v4) = v1 c
          ∧ r.2.mem ((c.tc : Thread Cert.Kernel24Ideal.nD Cert.Kernel24Ideal.τ).loc Cert.Kernel24Ideal.main_v5) = v2 c
          ∧ r.2.mem ((c.tc : Thread Cert.Kernel24Ideal.nD Cert.Kernel24Ideal.τ).loc Cert.Kernel24Ideal.main_v6) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v54) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v31) = v2 c
          ∧ r.2.mem ((c.tc : Thread Cert.Reference24Ideal.nD Cert.Reference24Ideal.τ).loc Cert.Reference24Ideal.main_v55) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v15) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg3) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_v29) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_v16) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S2x4096x32x64 : Shape := ⟨4, ![2, 4096, 32, 64]⟩
abbrev S2x4096x4x128 : Shape := ⟨4, ![2, 4096, 4, 128]⟩
abbrev S2x4x32x512x128 : Shape := ⟨5, ![2, 4, 32, 512, 128]⟩
abbrev S2x4096x512 : Shape := ⟨3, ![2, 4096, 512]⟩
abbrev S2x32x32x128 : Shape := ⟨4, ![2, 32, 32, 128]⟩
abbrev S2x4096x10368 : Shape := ⟨3, ![2, 4096, 10368]⟩
abbrev S2048 : Shape := ⟨1, ![2048]⟩
abbrev S2x4096x2048 : Shape := ⟨3, ![2, 4096, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2x4096x2048 : S_.BroadcastsInDim S2x4096x2048 (![] : Fin 0 → Fin S2x4096x2048.rank)
  reducesTo_S2x4096x2048_S_d0_1_2 : S2x4096x2048.ReducesTo [0, 1, 2] S_

variable [Facts]

def fn {F : FTy → Type} [FloatOps F] (main_arg0 : FVec F S2x4096x32x64 .f32) (main_arg1 : FVec F S2x4096x32x64 .f32) (main_arg2 : FVec F S2x4096x4x128 .f32) (main_arg3 : FVec F S2x4096x4x128 .f32) (main_arg4 : FVec F S2x4x32x512x128 .bf16) (main_arg5 : FVec F S2x4096x512 .f32) (main_arg6 : FVec F S2x4096x512 .f32) (main_arg7 : FVec F S2x32x32x128 .f32) (main_arg8 : FVec F S2x4096x10368 .f32) (main_arg9 : FVec F S2048 .f32) (main_arg10 : FVec F S2048 .f32) (main_arg11 : FVec F S2x4096x10368 .bf16) (main_arg12 : FVec F S2x4096x2048 .f32) : IVec S_ 1 :=
  let main_v0 : FVec F S2048 .f32 := Host.absf main_arg10
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2x4096x2048 .f32 := Host.absf main_arg12
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_c_1 : IVec S_ 1 := constantI S_ 1 1#1
  let main_v7 : IVec S_ 1 := (fun x v => Host.reduce IntOp.andi x v reducesTo_S2x4096x2048_S_d0_1_2 h_S_) main_v6 main_c_1
  let main_v8 : IVec S_ 1 := andi main_v3 main_v7
  main_v8
-- ==== Kernel.lean ====
abbrev S2x4096x32x64 : Shape := ⟨4, ![2, 4096, 32, 64]⟩
abbrev S2x4096x4x128 : Shape := ⟨4, ![2, 4096, 4, 128]⟩
abbrev S2x4x32x512x128 : Shape := ⟨5, ![2, 4, 32, 512, 128]⟩
abbrev S2x4096x512 : Shape := ⟨3, ![2, 4096, 512]⟩
abbrev S2x32x32x128 : Shape := ⟨4, ![2, 32, 32, 128]⟩
abbrev S2x4096x10368 : Shape := ⟨3, ![2, 4096, 10368]⟩
abbrev S2048 : Shape := ⟨1, ![2048]⟩
abbrev S2x4096x2048 : Shape := ⟨3, ![2, 4096, 2048]⟩
abbrev S1x1x2048 : Shape := ⟨3, ![1, 1, 2048]⟩
abbrev S2x4096x4x512 : Shape := ⟨4, ![2, 4096, 4, 512]⟩
abbrev S2x4096x4x768 : Shape := ⟨4, ![2, 4096, 4, 768]⟩
abbrev S2x4096x3072 : Shape := ⟨3, ![2, 4096, 3072]⟩
abbrev S1x2048 : Shape := ⟨2, ![1, 2048]⟩
abbrev S1x128x512 : Shape := ⟨3, ![1, 128, 512]⟩
abbrev S1x128x768 : Shape := ⟨3, ![1, 128, 768]⟩
abbrev S1x1x1x512x128 : Shape := ⟨5, ![1, 1, 1, 512, 128]⟩
abbrev S1x128x128 : Shape := ⟨3, ![1, 128, 128]⟩
abbrev S1x1x8x128 : Shape := ⟨4, ![1, 1, 8, 128]⟩
abbrev S1x512 : Shape := ⟨2, ![1, 512]⟩
abbrev S512x128 : Shape := ⟨2, ![512, 128]⟩
abbrev S128x128 : Shape := ⟨2, ![128, 128]⟩
abbrev S8x128 : Shape := ⟨2, ![8, 128]⟩
abbrev S128x512 : Shape := ⟨2, ![128, 512]⟩
abbrev S128 : Shape := ⟨1, ![128]⟩
abbrev S128x1 : Shape := ⟨2, ![128, 1]⟩
abbrev S512 : Shape := ⟨1, ![512]⟩
abbrev S1x128 : Shape := ⟨2, ![1, 128]⟩
abbrev S8x1 : Shape := ⟨2, ![8, 1]⟩
abbrev S1x1 : Shape := ⟨2, ![1, 1]⟩
abbrev S64x128 : Shape := ⟨2, ![64, 128]⟩
abbrev S8 : Shape := ⟨1, ![8]⟩
abbrev S384x512 : Shape := ⟨2, ![384, 512]⟩
abbrev S384x128 : Shape := ⟨2, ![384, 128]⟩

abbrev nBuf : Space → Nat
  | .hbm => 30
  | .vmem => 33
  | .smem => 0
  | _ => 0

abbrev bufTy : (tb : Table) → Fin (tcTables nBuf tb) → BufTy
  | .hbm, ⟨0, _⟩ => ⟨S2x4096x32x64, .f32⟩
  | .hbm, ⟨1, _⟩ => ⟨S2x4096x32x64, .f32⟩
  | .hbm, ⟨2, _⟩ => ⟨S2x4096x4x128, .f32⟩
  | .hbm, ⟨3, _⟩ => ⟨S2x4096x4x128, .f32⟩
  | .hbm, ⟨4, _⟩ => ⟨S2x4x32x512x128, .bf16⟩
  | .hbm, ⟨5, _⟩ => ⟨S2x4096x512, .f32⟩
  | .hbm, ⟨6, _⟩ => ⟨S2x4096x512, .f32⟩
  | .hbm, ⟨7, _⟩ => ⟨S2x32x32x128, .f32⟩
  | .hbm, ⟨8, _⟩ => ⟨S2x4096x10368, .f32⟩
  | .hbm, ⟨9, _⟩ => ⟨S2048, .f32⟩
  | .hbm, ⟨10, _⟩ => ⟨S2048, .f32⟩
  | .hbm, ⟨11, _⟩ => ⟨S2x4096x10368, .bf16⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S1x1x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2x4096x4x512, .f32⟩
  | .hbm, ⟨20, _⟩ => ⟨S2x4096x4x768, .f32⟩
  | .hbm, ⟨21, _⟩ => ⟨S2x4096x3072, .f32⟩
  | .hbm, ⟨22, _⟩ => ⟨S1x2048, .f32⟩
  | .hbm, ⟨23, _⟩ => ⟨S1x2048, .f32⟩
  | .hbm, ⟨24, _⟩ => ⟨S2x4096x10368, .bf16⟩
  | .hbm, ⟨25, _⟩ => ⟨S2x4096x3072, .f32⟩
  | .hbm, ⟨26, _⟩ => ⟨S2x4096x512, .f32⟩
  | .hbm, ⟨27, _⟩ => ⟨S2x4096x512, .f32⟩
  | .hbm, ⟨28, _⟩ => ⟨S1x2048, .f32⟩
  | .hbm, ⟨29, _⟩ => ⟨S1x2048, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x768, .f32⟩
  | .local _ .vmem, ⟨7, _⟩ => ⟨S1x128x768, .f32⟩
  | .local _ .vmem, ⟨8, _⟩ => ⟨S1x1x1x512x128, .bf16⟩
  | .local _ .vmem, ⟨9, _⟩ => ⟨S1x1x1x512x128, .bf16⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x1x8x128, .f32⟩
  | .local _ .vmem, ⟨15, _⟩ => ⟨S1x1x8x128, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x128x512, .bf16⟩
  | .local _ .vmem, ⟨21, _⟩ => ⟨S1x128x512, .bf16⟩
  | .local _ .vmem, ⟨22, _⟩ => ⟨S1x128x768, .f32⟩
  | .local _ .vmem, ⟨23, _⟩ => ⟨S1x128x768, .f32⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S512x128, .f32⟩
  | _, _ => ⟨S2x4096x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c12_i32 : BitVec 32 := 12#32
  let v1 : BitVec 32 := Scalar.addi c12_i32 arg0
  let c0_i32 : BitVec 32 := 0#32
  ![arg1.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  let c0_i32_0 : BitVec 32 := 0#32
  let c0_i32_1 : BitVec 32 := 0#32
  ![arg1.toNat, arg0.toNat, v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  let c0_i32_0 : BitVec 32 := 0#32
  ![arg1.toNat, v0.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c12_i32 : BitVec 32 := 12#32
  let v1 : BitVec 32 := Scalar.addi c12_i32 arg0
  let c0_i32 : BitVec 32 := 0#32
  ![arg1.toNat, v0.toNat, v1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c0_i32 : BitVec 32 := 0#32
  ![arg1.toNat, v0.toNat, arg0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2x4096x32x64 : Shape := ⟨4, ![2, 4096, 32, 64]⟩
abbrev S2x4096x4x128 : Shape := ⟨4, ![2, 4096, 4, 128]⟩
abbrev S2x4x32x512x128 : Shape := ⟨5, ![2, 4, 32, 512, 128]⟩
abbrev S2x4096x512 : Shape := ⟨3, ![2, 4096, 512]⟩
abbrev S2x32x32x128 : Shape := ⟨4, ![2, 32, 32, 128]⟩
abbrev S2x4096x10368 : Shape := ⟨3, ![2, 4096, 10368]⟩
abbrev S2048 : Shape := ⟨1, ![2048]⟩
abbrev S2x4096x2048 : Shape := ⟨3, ![2, 4096, 2048]⟩
abbrev S1x1x2048 : Shape := ⟨3, ![1, 1, 2048]⟩
abbrev S_ : Shape := ⟨0, ![]⟩
abbrev S2x4096x4x512 : Shape := ⟨4, ![2, 4096, 4, 512]⟩
abbrev S2x4096x4 : Shape := ⟨3, ![2, 4096, 4]⟩
abbrev S2x4096x4x1 : Shape := ⟨4, ![2, 4096, 4, 1]⟩
abbrev S2x4096x6144 : Shape := ⟨3, ![2, 4096, 6144]⟩
abbrev S2x4096x2176 : Shape := ⟨3, ![2, 4096, 2176]⟩
abbrev S1x2048 : Shape := ⟨2, ![1, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2x4096x32x64, .f32⟩
  | .hbm, ⟨1, _⟩ => ⟨S2x4096x32x64, .f32⟩
  | .hbm, ⟨2, _⟩ => ⟨S2x4096x4x128, .f32⟩
  | .hbm, ⟨3, _⟩ => ⟨S2x4096x4x128, .f32⟩
  | .hbm, ⟨4, _⟩ => ⟨S2x4x32x512x128, .bf16⟩
  | .hbm, ⟨5, _⟩ => ⟨S2x4096x512, .f32⟩
  | .hbm, ⟨6, _⟩ => ⟨S2x4096x512, .f32⟩
  | .hbm, ⟨7, _⟩ => ⟨S2x32x32x128, .f32⟩
  | .hbm, ⟨8, _⟩ => ⟨S2x4096x10368, .f32⟩
  | .hbm, ⟨9, _⟩ => ⟨S2048, .f32⟩
  | .hbm, ⟨10, _⟩ => ⟨S2048, .f32⟩
  | .hbm, ⟨11, _⟩ => ⟨S2x4096x10368, .bf16⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x4x512, .f32⟩
  | .hbm, ⟨35, _⟩ => ⟨S2x4096x4x512, .f32⟩
  | .hbm, ⟨36, _⟩ => ⟨S_, .f32⟩
  | .hbm, ⟨37, _⟩ => ⟨S2x4096x4, .f32⟩
  | .hbm, ⟨38, _⟩ => ⟨S2x4096x4x1, .f32⟩
  | .hbm, ⟨39, _⟩ => ⟨S_, .f32⟩
  | .hbm, ⟨40, _⟩ => ⟨S2x4096x4x1, .f32⟩
  | .hbm, ⟨41, _⟩ => ⟨S2x4096x4x1, .f32⟩
  | .hbm, ⟨42, _⟩ => ⟨S_, .f32⟩
  | .hbm, ⟨43, _⟩ => ⟨S2x4096x4x1, .f32⟩
  | .hbm, ⟨44, _⟩ => ⟨S2x4096x4x1, .f32⟩
  | .hbm, ⟨45, _⟩ => ⟨S2x4096x4x1, .f32⟩
  | .hbm, ⟨46, _⟩ => ⟨S2x4096x4x1, .f32⟩
  | .hbm, ⟨47, _⟩ => ⟨S_, .f32⟩
  | .hbm, ⟨48, _⟩ => ⟨S2x4096x4x1, .f32⟩
  | .hbm, ⟨49, _⟩ => ⟨S2x4096x4x1, .f32⟩
  | .hbm, ⟨50, _⟩ => ⟨S2x4096x4x512, .f32⟩
  | .hbm, ⟨51, _⟩ => ⟨S2x4096x4x512, .f32⟩
  | .hbm, ⟨52, _⟩ => ⟨S2x4096x2048, .f32⟩
  | .hbm, ⟨53, _⟩ => ⟨S1x1x2048, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S_, .f32⟩
  | .hbm, ⟨58, _⟩ => ⟨S2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2048, .f32⟩
  | .hbm, ⟨64, _⟩ => ⟨S2x4096x4x512, .f32⟩
  | .hbm, ⟨65, _⟩ => ⟨S2x4096x4x512, .f32⟩
  | .hbm, ⟨66, _⟩ => ⟨S_, .f32⟩
  | .hbm, ⟨67, _⟩ => ⟨S2x4096x4, .f32⟩
  | .hbm, ⟨68, _⟩ => ⟨S2x4096x4x1, .f32⟩
  | .hbm, ⟨69, _⟩ => ⟨S2x4096x4x512, .f32⟩
  | .hbm, ⟨70, _⟩ => ⟨S2x4096x4x512, .f32⟩
  | .hbm, ⟨71, _⟩ => ⟨S2x4096x4x1, .f32⟩
  | .hbm, ⟨72, _⟩ => ⟨S_, .f32⟩
  | .hbm, ⟨73, _⟩ => ⟨S2x4096x4x1, .f32⟩
  | .hbm, ⟨74, _⟩ => ⟨S2x4096x4x1, .f32⟩
  | .hbm, ⟨75, _⟩ => ⟨S_, .f32⟩
  | .hbm, ⟨76, _⟩ => ⟨S2x4096x4, .f32⟩
  | .hbm, ⟨77, _⟩ => ⟨S2x4096x4x512, .f32⟩
  | .hbm, ⟨78, _⟩ => ⟨S2x4096x4x512, .f32⟩
  | .hbm, ⟨79, _⟩ => ⟨S2x4096x4x512, .f32⟩
  | .hbm, ⟨80, _⟩ => ⟨S2x4096x4x512, .f32⟩
  | .hbm, ⟨81, _⟩ => ⟨S2x4096x4x512, .f32⟩
  | .hbm, ⟨82, _⟩ => ⟨S2x4096x2048, .f32⟩
  | .hbm, ⟨83, _⟩ => ⟨S2x4096x2048, .f32⟩
  | .hbm, ⟨84, _⟩ => ⟨S2x4096x2048, .f32⟩
  | .hbm, ⟨85, _⟩ => ⟨S2x4096x2048, .f32⟩
  | .hbm, ⟨86, _⟩ => ⟨S2x4096x2048, .f32⟩
  | .hbm, ⟨87, _⟩ => ⟨S2x4096x2048, .f32⟩
  | .hbm, ⟨88, _⟩ => ⟨S2x4096x2048, .f32⟩
  | .hbm, ⟨89, _⟩ => ⟨S2x4096x2048, .f32⟩
  | .hbm, ⟨90, _⟩ => ⟨S_, .f32⟩
  | .hbm, ⟨91, _⟩ => ⟨S2048, .f32⟩
  | .hbm, ⟨92, _⟩ => ⟨S1x1x2048, .f32⟩
  | .hbm, ⟨93, _⟩ => ⟨S_, .f32⟩
  | .hbm, ⟨94, _⟩ => ⟨S2048, .f32⟩
  | .hbm, ⟨95, _⟩ => ⟨S2x4096x6144, .bf16⟩
  | .hbm, ⟨96, _⟩ => ⟨S2x4096x2048, .bf16⟩
  | .hbm, ⟨97, _⟩ => ⟨S2x4096x2176, .bf16⟩
  | .hbm, ⟨98, _⟩ => ⟨S2x4096x10368, .bf16⟩
  | .hbm, ⟨99, _⟩ => ⟨S1x2048, .f32⟩
  | .hbm, ⟨100, _⟩ => ⟨S1x2048, .f32⟩
  | _, _ => ⟨S2x4096x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v7_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v7_1 : Ref sig .tc := ⟨.hbm, 31, rfl⟩
abbrev main_v7_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v51 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_v54 : Ref sig .tc := ⟨.hbm, 92, rfl⟩
abbrev main_cst_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x4096x10368 : Shape := ⟨3, ![2, 4096, 10368]⟩
abbrev S3x1024 : Shape := ⟨2, ![3, 1024]⟩
abbrev S_ : Shape := ⟨0, ![]⟩
abbrev S8x1024 : Shape := ⟨2, ![8, 1024]⟩
abbrev S1x128x1024 : Shape := ⟨3, ![1, 128, 1024]⟩
abbrev S1x8x1024 : Shape := ⟨3, ![1, 8, 1024]⟩
abbrev S1x128x3072 : Shape := ⟨3, ![1, 128, 3072]⟩
abbrev S128x1024 : Shape := ⟨2, ![128, 1024]⟩
abbrev S144x1024 : Shape := ⟨2, ![144, 1024]⟩
abbrev S1x1024 : Shape := ⟨2, ![1, 1024]⟩
abbrev S1024 : Shape := ⟨1, ![1024]⟩

abbrev nBuf : Space → Nat
  | .hbm => 9
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S2x4096x10368, .f32⟩
  | .hbm, ⟨2, _⟩ => ⟨S3x1024, .f32⟩
  | .hbm, ⟨3, _⟩ => ⟨S2x4096x10368, .bf16⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S2x4096x10368, .bf16⟩
  | .hbm, ⟨8, _⟩ => ⟨S8x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S8x1024, .f32⟩
  | .local _ .vmem, ⟨21, _⟩ => ⟨S1x128x3072, .bf16⟩
  | .local _ .vmem, ⟨22, _⟩ => ⟨S1x128x3072, .bf16⟩
  | .local _ .vmem, ⟨23, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨3, ![1, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![arg1.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi c1_i32_0 arg0
  let c0_i32_1 : BitVec 32 := 0#32
  ![arg1.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let v3 : BitVec 32 := Scalar.addi c1_i32_0 arg0
  let c0_i32 : BitVec 32 := 0#32
  ![arg1.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![arg1.toNat, v2.toNat, v3.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let v3 : BitVec 32 := Scalar.addi c2_i32 arg0
  let c0_i32 : BitVec 32 := 0#32
  ![arg1.toNat, v2.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false, false]

abbrev stage0_11 : Fin 2 → Memref sig .tc .vmem S1x128x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false, false]
-- ==== Reference2Ideal.lean ====
abbrev S2x4096x1024 : Shape := ⟨3, ![2, 4096, 1024]⟩
abbrev S2x4096x10368 : Shape := ⟨3, ![2, 4096, 10368]⟩
abbrev S3x1024 : Shape := ⟨2, ![3, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S2x4096x7296 : Shape := ⟨3, ![2, 4096, 7296]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x10368, .f32⟩
  | .hbm, ⟨2, _⟩ => ⟨S3x1024, .f32⟩
  | .hbm, ⟨3, _⟩ => ⟨S2x4096x10368, .bf16⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x2x1024, .f32⟩
  | .hbm, ⟨10, _⟩ => ⟨S2x4098x1024, .f32⟩
  | .hbm, ⟨11, _⟩ => ⟨S_, .f32⟩
  | .hbm, ⟨12, _⟩ => ⟨S2x2x1024, .f32⟩
  | .hbm, ⟨13, _⟩ => ⟨S2x4096x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S1024, .f32⟩
  | .hbm, ⟨39, _⟩ => ⟨S1x1x1024, .f32⟩
  | .hbm, ⟨40, _⟩ => ⟨S2x4096x1024, .f32⟩
  | .hbm, ⟨41, _⟩ => ⟨S2x4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S3x1024, .f32⟩
  | .hbm, ⟨47, _⟩ => ⟨S_, .f32⟩
  | .hbm, ⟨48, _⟩ => ⟨S2x4098x1024, .f32⟩
  | .hbm, ⟨49, _⟩ => ⟨S2x4096x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x4096x1024, .f32⟩
  | .hbm, ⟨54, _⟩ => ⟨S2x4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S_, .f32⟩
  | .hbm, ⟨62, _⟩ => ⟨S2x4098x1024, .f32⟩
  | .hbm, ⟨63, _⟩ => ⟨S2x4098x1024, .f32⟩
  | .hbm, ⟨64, _⟩ => ⟨S2x4096x1024, .f32⟩
  | .hbm, ⟨65, _⟩ => ⟨S_, .f32⟩
  | .hbm, ⟨66, _⟩ => ⟨S1024, .f32⟩
  | .hbm, ⟨67, _⟩ => ⟨S1x1x1024, .f32⟩
  | .hbm, ⟨68, _⟩ => ⟨S2x4096x1024, .f32⟩
  | .hbm, ⟨69, _⟩ => ⟨S2x4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S_, .f32⟩
  | .hbm, ⟨77, _⟩ => ⟨S2x4098x1024, .f32⟩
  | .hbm, ⟨78, _⟩ => ⟨S2x4098x1024, .f32⟩
  | .hbm, ⟨79, _⟩ => ⟨S2x2x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .bf16⟩
  | .hbm, ⟨84, _⟩ => ⟨S2x4096x1024, .bf16⟩
  | .hbm, ⟨85, _⟩ => ⟨S2x4096x1024, .bf16⟩
  | .hbm, ⟨86, _⟩ => ⟨S2x4096x7296, .bf16⟩
  | .hbm, ⟨87, _⟩ => ⟨S2x4096x10368, .bf16⟩
  | .hbm, ⟨88, _⟩ => ⟨S_, .i32⟩
  | .hbm, ⟨89, _⟩ => ⟨S_, .f32⟩
  | .hbm, ⟨90, _⟩ => ⟨S8x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c : Ref sig .tc := ⟨.hbm, 88, rfl⟩
abbrev main_call0_v0 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Kernel3.lean ====
abbrev S2x4096x10368 : Shape := ⟨3, ![2, 4096, 10368]⟩
abbrev S1024x10368 : Shape := ⟨2, ![1024, 10368]⟩
abbrev S8192x10368 : Shape := ⟨2, ![8192, 10368]⟩
abbrev S8192x1024 : Shape := ⟨2, ![8192, 1024]⟩
abbrev S2048x1152 : Shape := ⟨2, ![2048, 1152]⟩
abbrev S1024x1152 : Shape := ⟨2, ![1024, 1152]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x10368, .bf16⟩
  | .hbm, ⟨1, _⟩ => ⟨S1024x10368, .bf16⟩
  | .hbm, ⟨2, _⟩ => ⟨S8192x10368, .bf16⟩
  | .hbm, ⟨3, _⟩ => ⟨S8192x1024, .f32⟩
  | .local _ .vmem, ⟨0, _⟩ => ⟨S2048x1152, .bf16⟩
  | .local _ .vmem, ⟨1, _⟩ => ⟨S2048x1152, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2x4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x10368 : Shape := ⟨3, ![2, 4096, 10368]⟩
abbrev S1024x10368 : Shape := ⟨2, ![1024, 10368]⟩
abbrev S2x4096x1024 : Shape := ⟨3, ![2, 4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x10368, .bf16⟩
  | .hbm, ⟨1, _⟩ => ⟨S1024x10368, .bf16⟩
  | .hbm, ⟨2, _⟩ => ⟨S1024x10368, .f32⟩
  | .hbm, ⟨3, _⟩ => ⟨S2x4096x10368, .f32⟩
  | .hbm, ⟨4, _⟩ => ⟨S2x4096x1024, .f32⟩
  | .hbm, ⟨5, _⟩ => ⟨S8192x1024, .f32⟩
  | _, _ => ⟨S2x4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x4096x10368 : Shape := ⟨3, ![2, 4096, 10368]⟩
abbrev S2x1024x10368 : Shape := ⟨3, ![2, 1024, 10368]⟩
abbrev S8192x1024 : Shape := ⟨2, ![8192, 1024]⟩
abbrev S8192x10368 : Shape := ⟨2, ![8192, 10368]⟩
abbrev S2048x1024 : Shape := ⟨2, ![2048, 1024]⟩
abbrev S2048x1152 : Shape := ⟨2, ![2048, 1152]⟩
abbrev S1x1024x1152 : Shape := ⟨3, ![1, 1024, 1152]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x10368, .bf16⟩
  | .hbm, ⟨2, _⟩ => ⟨S2x1024x10368, .bf16⟩
  | .hbm, ⟨3, _⟩ => ⟨S8192x1024, .bf16⟩
  | .hbm, ⟨4, _⟩ => ⟨S8192x10368, .bf16⟩
  | .hbm, ⟨5, _⟩ => ⟨S2x1024x10368, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x1024 : Shape := ⟨3, ![2, 4096, 1024]⟩
abbrev S2x4096x10368 : Shape := ⟨3, ![2, 4096, 10368]⟩
abbrev S2x1024x10368 : Shape := ⟨3, ![2, 1024, 10368]⟩
abbrev S10368x1024 : Shape := ⟨2, ![10368, 1024]⟩
abbrev S1024x10368 : Shape := ⟨2, ![1024, 10368]⟩
abbrev S1x1024x10368 : Shape := ⟨3, ![1, 1024, 10368]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x10368, .bf16⟩
  | .hbm, ⟨2, _⟩ => ⟨S2x1024x10368, .bf16⟩
  | .hbm, ⟨3, _⟩ => ⟨S2x4096x1024, .f32⟩
  | .hbm, ⟨4, _⟩ => ⟨S2x4096x10368, .f32⟩
  | .hbm, ⟨5, _⟩ => ⟨S10368x1024, .f32⟩
  | .hbm, ⟨6, _⟩ => ⟨S1024x10368, .f32⟩
  | .hbm, ⟨7, _⟩ => ⟨S1024x10368, .bf16⟩
  | .hbm, ⟨8, _⟩ => ⟨S1x1024x10368, .bf16⟩
  | .hbm, ⟨9, _⟩ => ⟨S1024x10368, .bf16⟩
  | .hbm, ⟨10, _⟩ => ⟨S1x1024x10368, .bf16⟩
  | .hbm, ⟨11, _⟩ => ⟨S1x1024x10368, .bf16⟩
  | .hbm, ⟨12, _⟩ => ⟨S2x1024x10368, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S2x4096x5632 : Shape := ⟨3, ![2, 4096, 5632]⟩
abbrev S1024x5632 : Shape := ⟨2, ![1024, 5632]⟩
abbrev S8192x5632 : Shape := ⟨2, ![8192, 5632]⟩
abbrev S8192x1024 : Shape := ⟨2, ![8192, 1024]⟩
abbrev S2048x1408 : Shape := ⟨2, ![2048, 1408]⟩
abbrev S1024x1408 : Shape := ⟨2, ![1024, 1408]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S1024x5632, .bf16⟩
  | .hbm, ⟨2, _⟩ => ⟨S8192x5632, .bf16⟩
  | .hbm, ⟨3, _⟩ => ⟨S8192x1024, .f32⟩
  | .local _ .vmem, ⟨0, _⟩ => ⟨S2048x1408, .bf16⟩
  | .local _ .vmem, ⟨1, _⟩ => ⟨S2048x1408, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x4096x5632 : Shape := ⟨3, ![2, 4096, 5632]⟩
abbrev S1024x5632 : Shape := ⟨2, ![1024, 5632]⟩
abbrev S2x4096x1024 : Shape := ⟨3, ![2, 4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S1024x5632, .bf16⟩
  | .hbm, ⟨2, _⟩ => ⟨S1024x5632, .f32⟩
  | .hbm, ⟨3, _⟩ => ⟨S2x4096x5632, .f32⟩
  | .hbm, ⟨4, _⟩ => ⟨S2x4096x1024, .f32⟩
  | .hbm, ⟨5, _⟩ => ⟨S8192x1024, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x4096x5632 : Shape := ⟨3, ![2, 4096, 5632]⟩
abbrev S2x1024x5632 : Shape := ⟨3, ![2, 1024, 5632]⟩
abbrev S8192x1024 : Shape := ⟨2, ![8192, 1024]⟩
abbrev S8192x5632 : Shape := ⟨2, ![8192, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x5632, .bf16⟩
  | .hbm, ⟨2, _⟩ => ⟨S2x1024x5632, .bf16⟩
  | .hbm, ⟨3, _⟩ => ⟨S8192x1024, .bf16⟩
  | .hbm, ⟨4, _⟩ => ⟨S8192x5632, .bf16⟩
  | .hbm, ⟨5, _⟩ => ⟨S2x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x1024 : Shape := ⟨3, ![2, 4096, 1024]⟩
abbrev S2x4096x5632 : Shape := ⟨3, ![2, 4096, 5632]⟩
abbrev S2x1024x5632 : Shape := ⟨3, ![2, 1024, 5632]⟩
abbrev S5632x1024 : Shape := ⟨2, ![5632, 1024]⟩
abbrev S1024x5632 : Shape := ⟨2, ![1024, 5632]⟩
abbrev S1x1024x5632 : Shape := ⟨3, ![1, 1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x5632, .bf16⟩
  | .hbm, ⟨2, _⟩ => ⟨S2x1024x5632, .bf16⟩
  | .hbm, ⟨3, _⟩ => ⟨S2x4096x1024, .f32⟩
  | .hbm, ⟨4, _⟩ => ⟨S2x4096x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1x1024x5632, .bf16⟩
  | .hbm, ⟨9, _⟩ => ⟨S1024x5632, .bf16⟩
  | .hbm, ⟨10, _⟩ => ⟨S1x1024x5632, .bf16⟩
  | .hbm, ⟨11, _⟩ => ⟨S1x1024x5632, .bf16⟩
  | .hbm, ⟨12, _⟩ => ⟨S2x1024x5632, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S2x4096x1024 : Shape := ⟨3, ![2, 4096, 1024]⟩
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2816x1024, .bf16⟩
  | .hbm, ⟨2, _⟩ => ⟨S8192x1024, .bf16⟩
  | .hbm, ⟨3, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x4096x1024 : Shape := ⟨3, ![2, 4096, 1024]⟩
abbrev S2816x1024 : Shape := ⟨2, ![2816, 1024]⟩
abbrev S2x4096x2816 : Shape := ⟨3, ![2, 4096, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2816x1024, .bf16⟩
  | .hbm, ⟨2, _⟩ => ⟨S2816x1024, .f32⟩
  | .hbm, ⟨3, _⟩ => ⟨S2x4096x1024, .f32⟩
  | .hbm, ⟨4, _⟩ => ⟨S2x4096x2816, .f32⟩
  | .hbm, ⟨5, _⟩ => ⟨S8192x2816, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2x4096x2816 : Shape := ⟨3, ![2, 4096, 2816]⟩
abbrev S2x4096x1024 : Shape := ⟨3, ![2, 4096, 1024]⟩
abbrev S2x2816x1024 : Shape := ⟨3, ![2, 2816, 1024]⟩
abbrev S8192x2816 : Shape := ⟨2, ![8192, 2816]⟩
abbrev S8192x1024 : Shape := ⟨2, ![8192, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S2x4096x1024, .bf16⟩
  | .hbm, ⟨2, _⟩ => ⟨S2x2816x1024, .bf16⟩
  | .hbm, ⟨3, _⟩ => ⟨S8192x2816, .bf16⟩
  | .hbm, ⟨4, _⟩ => ⟨S8192x1024, .bf16⟩
  | .hbm, ⟨5, _⟩ => ⟨S2x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2x4096x2816 : Shape := ⟨3, ![2, 4096, 2816]⟩
abbrev S2x4096x1024 : Shape := ⟨3, ![2, 4096, 1024]⟩
abbrev S2x2816x1024 : Shape := ⟨3, ![2, 2816, 1024]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x4096x1024, .bf16⟩
  | .hbm, ⟨2, _⟩ => ⟨S2x2816x1024, .bf16⟩
  | .hbm, ⟨3, _⟩ => ⟨S2x4096x2816, .f32⟩
  | .hbm, ⟨4, _⟩ => ⟨S2x4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1x2816x1024, .bf16⟩
  | .hbm, ⟨9, _⟩ => ⟨S2816x1024, .bf16⟩
  | .hbm, ⟨10, _⟩ => ⟨S1x2816x1024, .bf16⟩
  | .hbm, ⟨11, _⟩ => ⟨S1x2816x1024, .bf16⟩
  | .hbm, ⟨12, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S2x4096x1024 : Shape := ⟨3, ![2, 4096, 1024]⟩
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2048x1024, .bf16⟩
  | .hbm, ⟨2, _⟩ => ⟨S8192x1024, .bf16⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x4096x1024 : Shape := ⟨3, ![2, 4096, 1024]⟩
abbrev S2048x1024 : Shape := ⟨2, ![2048, 1024]⟩
abbrev S2x4096x2048 : Shape := ⟨3, ![2, 4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2048x1024, .bf16⟩
  | .hbm, ⟨2, _⟩ => ⟨S2048x1024, .f32⟩
  | .hbm, ⟨3, _⟩ => ⟨S2x4096x1024, .f32⟩
  | .hbm, ⟨4, _⟩ => ⟨S2x4096x2048, .f32⟩
  | .hbm, ⟨5, _⟩ => ⟨S8192x2048, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S2x4096x2048 : Shape := ⟨3, ![2, 4096, 2048]⟩
abbrev S2x4096x1024 : Shape := ⟨3, ![2, 4096, 1024]⟩
abbrev S2x2048x1024 : Shape := ⟨3, ![2, 2048, 1024]⟩
abbrev S8192x2048 : Shape := ⟨2, ![8192, 2048]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x1024, .bf16⟩
  | .hbm, ⟨2, _⟩ => ⟨S2x2048x1024, .bf16⟩
  | .hbm, ⟨3, _⟩ => ⟨S8192x2048, .bf16⟩
  | .hbm, ⟨4, _⟩ => ⟨S8192x1024, .bf16⟩
  | .hbm, ⟨5, _⟩ => ⟨S2x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2x4096x2048 : Shape := ⟨3, ![2, 4096, 2048]⟩
abbrev S2x4096x1024 : Shape := ⟨3, ![2, 4096, 1024]⟩
abbrev S2x2048x1024 : Shape := ⟨3, ![2, 2048, 1024]⟩
abbrev S1024x2048 : Shape := ⟨2, ![1024, 2048]⟩
abbrev S2048x1024 : Shape := ⟨2, ![2048, 1024]⟩
abbrev S1x2048x1024 : Shape := ⟨3, ![1, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x1024, .bf16⟩
  | .hbm, ⟨2, _⟩ => ⟨S2x2048x1024, .bf16⟩
  | .hbm, ⟨3, _⟩ => ⟨S2x4096x2048, .f32⟩
  | .hbm, ⟨4, _⟩ => ⟨S2x4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | .hbm, ⟨8, _⟩ => ⟨S1x2048x1024, .bf16⟩
  | .hbm, ⟨9, _⟩ => ⟨S2048x1024, .bf16⟩
  | .hbm, ⟨10, _⟩ => ⟨S1x2048x1024, .bf16⟩
  | .hbm, ⟨11, _⟩ => ⟨S1x2048x1024, .bf16⟩
  | .hbm, ⟨12, _⟩ => ⟨S2x2048x1024, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel11.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .bf16⟩
  | .hbm, ⟨2, _⟩ => ⟨S1024x1024, .f32⟩
  | .hbm, ⟨3, _⟩ => ⟨S2x4096x1024, .f32⟩
  | .hbm, ⟨4, _⟩ => ⟨S2x4096x1024, .f32⟩
  | .hbm, ⟨5, _⟩ => ⟨S8192x1024, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2x4096x1024 : Shape := ⟨3, ![2, 4096, 1024]⟩
abbrev S2x1024x1024 : Shape := ⟨3, ![2, 1024, 1024]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x1024x1024, .bf16⟩
  | .hbm, ⟨3, _⟩ => ⟨S8192x1024, .bf16⟩
  | .hbm, ⟨4, _⟩ => ⟨S8192x1024, .bf16⟩
  | .hbm, ⟨5, _⟩ => ⟨S2x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2x4096x1024 : Shape := ⟨3, ![2, 4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x1024x1024, .bf16⟩
  | .hbm, ⟨3, _⟩ => ⟨S2x4096x1024, .f32⟩
  | .hbm, ⟨4, _⟩ => ⟨S2x4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .bf16⟩
  | .hbm, ⟨9, _⟩ => ⟨S1024x1024, .bf16⟩
  | .hbm, ⟨10, _⟩ => ⟨S1x1024x1024, .bf16⟩
  | .hbm, ⟨11, _⟩ => ⟨S1x1024x1024, .bf16⟩
  | .hbm, ⟨12, _⟩ => ⟨S2x1024x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S2x4096x1024 : Shape := ⟨3, ![2, 4096, 1024]⟩
abbrev S1024x10368 : Shape := ⟨2, ![1024, 10368]⟩
abbrev S8192x1024 : Shape := ⟨2, ![8192, 1024]⟩
abbrev S8192x10368 : Shape := ⟨2, ![8192, 10368]⟩
abbrev S2048x1024 : Shape := ⟨2, ![2048, 1024]⟩
abbrev S1024x1152 : Shape := ⟨2, ![1024, 1152]⟩
abbrev S2048x1152 : Shape := ⟨2, ![2048, 1152]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S1024x10368, .bf16⟩
  | .hbm, ⟨2, _⟩ => ⟨S8192x1024, .bf16⟩
  | .hbm, ⟨3, _⟩ => ⟨S8192x10368, .f32⟩
  | .local _ .vmem, ⟨0, _⟩ => ⟨S2048x1024, .bf16⟩
  | .local _ .vmem, ⟨1, _⟩ => ⟨S2048x1024, .bf16⟩
  | .local _ .vmem, ⟨2, _⟩ => ⟨S1024x1152, .bf16⟩
  | .local _ .vmem, ⟨3, _⟩ => ⟨S1024x1152, .bf16⟩
  | .local _ .vmem, ⟨4, _⟩ => ⟨S2048x1152, .f32⟩
  | .local _ .vmem, ⟨5, _⟩ => ⟨S2048x1152, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2x4096x1024 : Shape := ⟨3, ![2, 4096, 1024]⟩
abbrev S1024x10368 : Shape := ⟨2, ![1024, 10368]⟩
abbrev S2x4096x10368 : Shape := ⟨3, ![2, 4096, 10368]⟩
abbrev S8192x10368 : Shape := ⟨2, ![8192, 10368]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x10368, .bf16⟩
  | .hbm, ⟨2, _⟩ => ⟨S2x4096x1024, .f32⟩
  | .hbm, ⟨3, _⟩ => ⟨S1024x10368, .f32⟩
  | .hbm, ⟨4, _⟩ => ⟨S2x4096x10368, .f32⟩
  | .hbm, ⟨5, _⟩ => ⟨S8192x10368, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2x4096x1024 : Shape := ⟨3, ![2, 4096, 1024]⟩
abbrev S1024x5632 : Shape := ⟨2, ![1024, 5632]⟩
abbrev S8192x1024 : Shape := ⟨2, ![8192, 1024]⟩
abbrev S8192x5632 : Shape := ⟨2, ![8192, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S1024x5632, .bf16⟩
  | .hbm, ⟨2, _⟩ => ⟨S8192x1024, .bf16⟩
  | .hbm, ⟨3, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2x4096x1024 : Shape := ⟨3, ![2, 4096, 1024]⟩
abbrev S1024x5632 : Shape := ⟨2, ![1024, 5632]⟩
abbrev S2x4096x5632 : Shape := ⟨3, ![2, 4096, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x5632, .bf16⟩
  | .hbm, ⟨2, _⟩ => ⟨S2x4096x1024, .f32⟩
  | .hbm, ⟨3, _⟩ => ⟨S1024x5632, .f32⟩
  | .hbm, ⟨4, _⟩ => ⟨S2x4096x5632, .f32⟩
  | .hbm, ⟨5, _⟩ => ⟨S8192x5632, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S2x4096x2816 : Shape := ⟨3, ![2, 4096, 2816]⟩
abbrev S2816x1024 : Shape := ⟨2, ![2816, 1024]⟩
abbrev S8192x2816 : Shape := ⟨2, ![8192, 2816]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .bf16⟩
  | .hbm, ⟨2, _⟩ => ⟨S8192x2816, .bf16⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2816x1024, .bf16⟩
  | .hbm, ⟨2, _⟩ => ⟨S2x4096x2816, .f32⟩
  | .hbm, ⟨3, _⟩ => ⟨S2816x1024, .f32⟩
  | .hbm, ⟨4, _⟩ => ⟨S2x4096x1024, .f32⟩
  | .hbm, ⟨5, _⟩ => ⟨S8192x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S2x4096x2048 : Shape := ⟨3, ![2, 4096, 2048]⟩
abbrev S2048x1024 : Shape := ⟨2, ![2048, 1024]⟩
abbrev S8192x2048 : Shape := ⟨2, ![8192, 2048]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x2048, .bf16⟩
  | .hbm, ⟨1, _⟩ => ⟨S2048x1024, .bf16⟩
  | .hbm, ⟨2, _⟩ => ⟨S8192x2048, .bf16⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x4096x2048 : Shape := ⟨3, ![2, 4096, 2048]⟩
abbrev S2048x1024 : Shape := ⟨2, ![2048, 1024]⟩
abbrev S2x4096x1024 : Shape := ⟨3, ![2, 4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x1024, .bf16⟩
  | .hbm, ⟨2, _⟩ => ⟨S2x4096x2048, .f32⟩
  | .hbm, ⟨3, _⟩ => ⟨S2048x1024, .f32⟩
  | .hbm, ⟨4, _⟩ => ⟨S2x4096x1024, .f32⟩
  | .hbm, ⟨5, _⟩ => ⟨S8192x1024, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2x4096x1024 : Shape := ⟨3, ![2, 4096, 1024]⟩
abbrev S1024x1024 : Shape := ⟨2, ![1024, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x1024, .bf16⟩
  | .hbm, ⟨2, _⟩ => ⟨S2x4096x1024, .f32⟩
  | .hbm, ⟨3, _⟩ => ⟨S1024x1024, .f32⟩
  | .hbm, ⟨4, _⟩ => ⟨S2x4096x1024, .f32⟩
  | .hbm, ⟨5, _⟩ => ⟨S8192x1024, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2x4096x1024 : Shape := ⟨3, ![2, 4096, 1024]⟩
abbrev S2x4096x10368 : Shape := ⟨3, ![2, 4096, 10368]⟩
abbrev S8192x1024 : Shape := ⟨2, ![8192, 1024]⟩
abbrev S8192x10368 : Shape := ⟨2, ![8192, 10368]⟩
abbrev S2x1024x10368 : Shape := ⟨3, ![2, 1024, 10368]⟩
abbrev S2048x1024 : Shape := ⟨2, ![2048, 1024]⟩
abbrev S2048x1152 : Shape := ⟨2, ![2048, 1152]⟩
abbrev S1x1024x1152 : Shape := ⟨3, ![1, 1024, 1152]⟩
abbrev S1024x1152 : Shape := ⟨2, ![1024, 1152]⟩
abbrev S1x1024x10368 : Shape := ⟨3, ![1, 1024, 10368]⟩
abbrev S1024x10368 : Shape := ⟨2, ![1024, 10368]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x10368, .bf16⟩
  | .hbm, ⟨2, _⟩ => ⟨S8192x1024, .bf16⟩
  | .hbm, ⟨3, _⟩ => ⟨S8192x10368, .bf16⟩
  | .hbm, ⟨4, _⟩ => ⟨S2x1024x10368, .bf16⟩
  | .hbm, ⟨5, _⟩ => ⟨S1x1024x10368, .bf16⟩
  | .hbm, ⟨6, _⟩ => ⟨S1024x10368, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2x4096x1024 : Shape := ⟨3, ![2, 4096, 1024]⟩
abbrev S2x4096x10368 : Shape := ⟨3, ![2, 4096, 10368]⟩
abbrev S10368x1024 : Shape := ⟨2, ![10368, 1024]⟩
abbrev S1024x10368 : Shape := ⟨2, ![1024, 10368]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x10368, .bf16⟩
  | .hbm, ⟨2, _⟩ => ⟨S2x4096x1024, .f32⟩
  | .hbm, ⟨3, _⟩ => ⟨S2x4096x10368, .f32⟩
  | .hbm, ⟨4, _⟩ => ⟨S10368x1024, .f32⟩
  | .hbm, ⟨5, _⟩ => ⟨S1024x10368, .f32⟩
  | .hbm, ⟨6, _⟩ => ⟨S1024x10368, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S2x4096x1024 : Shape := ⟨3, ![2, 4096, 1024]⟩
abbrev S2x4096x5632 : Shape := ⟨3, ![2, 4096, 5632]⟩
abbrev S8192x1024 : Shape := ⟨2, ![8192, 1024]⟩
abbrev S8192x5632 : Shape := ⟨2, ![8192, 5632]⟩
abbrev S2x1024x5632 : Shape := ⟨3, ![2, 1024, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S1x1024x5632 : Shape := ⟨3, ![1, 1024, 5632]⟩
abbrev S1024x5632 : Shape := ⟨2, ![1024, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x5632, .bf16⟩
  | .hbm, ⟨2, _⟩ => ⟨S8192x1024, .bf16⟩
  | .hbm, ⟨3, _⟩ => ⟨S8192x5632, .bf16⟩
  | .hbm, ⟨4, _⟩ => ⟨S2x1024x5632, .bf16⟩
  | .hbm, ⟨5, _⟩ => ⟨S1x1024x5632, .bf16⟩
  | .hbm, ⟨6, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2x4096x1024 : Shape := ⟨3, ![2, 4096, 1024]⟩
abbrev S2x4096x5632 : Shape := ⟨3, ![2, 4096, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x5632, .bf16⟩
  | .hbm, ⟨2, _⟩ => ⟨S2x4096x1024, .f32⟩
  | .hbm, ⟨3, _⟩ => ⟨S2x4096x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S2x4096x2816 : Shape := ⟨3, ![2, 4096, 2816]⟩
abbrev S2x4096x1024 : Shape := ⟨3, ![2, 4096, 1024]⟩
abbrev S8192x2816 : Shape := ⟨2, ![8192, 2816]⟩
abbrev S8192x1024 : Shape := ⟨2, ![8192, 1024]⟩
abbrev S2x2816x1024 : Shape := ⟨3, ![2, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S1x2816x1024 : Shape := ⟨3, ![1, 2816, 1024]⟩
abbrev S2816x1024 : Shape := ⟨2, ![2816, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S2x4096x1024, .bf16⟩
  | .hbm, ⟨2, _⟩ => ⟨S8192x2816, .bf16⟩
  | .hbm, ⟨3, _⟩ => ⟨S8192x1024, .bf16⟩
  | .hbm, ⟨4, _⟩ => ⟨S2x2816x1024, .bf16⟩
  | .hbm, ⟨5, _⟩ => ⟨S1x2816x1024, .bf16⟩
  | .hbm, ⟨6, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2x4096x2816 : Shape := ⟨3, ![2, 4096, 2816]⟩
abbrev S2x4096x1024 : Shape := ⟨3, ![2, 4096, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x4096x1024, .bf16⟩
  | .hbm, ⟨2, _⟩ => ⟨S2x4096x2816, .f32⟩
  | .hbm, ⟨3, _⟩ => ⟨S2x4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S2x4096x2048 : Shape := ⟨3, ![2, 4096, 2048]⟩
abbrev S2x4096x1024 : Shape := ⟨3, ![2, 4096, 1024]⟩
abbrev S8192x2048 : Shape := ⟨2, ![8192, 2048]⟩
abbrev S8192x1024 : Shape := ⟨2, ![8192, 1024]⟩
abbrev S2x2048x1024 : Shape := ⟨3, ![2, 2048, 1024]⟩
abbrev S1024x1024 : Shape := ⟨2, ![1024, 1024]⟩
abbrev S1x1024x1024 : Shape := ⟨3, ![1, 1024, 1024]⟩
abbrev S1x2048x1024 : Shape := ⟨3, ![1, 2048, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x1024, .bf16⟩
  | .hbm, ⟨2, _⟩ => ⟨S8192x2048, .bf16⟩
  | .hbm, ⟨3, _⟩ => ⟨S8192x1024, .bf16⟩
  | .hbm, ⟨4, _⟩ => ⟨S2x2048x1024, .bf16⟩
  | .hbm, ⟨5, _⟩ => ⟨S1x2048x1024, .bf16⟩
  | .hbm, ⟨6, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2x4096x2048 : Shape := ⟨3, ![2, 4096, 2048]⟩
abbrev S2x4096x1024 : Shape := ⟨3, ![2, 4096, 1024]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x1024, .bf16⟩
  | .hbm, ⟨2, _⟩ => ⟨S2x4096x2048, .f32⟩
  | .hbm, ⟨3, _⟩ => ⟨S2x4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S2x4096x1024 : Shape := ⟨3, ![2, 4096, 1024]⟩
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S8192x1024, .bf16⟩
  | .hbm, ⟨3, _⟩ => ⟨S8192x1024, .bf16⟩
  | .hbm, ⟨4, _⟩ => ⟨S2x1024x1024, .bf16⟩
  | .hbm, ⟨5, _⟩ => ⟨S1x1024x1024, .bf16⟩
  | .hbm, ⟨6, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S2x4096x1024 : Shape := ⟨3, ![2, 4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x1024, .f32⟩
  | .hbm, ⟨3, _⟩ => ⟨S2x4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel23.lean ====
abbrev S2x4096x1024 : Shape := ⟨3, ![2, 4096, 1024]⟩
abbrev S2x4096x10368 : Shape := ⟨3, ![2, 4096, 10368]⟩
abbrev S1x512x1024 : Shape := ⟨3, ![1, 512, 1024]⟩
abbrev S1x512x2048 : Shape := ⟨3, ![1, 512, 2048]⟩
abbrev S512x1024 : Shape := ⟨2, ![512, 1024]⟩
abbrev S2x4096x2048 : Shape := ⟨3, ![2, 4096, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x4096x10368, .f32⟩
  | .hbm, ⟨2, _⟩ => ⟨S2x4096x1024, .f32⟩
  | .hbm, ⟨3, _⟩ => ⟨S2x4096x1024, .f32⟩
  | .hbm, ⟨4, _⟩ => ⟨S2x4096x1024, .bf16⟩
  | .hbm, ⟨5, _⟩ => ⟨S2x4096x1024, .bf16⟩
  | .hbm, ⟨6, _⟩ => ⟨S2x4096x10368, .bf16⟩
  | .hbm, ⟨7, _⟩ => ⟨S2x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x2048, .bf16⟩
  | .local _ .vmem, ⟨15, _⟩ => ⟨S1x512x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference23Ideal.lean ====
abbrev S2x4096x1024 : Shape := ⟨3, ![2, 4096, 1024]⟩
abbrev S2x4096x10368 : Shape := ⟨3, ![2, 4096, 10368]⟩
abbrev S2x4096x2048 : Shape := ⟨3, ![2, 4096, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x10368, .f32⟩
  | .hbm, ⟨2, _⟩ => ⟨S2x4096x1024, .f32⟩
  | .hbm, ⟨3, _⟩ => ⟨S2x4096x1024, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x2048, .f32⟩
  | .hbm, ⟨29, _⟩ => ⟨S2x4096x2048, .f32⟩
  | .hbm, ⟨30, _⟩ => ⟨S2x4096x1024, .bf16⟩
  | .hbm, ⟨31, _⟩ => ⟨S2x4096x1024, .bf16⟩
  | .hbm, ⟨32, _⟩ => ⟨S2x4096x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel24.lean ====
abbrev S2x4096x1024 : Shape := ⟨3, ![2, 4096, 1024]⟩
abbrev S1024 : Shape := ⟨1, ![1024]⟩
abbrev S2x6144 : Shape := ⟨2, ![2, 6144]⟩
abbrev S2x6x1024 : Shape := ⟨3, ![2, 6, 1024]⟩
abbrev S_ : Shape := ⟨0, ![]⟩
abbrev S2x8x1024 : Shape := ⟨3, ![2, 8, 1024]⟩
abbrev S1x1024 : Shape := ⟨2, ![1, 1024]⟩
abbrev S8x1024 : Shape := ⟨2, ![8, 1024]⟩
abbrev S1x512x1024 : Shape := ⟨3, ![1, 512, 1024]⟩
abbrev S1x8x1024 : Shape := ⟨3, ![1, 8, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S2x1x1024 : Shape := ⟨3, ![2, 1, 1024]⟩

abbrev nBuf : Space → Nat
  | .hbm => 16
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S1024, .f32⟩
  | .hbm, ⟨4, _⟩ => ⟨S2x6144, .f32⟩
  | .hbm, ⟨5, _⟩ => ⟨S2x6x1024, .f32⟩
  | .hbm, ⟨6, _⟩ => ⟨S_, .i32⟩
  | .hbm, ⟨7, _⟩ => ⟨S_, .f32⟩
  | .hbm, ⟨8, _⟩ => ⟨S2x8x1024, .f32⟩
  | .hbm, ⟨9, _⟩ => ⟨S1x1024, .f32⟩
  | .hbm, ⟨10, _⟩ => ⟨S2x4096x1024, .f32⟩
  | .hbm, ⟨11, _⟩ => ⟨S2x8x1024, .f32⟩
  | .hbm, ⟨12, _⟩ => ⟨S8x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x8x1024, .f32⟩
  | .local _ .vmem, ⟨12, _⟩ => ⟨S1x8x1024, .f32⟩
  | .local _ .vmem, ⟨13, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference24Ideal.lean ====
abbrev S2x4096x1024 : Shape := ⟨3, ![2, 4096, 1024]⟩
abbrev S1024 : Shape := ⟨1, ![1024]⟩
abbrev S2x6144 : Shape := ⟨2, ![2, 6144]⟩
abbrev S2x1024 : Shape := ⟨2, ![2, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S1024, .f32⟩
  | .hbm, ⟨4, _⟩ => ⟨S2x6144, .f32⟩
  | .hbm, ⟨5, _⟩ => ⟨S2x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1024, .f32⟩
  | .hbm, ⟨25, _⟩ => ⟨S2x4096x1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x1024, .f32⟩
  | .hbm, ⟨39, _⟩ => ⟨S2x1x1024, .f32⟩
  | .hbm, ⟨40, _⟩ => ⟨S2x4096x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S_, .f32⟩
  | .hbm, ⟨53, _⟩ => ⟨S1024, .f32⟩
  | .hbm, ⟨54, _⟩ => ⟨S2x4096x1024, .f32⟩
  | .hbm, ⟨55, _⟩ => ⟨S_, .f32⟩
  | .hbm, ⟨56, _⟩ => ⟨S2x4096, .f32⟩
  | .hbm, ⟨57, _⟩ => ⟨S2x4096x1, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S_, .f32⟩
  | .hbm, ⟨66, _⟩ => ⟨S2x4096, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S2x4096x1024, .f32⟩
  | .hbm, ⟨72, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel25.lean ====
abbrev S2x4096x1024 : Shape := ⟨3, ![2, 4096, 1024]⟩
abbrev S8x128 : Shape := ⟨2, ![8, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S8x128, .f32⟩
  | .hbm, ⟨4, _⟩ => ⟨S1x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference25Ideal.lean ====
abbrev S2x4096x1024 : Shape := ⟨3, ![2, 4096, 1024]⟩
abbrev S_ : Shape := ⟨0, ![]⟩
abbrev S2x4096 : Shape := ⟨2, ![2, 4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096, .f32⟩
  | .hbm, ⟨20, _⟩ => ⟨S_, .f32⟩
  | .hbm, ⟨21, _⟩ => ⟨S2x4096, .f32⟩
  | .hbm, ⟨22, _⟩ => ⟨S2x4096, .f32⟩
  | .hbm, ⟨23, _⟩ => ⟨S2x4096x1024, .f32⟩
  | .hbm, ⟨24, _⟩ => ⟨S2x4096x1024, .f32⟩
  | .hbm, ⟨25, _⟩ => ⟨S1x1, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel26.lean ====
abbrev S456x128 : Shape := ⟨2, ![456, 128]⟩
abbrev S24x128 : Shape := ⟨2, ![24, 128]⟩

abbrev nBuf : Space → Nat
  | .hbm => 8
  | .vmem => 16
  | .smem => 0
  | _ => 0

abbrev bufTy : (tb : Table) → Fin (tcTables nBuf tb) → BufTy
  | .hbm, ⟨0, _⟩ => ⟨S456x128, .f32⟩
  | .hbm, ⟨1, _⟩ => ⟨S456x128, .f32⟩
  | .hbm, ⟨2, _⟩ => ⟨S456x128, .f32⟩
  | .hbm, ⟨3, _⟩ => ⟨S456x128, .f32⟩
  | .hbm, ⟨4, _⟩ => ⟨S456x128, .f32⟩
  | .hbm, ⟨5, _⟩ => ⟨S456x128, .f32⟩
  | .hbm, ⟨6, _⟩ => ⟨S456x128, .f32⟩
  | .hbm, ⟨7, _⟩ => ⟨S456x128, .f32⟩
  | .local _ .vmem, ⟨0, _⟩ => ⟨S24x128, .f32⟩
  | .local _ .vmem, ⟨1, _⟩ => ⟨S24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | .local _ .vmem, ⟨7, _⟩ => ⟨S24x128, .f32⟩
  | .local _ .vmem, ⟨8, _⟩ => ⟨S24x128, .f32⟩
  | .local _ .vmem, ⟨9, _⟩ => ⟨S24x128, .f32⟩
  | .local _ .vmem, ⟨10, _⟩ => ⟨S24x128, .f32⟩
  | .local _ .vmem, ⟨11, _⟩ => ⟨S24x128, .f32⟩
  | .local _ .vmem, ⟨12, _⟩ => ⟨S24x128, .f32⟩
  | .local _ .vmem, ⟨13, _⟩ => ⟨S24x128, .f32⟩
  | .local _ .vmem, ⟨14, _⟩ => ⟨S24x128, .f32⟩
  | .local _ .vmem, ⟨15, _⟩ => ⟨S24x128, .f32⟩
  | _, _ => ⟨S456x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S456x128 : Shape := ⟨2, ![456, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S456x128, .f32⟩
  | .hbm, ⟨1, _⟩ => ⟨S456x128, .f32⟩
  | .hbm, ⟨2, _⟩ => ⟨S456x128, .f32⟩
  | .hbm, ⟨3, _⟩ => ⟨S456x128, .f32⟩
  | .hbm, ⟨4, _⟩ => ⟨S_, .f32⟩
  | .hbm, ⟨5, _⟩ => ⟨S456x128, .f32⟩
  | .hbm, ⟨6, _⟩ => ⟨S456x128, .f32⟩
  | .hbm, ⟨7, _⟩ => ⟨S_, .f32⟩
  | .hbm, ⟨8, _⟩ => ⟨S456x128, .f32⟩
  | .hbm, ⟨9, _⟩ => ⟨S456x128, .f32⟩
  | .hbm, ⟨10, _⟩ => ⟨S456x128, .f32⟩
  | .hbm, ⟨11, _⟩ => ⟨S_, .f32⟩
  | .hbm, ⟨12, _⟩ => ⟨S456x128, .f32⟩
  | .hbm, ⟨13, _⟩ => ⟨S456x128, .f32⟩
  | .hbm, ⟨14, _⟩ => ⟨S456x128, .f32⟩
  | .hbm, ⟨15, _⟩ => ⟨S_, .f32⟩
  | .hbm, ⟨16, _⟩ => ⟨S456x128, .f32⟩
  | .hbm, ⟨17, _⟩ => ⟨S456x128, .f32⟩
  | .hbm, ⟨18, _⟩ => ⟨S456x128, .f32⟩
  | .hbm, ⟨19, _⟩ => ⟨S_, .f32⟩
  | .hbm, ⟨20, _⟩ => ⟨S456x128, .f32⟩
  | .hbm, ⟨21, _⟩ => ⟨S456x128, .f32⟩
  | .hbm, ⟨22, _⟩ => ⟨S_, .f32⟩
  | .hbm, ⟨23, _⟩ => ⟨S456x128, .f32⟩
  | .hbm, ⟨24, _⟩ => ⟨S456x128, .f32⟩
  | .hbm, ⟨25, _⟩ => ⟨S456x128, .f32⟩
  | .hbm, ⟨26, _⟩ => ⟨S_, .f32⟩
  | .hbm, ⟨27, _⟩ => ⟨S456x128, .f32⟩
  | .hbm, ⟨28, _⟩ => ⟨S456x128, .f32⟩
  | .hbm, ⟨29, _⟩ => ⟨S456x128, .f32⟩
  | .hbm, ⟨30, _⟩ => ⟨S_, .f32⟩
  | .hbm, ⟨31, _⟩ => ⟨S456x128, .f32⟩
  | .hbm, ⟨32, _⟩ => ⟨S456x128, .f32⟩
  | .hbm, ⟨33, _⟩ => ⟨S456x128, .f32⟩
  | .hbm, ⟨34, _⟩ => ⟨S_, .f32⟩
  | .hbm, ⟨35, _⟩ => ⟨S456x128, .f32⟩
  | .hbm, ⟨36, _⟩ => ⟨S456x128, .f32⟩
  | _, _ => ⟨S456x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x256x1024 : Shape := ⟨3, ![2, 256, 1024]⟩
abbrev S256x1024 : Shape := ⟨2, ![256, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S2x256x1024 : Shape := ⟨3, ![2, 256, 1024]⟩
abbrev S256x1024 : Shape := ⟨2, ![256, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x256x1024, .i1⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S_, .f32⟩
  | .hbm, ⟨42, _⟩ => ⟨S2x256x1024, .f32⟩
  | .hbm, ⟨43, _⟩ => ⟨S2x256x1024, .f32⟩
  | .hbm, ⟨44, _⟩ => ⟨S2x256x1024, .f32⟩
  | .hbm, ⟨45, _⟩ => ⟨S_, .f32⟩
  | .hbm, ⟨46, _⟩ => ⟨S2x256x1024, .f32⟩
  | .hbm, ⟨47, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Proof.Entries.lean ====
/- Array entries by natural-number coordinates, zero outside the array, and the sum of a rank-3 array over its first two
   axes. Every block and every shifted row of the proofs is read through these. -/
module

public import Idealize.ShloMosaic.Lib.Pipeline.ValueKit
public import Idealize.ShloMosaic.Lib.Pointwise
public import Idealize.ShloMosaic.PureOps.Ideal

@[expose] public section

set_option maxRecDepth 16384

noncomputable section

namespace Cert.Proof

open Idealize.ShloMosaic

variable {n0 n1 n2 : ℕ}

/-- Entry `(a, b, c)` of a rank-3 array, zero outside it. -/
def at3 (A : (⟨3, ![n0, n1, n2]⟩ : Shape).Idx → EReal) (a b c : ℕ) : EReal :=
  if h : a < n0 ∧ b < n1 ∧ c < n2 then A (ix3 ⟨a, h.1⟩ ⟨b, h.2.1⟩ ⟨c, h.2.2⟩) else 0

theorem at3_of (A : (⟨3, ![n0, n1, n2]⟩ : Shape).Idx → EReal) {a b c : ℕ} (z : (⟨3, ![n0, n1, n2]⟩ : Shape).Idx)
    (h0 : (z 0).val = a) (h1 : (z 1).val = b) (h2 : (z 2).val = c) : A z = at3 A a b c := by
  subst h0 h1 h2
  unfold at3
  rw [dif_pos ⟨(z 0).isLt, (z 1).isLt, (z 2).isLt⟩]
  refine congrArg A (funext fun a => ?_)
  match a with
  | ⟨0, _⟩ => rfl
  | ⟨1, _⟩ => rfl
  | ⟨2, _⟩ => rfl

theorem at3_ix (A : (⟨3, ![n0, n1, n2]⟩ : Shape).Idx → EReal) (a : Fin n0) (b : Fin n1) (c : Fin n2) :
    A (ix3 a b c) = at3 A a b c := at3_of A _ rfl rfl rfl

theorem at3_zero (A : (⟨3, ![n0, n1, n2]⟩ : Shape).Idx → EReal) {a b c : ℕ} (h : n1 ≤ b) : at3 A a b c = 0 := by
  unfold at3; rw [dif_neg (fun h' => by omega)]

/-- Entry `(a, b)` of a rank-2 array, zero outside it. -/
def at2 (A : (⟨2, ![n0, n1]⟩ : Shape).Idx → EReal) (a b : ℕ) : EReal :=
  if h : a < n0 ∧ b < n1 then A (ix2 ⟨a, h.1⟩ ⟨b, h.2⟩) else 0

theorem at2_of (A : (⟨2, ![n0, n1]⟩ : Shape).Idx → EReal) {a b : ℕ} (z : (⟨2, ![n0, n1]⟩ : Shape).Idx)
    (h0 : (z 0).val = a) (h1 : (z 1).val = b) : A z = at2 A a b := by
  subst h0 h1
  unfold at2
  rw [dif_pos ⟨(z 0).isLt, (z 1).isLt⟩]
  refine congrArg A (funext fun a => ?_)
  match a with
  | ⟨0, _⟩ => rfl
  | ⟨1, _⟩ => rfl

theorem at2_ix (A : (⟨2, ![n0, n1]⟩ : Shape).Idx → EReal) (a : Fin n0) (b : Fin n1) :
    A (ix2 a b) = at2 A a b := at2_of A _ rfl rfl

/-- `f` moved up by `k` places: zero below `k`. -/
def shift (f : ℕ → EReal) (k n : ℕ) : EReal := if k ≤ n then f (n - k) else 0

theorem shift_zero (f : ℕ → EReal) (n : ℕ) : shift f 0 n = f n := by simp [shift]

theorem shift_add (f : ℕ → EReal) (k l n : ℕ) : shift f (k + l) (n + l) = shift f k n := by
  unfold shift
  by_cases h : k ≤ n
  · rw [if_pos h, if_pos (by omega)]; congr 1; omega
  · rw [if_neg h, if_neg (by omega)]

/-- The sum of a rank-3 array over its first two axes, read at the last coordinate. -/
theorem hostSum01 (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  unfold Ideal.hostReduceAdd
  refine congrArg (init + ·) ?_
  refine (Finset.sum_filter_eq_sum_of_fiber _ (fun k : Fin n0 × Fin n1 => ix3 k.1 k.2 j)
    (fun _ _ e => Prod.ext (congrFun e 0) (congrFun e 1)) (fun i => ⟨fun e => ?_, ?_⟩) v).trans ?_
  · refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext a
    match a with
    | ⟨0, _⟩ => rfl
  · simp only [Fintype.sum_prod_type]

end Cert.Proof

end
-- ==== Proof.ScConvTile.lean ====
/- The gradient of the short-convolution branch, one tile of 128 rows: what the body's values are at an index, in terms of
   the argument arrays. `u` is the convolution's input, the product of the two projected columns `c` and `h`; `e` is the
   gradient at the convolution's output. -/
module

public import proofs.«01_k».proof.Proof.Gen.Kernel2Ideal.Value
public import proofs.«01_k».proof.Proof.Entries

@[expose] public section

set_option maxRecDepth 16384

noncomputable section

namespace Cert.Proof.ScConv

open Cert.Kernel2Ideal Cert.Kernel2Ideal.Gen Idealize.ShloMosaic Idealize.ShloMosaic.TcCoe Idealize.SL.Sem
open Idealize.ShloMosaic.Pipeline

variable (m : (ℓ : Loc nD τ sig) → Buf (Elt Ideal) ℓ) (c : Dev nD)

/-- The four arguments of the call. -/
abbrev D : S2x4096x1024.Idx → EReal := m ((c : Thread nD τ).loc main_arg0)
abbrev P : S2x4096x10368.Idx → EReal := m ((c : Thread nD τ).loc main_arg1)
abbrev W : S3x1024.Idx → EReal := m ((c : Thread nD τ).loc main_arg2)
abbrev O : S2x4096x10368.Idx → EReal := m ((c : Thread nD τ).loc main_arg3)

/-- The convolution's input at batch row `b`, position `s`, channel `j`. -/
def u (P : S2x4096x10368.Idx → EReal) (b j s : ℕ) : EReal := at3 P b s (1024 + j) * at3 P b s (2048 + j)
/-- The gradient at the convolution's output. -/
def e (D : S2x4096x1024.Idx → EReal) (P : S2x4096x10368.Idx → EReal) (b j s : ℕ) : EReal := at3 D b s j * at3 P b s j
/-- The convolution's output. -/
def conv (P : S2x4096x10368.Idx → EReal) (W : S3x1024.Idx → EReal) (b j s : ℕ) : EReal :=
  at2 W 2 j * u P b j s + at2 W 0 j * shift (u P b j) 2 s + at2 W 1 j * shift (u P b j) 1 s
/-- The gradient at the convolution's input. -/
def grad (D : S2x4096x1024.Idx → EReal) (P : S2x4096x10368.Idx → EReal) (W : S3x1024.Idx → EReal) (b j s : ℕ) : EReal :=
  at2 W 2 j * e D P b j s + at2 W 0 j * e D P b j (s + 2) + at2 W 1 j * e D P b j (s + 1)

theorem u_zero (P : S2x4096x10368.Idx → EReal) {b j s : ℕ} (h : 4096 ≤ s) : u P b j s = 0 := by
  unfold u; rw [at3_zero P h, zero_mul]
theorem e_zero (D : S2x4096x1024.Idx → EReal) (P : S2x4096x10368.Idx → EReal) {b j s : ℕ} (h : 4096 ≤ s) :
    e D P b j s = 0 := by
  unfold e; rw [at3_zero D h, zero_mul]

/-! ## The windows' blocks -/

theorem coord2 : ∀ t : Fin cfg0.N, (grid0.coords t 2).val = t.val % 32 := (by decide +kernel : ∀ t : Fin grid0.N, _)

theorem index0 : ∀ t : Fin cfg0.N, win0_0.index t = ![t.val / 32, t.val % 32, 0] := (by decide +kernel : ∀ t : Fin grid0.N, _)
theorem index1 : ∀ t : Fin cfg0.N, win0_1.index t = ![t.val / 32, min ((t.val % 32 + 1) * 16) 511, 0] :=
  (by decide +kernel : ∀ t : Fin grid0.N, _)
theorem index2 : ∀ t : Fin cfg0.N, win0_2.index t = ![t.val / 32, t.val % 32, 0] := (by decide +kernel : ∀ t : Fin grid0.N, _)
theorem index3 : ∀ t : Fin cfg0.N, win0_3.index t = ![t.val / 32, min ((t.val % 32 + 1) * 16) 511, 0] :=
  (by decide +kernel : ∀ t : Fin grid0.N, _)
theorem index4 : ∀ t : Fin cfg0.N, win0_4.index t = ![t.val / 32, t.val % 32, 1] := (by decide +kernel : ∀ t : Fin grid0.N, _)
theorem index5 : ∀ t : Fin cfg0.N, win0_5.index t = ![t.val / 32, t.val % 32 * 16 - 1, 1] :=
  (by decide +kernel : ∀ t : Fin grid0.N, _)
theorem index6 : ∀ t : Fin cfg0.N, win0_6.index t = ![t.val / 32, min ((t.val % 32 + 1) * 16) 511, 1] :=
  (by decide +kernel : ∀ t : Fin grid0.N, _)
theorem index7 : ∀ t : Fin cfg0.N, win0_7.index t = ![t.val / 32, t.val % 32, 2] := (by decide +kernel : ∀ t : Fin grid0.N, _)
theorem index8 : ∀ t : Fin cfg0.N, win0_8.index t = ![t.val / 32, t.val % 32 * 16 - 1, 2] :=
  (by decide +kernel : ∀ t : Fin grid0.N, _)
theorem index9 : ∀ t : Fin cfg0.N, win0_9.index t = ![t.val / 32, min ((t.val % 32 + 1) * 16) 511, 2] :=
  (by decide +kernel : ∀ t : Fin grid0.N, _)
theorem index10 : ∀ t : Fin cfg0.N, win0_10.index t = ![0, 0] := (by decide +kernel : ∀ t : Fin grid0.N, _)

variable (t : Fin cfg0.N)

theorem d_tile (r : Fin 128) (j : Fin 1024) :
    (iblk m c 0 t : Vec Ideal S1x128x1024 .f32) (ix3 0 r j) = at3 (D m c) (t.val / 32) (t.val % 32 * 128 + r) j := by
  unfold D; rw [← V_main_arg0 m c]
  refine at3_of (V m c main_arg0) _ ?_ ?_ ?_ <;> blk_simp [index0] <;> simp [win0_0]

theorem d_next (r : Fin 8) (j : Fin 1024) : (iblk m c 1 t : Vec Ideal S1x8x1024 .f32) (ix3 0 r j)
    = at3 (D m c) (t.val / 32) (min ((t.val % 32 + 1) * 16) 511 * 8 + r) j := by
  unfold D; rw [← V_main_arg0 m c]
  refine at3_of (V m c main_arg0) _ ?_ ?_ ?_ <;> blk_simp [index1] <;> simp [win0_1]

/-- A block of a window of the projected columns whose fetches are never cut, read off the projection. -/
theorem b_tile (r : Fin 128) (j : Fin 1024) :
    (X0_2 m c t : Vec Ideal S1x128x1024 .f32) (ix3 0 r j) = at3 (P m c) (t.val / 32) (t.val % 32 * 128 + r) j := by
  unfold P; rw [← V_main_arg1 m c]
  unfold X0_2 Window.fill; rw [dif_pos (moved0_2 t _)]; unfold iblk
  refine at3_of (V m c main_arg1) _ ?_ ?_ ?_ <;> blk_simp [index2] <;> simp [win0_2]

theorem b_next (r : Fin 8) (j : Fin 1024) : (X0_3 m c t : Vec Ideal S1x8x1024 .f32) (ix3 0 r j)
    = at3 (P m c) (t.val / 32) (min ((t.val % 32 + 1) * 16) 511 * 8 + r) j := by
  unfold P; rw [← V_main_arg1 m c]
  unfold X0_3 Window.fill; rw [dif_pos (moved0_3 t _)]; unfold iblk
  refine at3_of (V m c main_arg1) _ ?_ ?_ ?_ <;> blk_simp [index3] <;> simp [win0_3]

theorem c_tile (r : Fin 128) (j : Fin 1024) : (X0_4 m c t : Vec Ideal S1x128x1024 .f32) (ix3 0 r j)
    = at3 (P m c) (t.val / 32) (t.val % 32 * 128 + r) (1024 + j) := by
  unfold P; rw [← V_main_arg1 m c]
  unfold X0_4 Window.fill; rw [dif_pos (moved0_4 t _)]; unfold iblk
  refine at3_of (V m c main_arg1) _ ?_ ?_ ?_ <;> blk_simp [index4] <;> simp [win0_4]

theorem c_prev (r : Fin 8) (j : Fin 1024) : (X0_5 m c t : Vec Ideal S1x8x1024 .f32) (ix3 0 r j)
    = at3 (P m c) (t.val / 32) ((t.val % 32 * 16 - 1) * 8 + r) (1024 + j) := by
  unfold P; rw [← V_main_arg1 m c]
  unfold X0_5 Window.fill; rw [dif_pos (moved0_5 t _)]; unfold iblk
  refine at3_of (V m c main_arg1) _ ?_ ?_ ?_ <;> blk_simp [index5] <;> simp [win0_5]

theorem c_next (r : Fin 8) (j : Fin 1024) : (X0_6 m c t : Vec Ideal S1x8x1024 .f32) (ix3 0 r j)
    = at3 (P m c) (t.val / 32) (min ((t.val % 32 + 1) * 16) 511 * 8 + r) (1024 + j) := by
  unfold P; rw [← V_main_arg1 m c]
  unfold X0_6 Window.fill; rw [dif_pos (moved0_6 t _)]; unfold iblk
  refine at3_of (V m c main_arg1) _ ?_ ?_ ?_ <;> blk_simp [index6] <;> simp [win0_6]

theorem h_tile (r : Fin 128) (j : Fin 1024) : (X0_7 m c t : Vec Ideal S1x128x1024 .f32) (ix3 0 r j)
    = at3 (P m c) (t.val / 32) (t.val % 32 * 128 + r) (2048 + j) := by
  unfold P; rw [← V_main_arg1 m c]
  unfold X0_7 Window.fill; rw [dif_pos (moved0_7 t _)]; unfold iblk
  refine at3_of (V m c main_arg1) _ ?_ ?_ ?_ <;> blk_simp [index7] <;> simp [win0_7]

theorem h_prev (r : Fin 8) (j : Fin 1024) : (X0_8 m c t : Vec Ideal S1x8x1024 .f32) (ix3 0 r j)
    = at3 (P m c) (t.val / 32) ((t.val % 32 * 16 - 1) * 8 + r) (2048 + j) := by
  unfold P; rw [← V_main_arg1 m c]
  unfold X0_8 Window.fill; rw [dif_pos (moved0_8 t _)]; unfold iblk
  refine at3_of (V m c main_arg1) _ ?_ ?_ ?_ <;> blk_simp [index8] <;> simp [win0_8]

theorem h_next (r : Fin 8) (j : Fin 1024) : (X0_9 m c t : Vec Ideal S1x8x1024 .f32) (ix3 0 r j)
    = at3 (P m c) (t.val / 32) (min ((t.val % 32 + 1) * 16) 511 * 8 + r) (2048 + j) := by
  unfold P; rw [← V_main_arg1 m c]
  unfold X0_9 Window.fill; rw [dif_pos (moved0_9 t _)]; unfold iblk
  refine at3_of (V m c main_arg1) _ ?_ ?_ ?_ <;> blk_simp [index9] <;> simp [win0_9]

/-- The filter rows, in the first three of the eight rows of their padded block. -/
theorem w_block (k : Fin 8) (j : Fin 1024) (hk : k.val < 3) :
    (iblk m c 10 t : Vec Ideal S8x1024 .f32) (ix2 k j) = at2 (W m c) k j := by
  have hV : (V m c main_v0 : S8x1024.Idx → EReal) (ix2 k j) = at2 (W m c) k j := by
    rw [show (V m c main_v0 : S8x1024.Idx → EReal) = _ from by
      simp only [V, hostOps0, hostOps0_1, hostOps0_2, List.flatten_cons, List.flatten_nil, List.append_nil, List.cons_append, List.nil_append]
      after_results]
    change pad S8x1024 ![0, 0] ![5, 0] ![0, 0] (W m c) _ pads_S3x1024_S8x1024_050_000 h_S_ (ix2 k j) = _
    pointwise
    rw [dif_pos hk]
    exact at2_ix (W m c) ⟨k, hk⟩ j
  rw [← hV]
  refine congrArg (V m c main_v0) (funext fun a => Fin.ext ?_)
  blk_simp [index10]
  match a with
  | ⟨0, _⟩ => simp
  | ⟨1, _⟩ => simp

/-! ## The body's values at an index -/

theorem not_first : ∀ T : Fin 32, Scalar.cmpi CmpIPredicate.sgt (BitVec.ofNat 32 T.val) 0#32 = if 0 < T.val then 1#1 else 0#1 := by
  decide
theorem not_last : ∀ T : Fin 32, Scalar.cmpi CmpIPredicate.slt (BitVec.ofNat 32 T.val) 31#32 = if T.val < 31 then 1#1 else 0#1 := by
  decide
theorem select_ite {α : Type} (p : Prop) [Decidable p] (a b : α) : Scalar.select (if p then 1#1 else 0#1) a b = if p then a else b := by
  by_cases h : p <;> simp [h, Scalar.select]

/-- Row `r` of the convolution's input with its two halos is row `128 T + r - 8` of the sequence. -/
theorem input_rows (r : Fin 144) (j : Fin 1024) :
    k0_pay14 (Scalar.cmpi CmpIPredicate.slt (BitVec.ofNat 32 (grid0.coords t 2).val) 31#32)
      (k0_pay10 (grid0.coords t) (X0_5 m c t) (X0_8 m c t)) (k0_pay11 (X0_4 m c t) (X0_7 m c t))
      (k0_pay12 (grid0.coords t) (X0_6 m c t)) (k0_pay13 (X0_9 m c t)) (FloatOps.ofBits FTy.f32 0#32) (ix2 r j)
      = shift (u (P m c) (t.val / 32) j) 8 (t.val % 32 * 128 + r) := by
  have hT : t.val % 32 < 32 := Nat.mod_lt _ (by decide)
  have hp : ∀ (r : Fin 8) (j : Fin 1024), k0_pay10 (grid0.coords t) (X0_5 m c t) (X0_8 m c t) (ix2 r j)
      = if 0 < t.val % 32 then u (P m c) (t.val / 32) j ((t.val % 32 * 16 - 1) * 8 + r) else 0 := by
    intro r j
    unfold k0_pay10
    simp only [coord2 t]
    rw [not_first ⟨_, hT⟩]
    pointwise
    simp only [select_ite, c_prev, h_prev]
    split
    · rfl
    · simp
  have hm : ∀ (r : Fin 128) (j : Fin 1024), k0_pay11 (X0_4 m c t) (X0_7 m c t) (ix2 r j)
      = u (P m c) (t.val / 32) j (t.val % 32 * 128 + r) := by
    intro r j; unfold k0_pay11 k0_pay8 k0_pay9; pointwise
    rw [c_tile, h_tile]; rfl
  have hn : ∀ (r : Fin 8) (j : Fin 1024), k0_pay12 (grid0.coords t) (X0_6 m c t) (ix2 r j)
      = if t.val % 32 < 31 then at3 (P m c) (t.val / 32) (min ((t.val % 32 + 1) * 16) 511 * 8 + r) (1024 + j) else 0 := by
    intro r j
    unfold k0_pay12
    simp only [coord2 t]
    rw [not_last ⟨_, hT⟩]
    pointwise
    simp only [select_ite, c_next]
  have hn' : ∀ (r : Fin 8) (j : Fin 1024), k0_pay13 (X0_9 m c t) (ix2 r j)
      = at3 (P m c) (t.val / 32) (min ((t.val % 32 + 1) * 16) 511 * 8 + r) (2048 + j) := by
    intro r j; unfold k0_pay13; pointwise; rw [h_next]
  generalize k0_pay10 (grid0.coords t) (X0_5 m c t) (X0_8 m c t) = p10 at hp ⊢
  generalize k0_pay11 (X0_4 m c t) (X0_7 m c t) = p11 at hm ⊢
  generalize k0_pay12 (grid0.coords t) (X0_6 m c t) = p12 at hn ⊢
  generalize k0_pay13 (X0_9 m c t) = p13 at hn' ⊢
  have ho : (FloatOps.ofBits .f32 0x00000000#32 : Ideal .f32) = 0 := Ideal.ofBits_zero_f32
  generalize (FloatOps.ofBits .f32 0x00000000#32 : Ideal .f32) = o at ho ⊢
  rw [coord2 t, not_last ⟨_, hT⟩]
  unfold k0_pay14
  pointwise
  simp only [hp, hm, hn, hn', ho, select_ite]
  unfold shift
  have hr : r.val < 144 := r.isLt
  by_cases h1 : r.val < 8
  · rw [dif_pos h1]
    by_cases h2 : 0 < t.val % 32
    · rw [if_pos h2, if_pos (by omega)]
      rw [show (t.val % 32 * 16 - 1) * 8 + r.val = t.val % 32 * 128 + r.val - 8 by omega]
    · rw [if_neg h2, if_neg (by omega)]
  · rw [dif_neg h1, if_pos (by omega : 8 ≤ t.val % 32 * 128 + r.val)]
    by_cases h2 : r.val - 8 < 128
    · rw [dif_pos h2]
      rw [show t.val % 32 * 128 + (r.val - 8) = t.val % 32 * 128 + r.val - 8 by omega]
    · rw [dif_neg h2]
      by_cases h3 : t.val % 32 < 31
      · rw [if_pos h3, if_pos h3]
        show at3 _ _ _ _ * at3 _ _ _ _ = u _ _ _ _
        unfold u
        rw [show min ((t.val % 32 + 1) * 16) 511 * 8 + (r.val - 8 - 128) = t.val % 32 * 128 + r.val - 8 by omega]
      · rw [if_neg h3, if_neg h3, u_zero _ (by omega)]; simp

theorem grad_rows (r : Fin 144) (j : Fin 1024) :
    k0_pay15 (Scalar.cmpi CmpIPredicate.slt (BitVec.ofNat 32 (grid0.coords t 2).val) 31#32) k0_pay7 (iblk m c 0 t)
      (X0_2 m c t) (iblk m c 1 t) (X0_3 m c t) (ix2 r j)
      = if r.val < 8 then 0 else e (D m c) (P m c) (t.val / 32) j (t.val % 32 * 128 + r - 8) := by
  have hT : t.val % 32 < 32 := Nat.mod_lt _ (by decide)
  have hz : ∀ (r : Fin 8) (j : Fin 1024), (k0_pay7 : FVec Ideal S8x1024 .f32) (ix2 r j) = 0 := by
    intro r j; unfold k0_pay7; pointwise
  generalize (k0_pay7 : FVec Ideal S8x1024 .f32) = z at hz ⊢
  rw [coord2 t]
  unfold k0_pay15
  have ho : (Scalar.ofBits .f32 0x00000000#32 : Ideal .f32) = 0 := Ideal.ofBits_zero_f32
  generalize (Scalar.ofBits .f32 0x00000000#32 : Ideal .f32) = o at ho ⊢
  pointwise
  rw [not_last ⟨_, hT⟩, ho]
  simp only [hz, select_ite, d_tile, d_next, b_tile, b_next]
  have hr : r.val < 144 := r.isLt
  by_cases h1 : r.val < 8
  · rw [dif_pos h1, if_pos h1]
  · rw [dif_neg h1, if_neg h1]
    by_cases h2 : r.val - 8 < 128
    · rw [dif_pos h2]
      unfold e
      rw [show t.val % 32 * 128 + (r.val - 8) = t.val % 32 * 128 + r.val - 8 by omega]
    · rw [dif_neg h2]
      by_cases h3 : t.val % 32 < 31
      · rw [if_pos h3, if_pos h3]
        unfold e
        rw [show min ((t.val % 32 + 1) * 16) 511 * 8 + (r.val - 8 - 128) = t.val % 32 * 128 + r.val - 8 by omega]
      · rw [if_neg h3, if_neg h3, e_zero _ _ (by omega)]; simp

/-- The values that the body's later stages take: the input with its halos, the gradient with its halos, the filter's rows. -/
abbrev inputs : FVec Ideal S144x1024 .f32 :=
  k0_pay14 (Scalar.cmpi CmpIPredicate.slt (BitVec.ofNat 32 (grid0.coords t 2).val) 31#32)
      (k0_pay10 (grid0.coords t) (X0_5 m c t) (X0_8 m c t)) (k0_pay11 (X0_4 m c t) (X0_7 m c t))
      (k0_pay12 (grid0.coords t) (X0_6 m c t)) (k0_pay13 (X0_9 m c t)) (FloatOps.ofBits FTy.f32 0#32)
abbrev grads : FVec Ideal S144x1024 .f32 :=
  k0_pay15 (Scalar.cmpi CmpIPredicate.slt (BitVec.ofNat 32 (grid0.coords t 2).val) 31#32) k0_pay7 (iblk m c 0 t)
      (X0_2 m c t) (iblk m c 1 t) (X0_3 m c t)
abbrev w2 : Vec Ideal S1x1024 .f32 := View.ld (iblk m c 10 t) (Rect.unit ![2, 0] ![1, 1024] inb_S8x1024_S1x1024_2_0)
abbrev w1 : Vec Ideal S1x1024 .f32 := View.ld (iblk m c 10 t) (Rect.unit ![1, 0] ![1, 1024] inb_S8x1024_S1x1024_1_0)
abbrev w0 : Vec Ideal S1x1024 .f32 := View.ld (iblk m c 10 t) (Rect.unit ![0, 0] ![1, 1024] inb_S8x1024_S1x1024_0_0)

theorem w0_at (j : Fin 1024) : w0 m c t (ix2 0 j) = at2 (W m c) 0 j := by
  have h := w_block m c t 0 j (by decide)
  unfold w0
  pointwise
  exact h
theorem w1_at (j : Fin 1024) : w1 m c t (ix2 0 j) = at2 (W m c) 1 j := by
  have h := w_block m c t 1 j (by decide)
  unfold w1
  pointwise
  exact h
theorem w2_at (j : Fin 1024) : w2 m c t (ix2 0 j) = at2 (W m c) 2 j := by
  have h := w_block m c t 2 j (by decide)
  unfold w2
  pointwise
  exact h

/-- Row `r` of the convolution. -/
theorem conv_rows (r : Fin 128) (j : Fin 1024) :
    k0_pay16 (Scalar.cmpi CmpIPredicate.slt (BitVec.ofNat 32 (grid0.coords t 2).val) 31#32)
      (k0_pay10 (grid0.coords t) (X0_5 m c t) (X0_8 m c t)) (k0_pay11 (X0_4 m c t) (X0_7 m c t))
      (k0_pay12 (grid0.coords t) (X0_6 m c t)) (k0_pay13 (X0_9 m c t)) (FloatOps.ofBits FTy.f32 0#32)
      (w2 m c t) (w0 m c t) (w1 m c t) (ix2 r j) = conv (P m c) (W m c) (t.val / 32) j (t.val % 32 * 128 + r) := by
  unfold k0_pay16
  have hv := input_rows m c t
  generalize hk : k0_pay14 (F := Ideal) _ _ _ _ _ _ = v at hv ⊢
  have h0 := w0_at m c t j
  have h1 := w1_at m c t j
  have h2 := w2_at m c t j
  generalize w0 m c t = x0 at h0 ⊢
  generalize w1 m c t = x1 at h1 ⊢
  generalize w2 m c t = x2 at h2 ⊢
  pointwise
  rw [hv, hv, hv, h0, h1, h2]
  have hr : r.val < 128 := r.isLt
  show at2 _ _ _ * shift _ 8 (t.val % 32 * 128 + (8 + r.val)) + at2 _ _ _ * shift _ 8 (t.val % 32 * 128 + (8 + r.val + 144 - 2) % 144)
    + at2 _ _ _ * shift _ 8 (t.val % 32 * 128 + (8 + r.val + 144 - 1) % 144) = _
  rw [show (8 + r.val + 144 - 2) % 144 = 6 + r.val by omega, show (8 + r.val + 144 - 1) % 144 = 7 + r.val by omega,
    show t.val % 32 * 128 + (8 + r.val) = t.val % 32 * 128 + r.val + 8 by omega,
    show t.val % 32 * 128 + (6 + r.val) = t.val % 32 * 128 + r.val + 6 by omega,
    show t.val % 32 * 128 + (7 + r.val) = t.val % 32 * 128 + r.val + 7 by omega]
  unfold conv
  rw [← shift_zero (u (P m c) (t.val / 32) j) (t.val % 32 * 128 + r.val)]
  rw [← shift_add _ 0 8, ← shift_add _ 2 6, ← shift_add _ 1 7]

/-- Row `r` of the gradient that passes back through the convolution. -/
theorem back_rows (r : Fin 128) (j : Fin 1024) :
    k0_pay23 (grads m c t) (w2 m c t) (w0 m c t) (w1 m c t) (ix2 r j)
      = grad (D m c) (P m c) (W m c) (t.val / 32) j (t.val % 32 * 128 + r) := by
  have hv := grad_rows m c t
  unfold grads
  generalize k0_pay15 (F := Ideal) _ _ _ _ _ _ = v at hv ⊢
  have h0 := w0_at m c t j
  have h1 := w1_at m c t j
  have h2 := w2_at m c t j
  generalize w0 m c t = x0 at h0 ⊢
  generalize w1 m c t = x1 at h1 ⊢
  generalize w2 m c t = x2 at h2 ⊢
  unfold k0_pay23 k0_pay20 k0_pay22
  pointwise
  have hr : r.val < 128 := r.isLt
  rw [hv, hv, hv, h0, h1, h2]
  dsimp only
  rw [if_neg (by omega), if_neg (by omega), if_neg (by omega),
    show t.val % 32 * 128 + (8 + r.val) - 8 = t.val % 32 * 128 + r.val by omega,
    show t.val % 32 * 128 + (8 + r.val + 144 - 142) % 144 - 8 = t.val % 32 * 128 + r.val + 2 by omega,
    show t.val % 32 * 128 + (8 + r.val + 144 - 143) % 144 - 8 = t.val % 32 * 128 + r.val + 1 by omega]
  rfl

/-- What one tile adds to row `2 - k` of the filter's gradient: the products of the gradient `k` rows later with the input. -/
def gw (D : (⟨3, ![2, 4096, 1024]⟩ : Shape).Idx → EReal) (P : (⟨3, ![2, 4096, 10368]⟩ : Shape).Idx → EReal) (k t j : ℕ) : EReal :=
  ∑ x : Fin 128, e D P (t / 32) j (t % 32 * 128 + x + k) * u P (t / 32) j (t % 32 * 128 + x)

theorem input_row (x : Fin 128) (j : Fin 1024) (h) : inputs m c t (ix2 ⟨8 + x.val, h⟩ j) = u (P m c) (t.val / 32) j (t.val % 32 * 128 + x) := by
  unfold inputs
  rw [input_rows m c t]
  dsimp only
  rw [show t.val % 32 * 128 + (8 + x.val) = t.val % 32 * 128 + x.val + (0 + 8) by omega]
  rw [← shift_zero (u _ _ _) (t.val % 32 * 128 + x.val)]
  exact shift_add _ 0 8 _

theorem grad_row (k : ℕ) (hk : k < 3) (x : Fin 128) (j : Fin 1024) (h) :
    grads m c t (ix2 ⟨(8 + x.val + 144 - (144 - k)) % 144, h⟩ j) = e (D m c) (P m c) (t.val / 32) j (t.val % 32 * 128 + x + k) := by
  have hr : x.val < 128 := x.isLt
  unfold grads
  rw [grad_rows m c t]
  dsimp only
  rw [if_neg (by omega), show t.val % 32 * 128 + (8 + x.val + 144 - (144 - k)) % 144 - 8 = t.val % 32 * 128 + x.val + k by omega]

theorem gw0_at (j : Fin 1024) : k0_pay19 (inputs m c t) (grads m c t) (ix2 0 j) = gw (D m c) (P m c) 0 t j := by
  have hu := fun x h => input_row m c t x j h
  have he := fun x h => grad_row m c t 0 (by decide) x j h
  generalize inputs m c t = v at hu ⊢
  generalize grads m c t = z at he ⊢
  unfold k0_pay19 k0_pay18
  pointwise
  unfold gw
  refine Finset.sum_congr rfl fun x _ => ?_
  rw [hu, ← he x (Nat.mod_lt _ (by decide))]
  congr 3
  have hr : x.val < 128 := x.isLt
  exact Fin.ext (by dsimp only; omega)

theorem gw2_at (j : Fin 1024) : k0_pay21 (inputs m c t) (grads m c t) (ix2 0 j) = gw (D m c) (P m c) 2 t j := by
  have hu := fun x h => input_row m c t x j h
  have he := fun x h => grad_row m c t 2 (by decide) x j h
  generalize inputs m c t = v at hu ⊢
  generalize grads m c t = z at he ⊢
  unfold k0_pay21 k0_pay18 k0_pay20
  pointwise
  unfold gw
  refine Finset.sum_congr rfl fun x _ => ?_
  rw [hu, ← he x (Nat.mod_lt _ (by decide))]

theorem gw1_at (j : Fin 1024) : k0_pay24 (inputs m c t) (grads m c t) (ix2 0 j) = gw (D m c) (P m c) 1 t j := by
  have hu := fun x h => input_row m c t x j h
  have he := fun x h => grad_row m c t 1 (by decide) x j h
  generalize inputs m c t = v at hu ⊢
  generalize grads m c t = z at he ⊢
  unfold k0_pay24 k0_pay18 k0_pay22
  pointwise
  unfold gw
  refine Finset.sum_congr rfl fun x _ => ?_
  rw [hu, ← he x (Nat.mod_lt _ (by decide))]

end Cert.Proof.ScConv

end
-- ==== Proof.ScConvRun.lean ====
/- The arrays of the short-convolution backward call after its run: the in-place output, whose first 3072 columns are written and
   whose other columns stay as they were, and the filter's gradient, accumulated over the 64 tiles. -/
module

public import proofs.«01_k».proof.Proof.ScConvTile
public import Idealize.ShloMosaic.Lib.Pipeline.ValueKit
public import Idealize.ShloMosaic.Lib.WritesUnit

@[expose] public section

set_option maxRecDepth 16384

noncomputable section

namespace Cert.Proof.ScConv

open Cert.Kernel2Ideal Cert.Kernel2Ideal.Gen Idealize.ShloMosaic Idealize.ShloMosaic.TcCoe Idealize.SL.Sem
open Idealize.ShloMosaic.Pipeline

variable (m : (ℓ : Loc nD τ sig) → Buf (Elt Ideal) ℓ) (c : Dev nD)

/-- The written columns, at batch row `b`, position `s`, column `j`. -/
def written (D : S2x4096x1024.Idx → EReal) (P : S2x4096x10368.Idx → EReal) (W : S3x1024.Idx → EReal) (b s j : ℕ) : EReal :=
  if j < 1024 then at3 D b s j * conv P W b j s
  else if j < 2048 then grad D P W b (j - 1024) s * at3 P b s (j + 1024)
  else grad D P W b (j - 2048) s * at3 P b s (j - 1024)

theorem piece0 (t : Fin cfg0.N) (x : S1x128x1024.Idx) :
    k0_pay17 (k0_pay16 (Scalar.cmpi CmpIPredicate.slt (BitVec.ofNat 32 (grid0.coords t 2).val) 31#32)
      (k0_pay10 (grid0.coords t) (X0_5 m c t) (X0_8 m c t)) (k0_pay11 (X0_4 m c t) (X0_7 m c t))
      (k0_pay12 (grid0.coords t) (X0_6 m c t)) (k0_pay13 (X0_9 m c t)) (FloatOps.ofBits FTy.f32 0#32)
      (w2 m c t) (w0 m c t) (w1 m c t)) (iblk m c 0 t) x
      = written (D m c) (P m c) (W m c) (t.val / 32) (t.val % 32 * 128 + (x 1).val) (x 2).val := by
  obtain ⟨a, r, j, rfl⟩ : ∃ (a : Fin 1) (r : Fin 128) (j : Fin 1024), x = ix3 a r j := ⟨x 0, x 1, x 2, (ix3_eta x).symm⟩
  obtain rfl : a = 0 := Subsingleton.elim _ _
  have h := conv_rows m c t r j
  generalize k0_pay16 (F := Ideal) _ _ _ _ _ _ _ _ _ = v at h ⊢
  unfold k0_pay17
  pointwise
  rw [h, d_tile]
  unfold written
  rw [if_pos (by exact j.isLt)]

theorem piece1 (t : Fin cfg0.N) (x : S1x128x1024.Idx) :
    k0_pay1 (k0_pay25 (k0_pay9 (X0_7 m c t)) (grads m c t) (w2 m c t) (w0 m c t) (w1 m c t)) x
      = written (D m c) (P m c) (W m c) (t.val / 32) (t.val % 32 * 128 + (x 1).val) (1024 + (x 2).val) := by
  obtain ⟨a, r, j, rfl⟩ : ∃ (a : Fin 1) (r : Fin 128) (j : Fin 1024), x = ix3 a r j := ⟨x 0, x 1, x 2, (ix3_eta x).symm⟩
  obtain rfl : a = 0 := Subsingleton.elim _ _
  have h := back_rows m c t r j
  unfold k0_pay25
  generalize k0_pay23 (F := Ideal) _ _ _ _ = v at h ⊢
  unfold k0_pay1 k0_pay9
  pointwise
  rw [h, h_tile]
  unfold written
  have hj : j.val < 1024 := j.isLt
  show _ = if 1024 + j.val < 1024 then _ else if 1024 + j.val < 2048 then grad _ _ _ _ (1024 + j.val - 1024) _ * at3 _ _ _ (1024 + j.val + 1024) else _
  rw [if_neg (by omega), if_pos (by omega), show 1024 + j.val - 1024 = j.val by omega, show 1024 + j.val + 1024 = 2048 + j.val by omega]

theorem piece2 (t : Fin cfg0.N) (x : S1x128x1024.Idx) :
    k0_pay2 (k0_pay8 (X0_4 m c t)) (k0_pay23 (grads m c t) (w2 m c t) (w0 m c t) (w1 m c t)) x
      = written (D m c) (P m c) (W m c) (t.val / 32) (t.val % 32 * 128 + (x 1).val) (2048 + (x 2).val) := by
  obtain ⟨a, r, j, rfl⟩ : ∃ (a : Fin 1) (r : Fin 128) (j : Fin 1024), x = ix3 a r j := ⟨x 0, x 1, x 2, (ix3_eta x).symm⟩
  obtain rfl : a = 0 := Subsingleton.elim _ _
  have h := back_rows m c t r j
  generalize k0_pay23 (F := Ideal) _ _ _ _ = v at h ⊢
  unfold k0_pay2 k0_pay8
  pointwise
  rw [h, c_tile]
  unfold written
  have hj : j.val < 1024 := j.isLt
  show _ = if 2048 + j.val < 1024 then _ else if 2048 + j.val < 2048 then _ else grad _ _ _ _ (2048 + j.val - 2048) _ * at3 _ _ _ (2048 + j.val - 1024)
  rw [if_neg (by omega), if_neg (by omega), show 2048 + j.val - 2048 = j.val by omega, show 2048 + j.val - 1024 = 1024 + j.val by omega]

/-- What a grid point leaves in the in-place output's block. -/
theorem tile_out (t : Fin cfg0.N) (y : S1x128x3072.Idx) : ((outsAt0 m c t.val t.isLt).1 : Vec Ideal S1x128x3072 .bf16) y
    = written (D m c) (P m c) (W m c) (t.val / 32) (t.val % 32 * 128 + (y 1).val) (y 2).val := by
  by_cases h : t.val % 64 = 0
  · rw [outsAt0_A m c t h]
    frame_out
    canon_tiles x hx
    · rw [hx1, hx2]; exact piece2 m c t x
    · rw [hx1, hx2]; exact piece1 m c t x
    · rw [hx1, hx2]; exact piece0 m c t x
  · rw [outsAt0_B m c t h]
    frame_out
    canon_tiles x hx
    · rw [hx1, hx2]; exact piece2 m c t x
    · rw [hx1, hx2]; exact piece1 m c t x
    · rw [hx1, hx2]; exact piece0 m c t x

theorem V_out : V m c main_v1_0 = m ((c : Thread nD τ).loc main_arg3) := by
  simp only [V, hostOps0, hostOps0_1, hostOps0_2, List.flatten_cons, List.flatten_nil, List.append_nil, List.cons_append, List.nil_append]
  after_results
  rfl

theorem index11 : ∀ t : Fin cfg0.N, (win0_11.index t 0 = t.val / 32 ∧ win0_11.index t 1 = t.val % 32) ∧ win0_11.index t 2 = 0 :=
  (by decide +kernel : ∀ t : Fin grid0.N, _)

theorem final_out : (dats m 0 c).arrAt 11 cfg0.N
    = fun i : S2x4096x10368.Idx => if (i 2).val / 3072 = 0 then written (D m c) (P m c) (W m c) (i 0).val (i 1).val (i 2).val else O m c i := by
  refine ((dats m 0 c).arrAt_eq_of_coversWhere 11 (fun i : S2x4096x10368.Idx => written (D m c) (P m c) (W m c) (i 0).val (i 1).val (i 2).val)
          (P := fun i : S2x4096x10368.Idx => (i 2).val / 3072 = 0) (fun β => β (2 : Fin _) = 0) (by decide +kernel)
          (fun t hf y => ?_) (fun j => Iff.rfl)).trans ?_
  · blk_simp
    rw [after0_11, (index11 t).1.1, (index11 t).1.2, (index11 t).2]
    refine (tile_out m c t _).trans ?_
    have h0 : ((cfg0.win 11).xinj (cfg0.grid.coords t) y 1).val = (y 1).val := rfl
    have h1 : ((cfg0.win 11).xinj (cfg0.grid.coords t) y 2).val = (y 2).val := rfl
    have h2 : ((cfg0.win 11).xinj (cfg0.grid.coords t) y 0).val < 1 := ((cfg0.win 11).xinj (cfg0.grid.coords t) y 0).isLt
    replace h2 : (y 0).val = 0 := Nat.lt_one_iff.mp h2
    rw [h0, h1, h2, Nat.add_zero, Nat.zero_mul, Nat.zero_add]
  · rw [A_eq]
    funext i
    show (if (i 2).val / 3072 = 0 then _ else V m c main_v1_0 i) = _
    rw [V_out]

/-- What one tile adds to row `k` of the filter's gradient block. -/
def tileRow (D : S2x4096x1024.Idx → EReal) (P : S2x4096x10368.Idx → EReal) (t k j : ℕ) : EReal :=
  if k < 3 then gw D P (2 - k) t j else 0

section Rows

variable (v : View sig .tc .vmem S8x1024 .f32) (f : v.ty.Contents (Elt Ideal)) (L : List (View.Piece (Elt Ideal) S8x1024 .f32))

/-- A row just stored reads as stored. -/
theorem row_hit {o : ℕ} (inb) (w : S1x1024.Idx → EReal) (k : Fin 8) (j : Fin 1024) (h : k.val = o) :
    v.read (Elt Ideal) (v.writes (Elt Ideal) f (⟨Rect.unit ![o, 0] ![1, 1024] inb, w⟩ :: L)) (ix2 k j) = w (ix2 0 j) :=
  View.read_writes_cons_unit_of_mem v f inb w L (ix2 k j) (ix2 0 j) rfl (Fin.forall_fin_two.mpr ⟨h, (Nat.zero_add _).symm⟩)

/-- Storing another row changes nothing. -/
theorem row_miss {o : ℕ} (inb) (w : S1x1024.Idx → EReal) (k : Fin 8) (j : Fin 1024) (h : k.val ≠ o) :
    v.read (Elt Ideal) (v.writes (Elt Ideal) f (⟨Rect.unit ![o, 0] ![1, 1024] inb, w⟩ :: L)) (ix2 k j)
      = v.read (Elt Ideal) (v.writes (Elt Ideal) f L) (ix2 k j) :=
  View.read_writes_cons_unit_of_not_mem v f inb w L (ix2 k j) rfl 0 (by
    show k.val < o ∨ o + 1 ≤ k.val
    omega)

/-- The whole block just stored reads as stored. -/
theorem block_hit (inb) (w : S8x1024.Idx → EReal) (k : Fin 8) (j : Fin 1024) :
    v.read (Elt Ideal) (v.writes (Elt Ideal) f (⟨Rect.unit ![0, 0] ![8, 1024] inb, w⟩ :: L)) (ix2 k j) = w (ix2 k j) :=
  View.read_writes_cons_unit_of_mem v f inb w L (ix2 k j) (ix2 k j) rfl
    (Fin.forall_fin_two.mpr ⟨(Nat.zero_add _).symm, (Nat.zero_add _).symm⟩)

/-- A row loaded back. -/
theorem row_load {o : ℕ} (inb : ∀ a, (![o, 0] : Fin 2 → ℕ) a + (![1, 1024] : Fin 2 → ℕ) a ≤ S8x1024.size a) (k : Fin 8) (j : Fin 1024)
    (h : k.val = o) :
    v.readCov L (Rect.unit (s := S8x1024) ![o, 0] ![1, 1024] inb).toLoadRect (ix2 (0 : Fin 1) j : S1x1024.Idx)
      = v.read (Elt Ideal) (v.writes (Elt Ideal) v.junk L) (ix2 k j) := by
  subst h
  show v.read (Elt Ideal) (v.writes (Elt Ideal) v.junk L) _ = _
  refine congrArg _ (funext fun a => Fin.ext ?_)
  match a with
  | ⟨0, _⟩ => show k.val + 1 * 0 = k.val; omega
  | ⟨1, _⟩ => show 0 + 1 * j.val = j.val; omega

end Rows

theorem acc_step (t : Fin cfg0.N) (h : ¬ t.val % 64 = 0) (y : S8x1024.Idx) : ((outsAt0 m c t.val t.isLt).2 : Vec Ideal S8x1024 .f32) y
    = ((outsAt0 m c (t.val - 1) (Nat.lt_of_le_of_lt (Nat.sub_le _ _) t.isLt)).2 : Vec Ideal S8x1024 .f32) y + tileRow (D m c) (P m c) t (y 0).val (y 1).val := by
  obtain ⟨k, j, rfl⟩ : ∃ (k : Fin 8) (j : Fin 1024), y = ix2 k j := ⟨y 0, y 1, (ix2_eta y).symm⟩
  rw [outsAt0_B m c t h]
  frame_out
  have g0 := gw0_at m c t j
  have g1 := gw1_at m c t j
  have g2 := gw2_at m c t j
  unfold inputs grads at g0 g1 g2
  generalize k0_pay19 (F := Ideal) _ _ = v0 at g0 ⊢
  generalize k0_pay21 (F := Ideal) _ _ = v1 at g2 ⊢
  generalize k0_pay24 (F := Ideal) _ _ = v2 at g1 ⊢
  generalize (outsAt0 m c (t.val - 1) _).2 = acc
  unfold tileRow k0_pay5 k0_pay4 k0_pay3
  show _ = (acc : S8x1024.Idx → EReal) (ix2 k j) + if k.val < 3 then gw (D m c) (P m c) (2 - k.val) t.val j.val else 0
  by_cases h2 : k.val = 2
  · obtain rfl : k = 2 := Fin.ext h2
    rw [row_hit _ _ _ _ _ _ _ h2]
    pointwise
    rw [g0]
  rw [row_miss _ _ _ _ _ _ _ h2]
  by_cases h1 : k.val = 1
  · obtain rfl : k = 1 := Fin.ext h1
    rw [row_hit _ _ _ _ _ _ _ h1]
    pointwise
    rw [g1]
  rw [row_miss _ _ _ _ _ _ _ h1]
  by_cases h0 : k.val = 0
  · obtain rfl : k = 0 := Fin.ext h0
    rw [row_hit _ _ _ _ _ _ _ h0]
    pointwise
    rw [g2]
  rw [row_miss _ _ _ _ _ _ _ h0, if_neg (by omega), add_zero]
  exact congrFun (Memref.IsWhole.read_unread _ _) _

theorem acc_reset (t : Fin cfg0.N) (h : t.val % 64 = 0) (y : S8x1024.Idx) : ((outsAt0 m c t.val t.isLt).2 : Vec Ideal S8x1024 .f32) y
    = (0 : EReal) + tileRow (D m c) (P m c) t (y 0).val (y 1).val := by
  obtain ⟨k, j, rfl⟩ : ∃ (k : Fin 8) (j : Fin 1024), y = ix2 k j := ⟨y 0, y 1, (ix2_eta y).symm⟩
  rw [outsAt0_A m c t h]
  frame_out
  have g0 := gw0_at m c t j
  have g1 := gw1_at m c t j
  have g2 := gw2_at m c t j
  unfold inputs grads at g0 g1 g2
  generalize k0_pay19 (F := Ideal) _ _ = v0 at g0 ⊢
  generalize k0_pay21 (F := Ideal) _ _ = v1 at g2 ⊢
  generalize k0_pay24 (F := Ideal) _ _ = v2 at g1 ⊢
  rw [← View.read_writes_junk_apply_eq_canon (ms0_12 t).view]
  unfold tileRow k0_pay5 k0_pay4 k0_pay3
  have hz : ∀ (k : Fin 8) (j : Fin 1024), (k0_pay6 : FVec Ideal S8x1024 .f32) (ix2 k j) = 0 := by
    intro k j; unfold k0_pay6; pointwise
  generalize (k0_pay6 : FVec Ideal S8x1024 .f32) = z at hz ⊢
  show _ = (0 : EReal) + if k.val < 3 then gw (D m c) (P m c) (2 - k.val) t.val j.val else 0
  by_cases h2 : k.val = 2
  · obtain rfl : k = 2 := Fin.ext h2
    rw [row_hit _ _ _ _ _ _ _ h2]
    pointwise
    rw [g0, row_load (o := 2) _ _ _ 2 j rfl, row_miss _ _ _ _ _ _ _ (by decide), row_miss _ _ _ _ _ _ _ (by decide), block_hit, hz]
    exact zero_add _
  rw [row_miss _ _ _ _ _ _ _ h2]
  by_cases h1 : k.val = 1
  · obtain rfl : k = 1 := Fin.ext h1
    rw [row_hit _ _ _ _ _ _ _ h1]
    pointwise
    rw [g1, row_load (o := 1) _ _ _ 1 j rfl, row_miss _ _ _ _ _ _ _ (by decide), block_hit, hz]
    exact zero_add _
  rw [row_miss _ _ _ _ _ _ _ h1]
  by_cases h0 : k.val = 0
  · obtain rfl : k = 0 := Fin.ext h0
    rw [row_hit _ _ _ _ _ _ _ h0]
    pointwise
    rw [g2, row_load (o := 0) _ _ _ 0 j rfl, block_hit, hz]
    exact zero_add _
  rw [row_miss _ _ _ _ _ _ _ h0, block_hit, hz, if_neg (by omega), add_zero]

/-- The last grid point. -/
def tLast : Fin cfg0.N := ⟨63, by decide⟩

/-- The filter's gradient, in the first three of the eight rows of its array. -/
theorem final_dw : (dats m 0 c).arrAt 12 cfg0.N
    = fun i : S8x1024.Idx => ∑ t ∈ Finset.range 64, tileRow (D m c) (P m c) t (i 0).val (i 1).val := by
  refine (dats m 0 c).arrAt_eq_of_after_last 12 tLast (by decide +kernel) _ fun j => ?_
  blk_simp
  rw [after0_12]
  have h := eq_sum_of_reset_step_apply (fun n h => ((outsAt0 m c n h).2 : S8x1024.Idx → EReal)) 64 (fun _ => (0 : EReal))
    (fun t y => tileRow (D m c) (P m c) t (y 0).val (y 1).val) (acc_reset m c) (acc_step m c) tLast j
  refine h.trans ?_
  rw [zero_add]
  refine Finset.sum_congr rfl fun k _ => ?_
  show tileRow _ _ (64 * (63 / 64) + k) _ _ = _
  rw [show 64 * (63 / 64) + k = k by omega]

end Cert.Proof.ScConv

end
-- ==== Proof.ScConvRef.lean ====
/- The gradient of the short-convolution branch as the reference writes it: its stages at an index, in the terms of the
   tile's values (`u`, `e`, `conv`, `grad`). -/
module

public import proofs.«01_k».proof.Proof.ScConvRun
public import proofs.«01_k».proof.Proof.Gen.Reference2Ideal.Read

@[expose] public section

set_option maxRecDepth 16384

noncomputable section

namespace Cert.Proof.ScConv

open Cert.Reference2Ideal Cert.Reference2Ideal.Gen Cert.Reference2Ideal.Read Idealize.ShloMosaic Idealize.ShloMosaic.TcCoe Idealize.SL.Sem

variable (D : S2x4096x1024.Idx → EReal) (P : S2x4096x10368.Idx → EReal) (W : S3x1024.Idx → EReal) (O : S2x4096x10368.Idx → EReal)

theorem shift_lt {f : ℕ → EReal} {k n : ℕ} (h : n < k) : shift f k n = 0 := if_neg (by omega)
theorem shift_ge {f : ℕ → EReal} {k n : ℕ} (h : k ≤ n) : shift f k n = f (n - k) := if_pos h

theorem ix3_of {n0 n1 n2 : ℕ} (z : (⟨3, ![n0, n1, n2]⟩ : Shape).Idx) (a : Fin n0) (b : Fin n1) (c : Fin n2)
    (h0 : (z 0).val = a) (h1 : (z 1).val = b) (h2 : (z 2).val = c) : z = ix3 a b c := by
  funext x
  match x with
  | ⟨0, _⟩ => exact Fin.ext h0
  | ⟨1, _⟩ => exact Fin.ext h1
  | ⟨2, _⟩ => exact Fin.ext h2

variable (b : Fin 2) (s : Fin 4096) (j : Fin 1024)

theorem r_b : val_main_v0 (F := Ideal) P (ix3 b s j) = at3 P b s j := by
  rw [val_main_v0_apply]; exact at3_of P _ rfl rfl rfl
theorem r_c : val_main_v1 (F := Ideal) P (ix3 b s j) = at3 P b s (1024 + j) := by
  rw [val_main_v1_apply]; exact at3_of P _ rfl rfl rfl
theorem r_h : val_main_v2 (F := Ideal) P (ix3 b s j) = at3 P b s (2048 + j) := by
  rw [val_main_v2_apply]; exact at3_of P _ rfl rfl rfl

theorem r_u : val_main_v3 (F := Ideal) P (ix3 b s j) = u P b j s := by
  rw [val_main_v3_apply, r_c, r_h]; rfl
theorem r_e : val_main_v28 (F := Ideal) D P (ix3 b s j) = e D P b j s := by
  rw [val_main_v28_apply, r_b, at3_ix D]; exact mul_comm _ _

theorem r_padded (q : Fin 4098) : val_main_v5 (F := Ideal) P (ix3 b q j) = shift (u P b j) 2 q := by
  have h3 := fun s => r_u P b s j
  have h4 : ∀ i, val_main_v4 (F := Ideal) i = 0 := by
    intro i; rw [val_main_v4_apply, val_main_cst_apply]; pointwise
  unfold val_main_v5
  generalize val_main_v3 (F := Ideal) P = v3 at h3 ⊢
  generalize val_main_v4 (F := Ideal) = v4 at h4 ⊢
  pointwise
  by_cases h : q.val < 2
  · rw [dif_pos h, h4, shift_lt h]
  · rw [dif_neg h, h3, shift_ge (by omega)]

theorem r_tap0 : val_main_v7 (F := Ideal) P (ix3 b s j) = shift (u P b j) 2 s := by
  rw [val_main_v7_apply, ix3_of (idx_main_v7 (ix3 b s j)) b ⟨s.val, by omega⟩ j rfl rfl rfl]; exact r_padded P b j ⟨s, by omega⟩
theorem r_tap1 : val_main_v13 (F := Ideal) P (ix3 b s j) = shift (u P b j) 1 s := by
  rw [val_main_v13_apply, ix3_of (idx_main_v13 (ix3 b s j)) b ⟨1 + s.val, by omega⟩ j rfl rfl rfl]
  refine (r_padded P b j ⟨1 + s, by omega⟩).trans ?_
  rw [← shift_add (u P b j) 1 1 s]; congr 1; exact Nat.add_comm _ _
theorem r_tap2 : val_main_v20 (F := Ideal) P (ix3 b s j) = u P b j s := by
  rw [val_main_v20_apply, ix3_of (idx_main_v20 (ix3 b s j)) b ⟨2 + s.val, by omega⟩ j rfl rfl rfl]
  refine (r_padded P b j ⟨2 + s, by omega⟩).trans ?_
  rw [← shift_zero (u P b j) s, ← shift_add (u P b j) 0 2 s]; congr 1; exact Nat.add_comm _ _

theorem r_w0 : val_main_v11 (F := Ideal) W (ix3 b s j) = at2 W 0 j := by
  rw [val_main_v11_apply, val_main_v10_apply, val_main_v9_apply, val_main_v8_apply]; exact at2_of W _ rfl (Nat.mod_eq_of_lt j.isLt)
theorem r_w1 : val_main_v17 (F := Ideal) W (ix3 b s j) = at2 W 1 j := by
  rw [val_main_v17_apply, val_main_v16_apply, val_main_v15_apply, val_main_v14_apply]; exact at2_of W _ rfl (Nat.mod_eq_of_lt j.isLt)
theorem r_w2 : val_main_v24 (F := Ideal) W (ix3 b s j) = at2 W 2 j := by
  rw [val_main_v24_apply, val_main_v23_apply, val_main_v22_apply, val_main_v21_apply]; exact at2_of W _ rfl (Nat.mod_eq_of_lt j.isLt)
theorem r_v0 : val_main_v53 (F := Ideal) W (ix3 b s j) = at2 W 0 j := by
  rw [val_main_v53_apply, val_main_v10_apply, val_main_v9_apply, val_main_v8_apply]; exact at2_of W _ rfl (Nat.mod_eq_of_lt j.isLt)
theorem r_v1 : val_main_v42 (F := Ideal) W (ix3 b s j) = at2 W 1 j := by
  rw [val_main_v42_apply, val_main_v16_apply, val_main_v15_apply, val_main_v14_apply]; exact at2_of W _ rfl (Nat.mod_eq_of_lt j.isLt)
theorem r_v2 : val_main_v33 (F := Ideal) W (ix3 b s j) = at2 W 2 j := by
  rw [val_main_v33_apply, val_main_v23_apply, val_main_v22_apply, val_main_v21_apply]; exact at2_of W _ rfl (Nat.mod_eq_of_lt j.isLt)

theorem r_conv : val_main_v26 (F := Ideal) P W (ix3 b s j) = conv P W b j s := by
  rw [val_main_v26_apply, val_main_v19_apply, val_main_v12_apply, val_main_v18_apply, val_main_v25_apply, r_tap0, r_tap1, r_tap2,
    r_w0, r_w1, r_w2]
  show shift (u P b j) 2 s * at2 W 0 j + shift (u P b j) 1 s * at2 W 1 j + u P b j s * at2 W 2 j = _
  unfold conv
  rw [mul_comm (shift _ 2 _), mul_comm (shift _ 1 _), mul_comm (u P b j s)]
  abel

/-- The padded gradient, tap by tap. -/
theorem r_back (q : Fin 4098) : val_main_v60 (F := Ideal) D P W (ix3 b q j)
    = shift (fun n => e D P b j n * at2 W 2 j) 2 q + shift (fun n => e D P b j n * at2 W 1 j) 1 q + e D P b j q * at2 W 0 j := by
  have h2 : ∀ s, val_main_v34 (F := Ideal) D P W (ix3 b s j) = e D P b j s * at2 W 2 j := fun s => by
    rw [val_main_v34_apply, r_e, r_v2]; rfl
  have h1 : ∀ s, val_main_v43 (F := Ideal) D P W (ix3 b s j) = e D P b j s * at2 W 1 j := fun s => by
    rw [val_main_v43_apply, r_e, r_v1]; rfl
  have h0 : ∀ s, val_main_v54 (F := Ideal) D P W (ix3 b s j) = e D P b j s * at2 W 0 j := fun s => by
    rw [val_main_v54_apply, r_e, r_v0]; rfl
  rw [val_main_v60_apply, val_main_v49_apply]
  unfold val_main_v38 val_main_v48 val_main_v59 val_main_cst_4 val_main_cst_8 val_main_cst_12
  generalize val_main_v34 (F := Ideal) D P W = x2 at h2 ⊢
  generalize val_main_v43 (F := Ideal) D P W = x1 at h1 ⊢
  generalize val_main_v54 (F := Ideal) D P W = x0 at h0 ⊢
  pointwise
  simp only [h0, h1, h2]
  congr 1
  · congr 1
    · by_cases h : 2 ≤ q.val
      · rw [dif_pos ⟨h, by omega⟩, shift_ge h]
      · rw [dif_neg (fun h' => h h'.1), shift_lt (by omega)]
    · by_cases h : 1 ≤ q.val
      · rw [shift_ge h]
        by_cases h' : q.val - 1 < 4096
        · rw [dif_pos ⟨h, h'⟩]
        · rw [dif_neg (fun h'' => h' h''.2), e_zero D P (by omega), zero_mul]
      · rw [dif_neg (fun h' => h h'.1), shift_lt (by omega)]
  · by_cases h : q.val < 4096
    · rw [dif_pos h]
    · rw [dif_neg h, e_zero D P (by omega), zero_mul]

theorem r_grad : val_main_v62 (F := Ideal) D P W (ix3 b s j) = grad D P W b j s := by
  rw [val_main_v62_apply, ix3_of (idx_main_v62 (ix3 b s j)) b ⟨2 + s.val, by omega⟩ j rfl rfl rfl]
  refine (r_back D P W b j ⟨2 + s, by omega⟩).trans ?_
  show shift _ 2 (2 + s.val) + shift _ 1 (2 + s.val) + e D P b j (2 + s.val) * _ = _
  rw [shift_ge (by omega), shift_ge (by omega)]
  unfold grad
  rw [show 2 + s.val - 2 = s.val by omega, show 2 + s.val - 1 = s.val + 1 by omega, Nat.add_comm 2 s.val]
  simp only [mul_comm]
  abel

/-- The first result: the three columns of the gradient, the rest of the projected gradient as it came. -/
theorem r_out (k : Fin 10368) : val_main_v69 (F := Ideal) D P W O (ix3 b s k)
    = if k.val / 3072 = 0 then written D P W b s k else O (ix3 b s k) := by
  have h0 : ∀ j, val_main_v65 (F := Ideal) D P W (ix3 b s j) = at3 D b s j * conv P W b j s := fun j => by
    rw [val_main_v65_apply, val_main_v29_apply, r_conv, at3_ix D]; rfl
  have h1 : ∀ j, val_main_v66 (F := Ideal) D P W (ix3 b s j) = grad D P W b j s * at3 P b s (j + 2048) := fun j => by
    rw [val_main_v66_apply, val_main_v64_apply, r_grad, r_h, Nat.add_comm j.val]; rfl
  have h2 : ∀ j, val_main_v67 (F := Ideal) D P W (ix3 b s j) = grad D P W b j s * at3 P b s (j + 1024) := fun j => by
    rw [val_main_v67_apply, val_main_v63_apply, r_grad, r_c, Nat.add_comm j.val]; exact mul_comm _ _
  have h3 : ∀ j : Fin 7296, val_main_v68 (F := Ideal) O (ix3 b s j) = O (ix3 b s ⟨3072 + j, by omega⟩) := fun j => by
    rw [val_main_v68_apply, ix3_of (idx_main_v68 (ix3 b s j)) b s ⟨3072 + j, by omega⟩ rfl rfl rfl]
  unfold val_main_v69
  generalize val_main_v65 (F := Ideal) D P W = x0 at h0 ⊢
  generalize val_main_v66 (F := Ideal) D P W = x1 at h1 ⊢
  generalize val_main_v67 (F := Ideal) D P W = x2 at h2 ⊢
  generalize val_main_v68 (F := Ideal) O = x3 at h3 ⊢
  pointwise
  by_cases h : k.val < 1024
  · refine (dif_pos h).trans ((h0 ⟨k.val, h⟩).trans ?_)
    rw [if_pos (by omega)]
    exact (if_pos h).symm
  refine (dif_neg h).trans ?_
  by_cases h' : k.val - 1024 < 1024
  · refine (dif_pos h').trans ((h1 ⟨k.val - 1024, h'⟩).trans ?_)
    rw [if_pos (by omega)]
    unfold written
    rw [if_neg h, if_pos (by omega)]
    rw [show (⟨k.val - 1024, h'⟩ : Fin 1024).val + 2048 = k.val + 1024 by show k.val - 1024 + 2048 = _; omega]
  refine (dif_neg h').trans ?_
  by_cases h'' : k.val - 1024 - 1024 < 1024
  · refine (dif_pos h'').trans ((h2 ⟨k.val - 1024 - 1024, h''⟩).trans ?_)
    rw [if_pos (by omega)]
    unfold written
    rw [if_neg h, if_neg (by omega)]
    rw [show (⟨k.val - 1024 - 1024, h''⟩ : Fin 1024).val + 1024 = k.val - 1024 by show k.val - 1024 - 1024 + 1024 = _; omega]
    rw [show (⟨k.val - 1024 - 1024, h''⟩ : Fin 1024).val = k.val - 2048 by show k.val - 1024 - 1024 = _; omega]
  refine (dif_neg h'').trans ((h3 ⟨k.val - 1024 - 1024 - 1024, by omega⟩).trans ?_)
  rw [if_neg (by omega)]
  refine congrArg (fun q => O (ix3 b s q)) ?_
  exact Fin.ext (by show 3072 + (k.val - 1024 - 1024 - 1024) = k.val; omega)

theorem ix1_of {n : ℕ} (z : (⟨1, ![n]⟩ : Shape).Idx) (a : Fin n) (h : (z 0).val = a) : z = ix1 a := by
  funext x
  match x with
  | ⟨0, _⟩ => exact Fin.ext h

theorem sum01 {n0 n1 : ℕ} (h : (⟨3, ![n0, n1, 1024]⟩ : Shape).ReducesTo [0, 1] S1024)
    (v : (⟨3, ![n0, n1, 1024]⟩ : Shape).Idx → EReal) (j : Fin 1024) :
    (Host.reduceAdd (F := Ideal) (φ := .f32) v (constant S_ .f32 0x00000000#32) h h_S_ : S1024.Idx → EReal) (ix1 j)
      = ∑ a : Fin n0, ∑ b : Fin n1, v (ix3 a b j) := by
  refine (hostSum01 h v _ j).trans ?_
  refine (congrArg (· + _) ?_).trans (zero_add _)
  pointwise

theorem r_sum2 : val_main_v36 (F := Ideal) D P (ix2 0 j) = ∑ b : Fin 2, ∑ s : Fin 4096, u P b j s * e D P b j s := by
  rw [val_main_v36_apply, ix1_of (idx_main_v36 (ix2 0 j)) j rfl]
  unfold val_main_v35 val_main_cst_2
  refine (sum01 _ _ j).trans ?_
  rw [Fin.sum_univ_one, Fin.sum_univ_one, val_main_v32_apply, ix1_of (idx_main_v32 (ix3 0 0 j)) j ((by simp) : _ = _)]
  unfold val_main_v31 val_main_cst_1
  refine (sum01 _ _ j).trans (Finset.sum_congr rfl fun b _ => Finset.sum_congr rfl fun s _ => ?_)
  rw [val_main_v30_apply, r_e, r_tap2]; rfl

theorem r_sum1 : val_main_v45 (F := Ideal) D P (ix2 0 j) = ∑ b : Fin 2, ∑ s : Fin 4096, shift (u P b j) 1 s * e D P b j s := by
  rw [val_main_v45_apply, ix1_of (idx_main_v45 (ix2 0 j)) j rfl]
  unfold val_main_v44 val_main_cst_6
  refine (sum01 _ _ j).trans ?_
  rw [Fin.sum_univ_one, Fin.sum_univ_one, val_main_v41_apply, ix1_of (idx_main_v41 (ix3 0 0 j)) j ((by simp) : _ = _)]
  unfold val_main_v40 val_main_cst_5
  refine (sum01 _ _ j).trans (Finset.sum_congr rfl fun b _ => Finset.sum_congr rfl fun s _ => ?_)
  rw [val_main_v39_apply, r_e, r_tap1]; rfl

theorem r_sum0 : val_main_v56 (F := Ideal) D P (ix2 0 j) = ∑ b : Fin 2, ∑ s : Fin 4096, shift (u P b j) 2 s * e D P b j s := by
  rw [val_main_v56_apply, ix1_of (idx_main_v56 (ix2 0 j)) j rfl]
  unfold val_main_v55 val_main_cst_10
  refine (sum01 _ _ j).trans ?_
  rw [Fin.sum_univ_one, Fin.sum_univ_one, val_main_v52_apply, ix1_of (idx_main_v52 (ix3 0 0 j)) j ((by simp) : _ = _)]
  unfold val_main_v51 val_main_cst_9
  refine (sum01 _ _ j).trans (Finset.sum_congr rfl fun b _ => Finset.sum_congr rfl fun s _ => ?_)
  rw [val_main_v50_apply, r_e, r_tap0]; rfl

/-- The second result: the filter's gradient, padded to eight rows. -/
theorem r_dw (k : Fin 8) : val_main_v70 (F := Ideal) D P (ix2 k j)
    = if k.val < 3 then ∑ b : Fin 2, ∑ s : Fin 4096, shift (u P b j) (2 - k.val) s * e D P b j s else 0 := by
  have h2 := r_sum2 D P j
  have h1 := r_sum1 D P j
  have h0 := r_sum0 D P j
  have hz : val_main_call0_v0 (F := Ideal) = fun _ => (0 : EReal) := by
    funext i; rw [val_main_call0_v0_apply, val_main_c_apply]
    show ((((0#32 : BitVec 32).toInt : ℤ) : ℝ) : EReal) = 0
    simp
  unfold val_main_v70
  rw [hz]
  unfold val_main_v58 val_main_v47 val_main_v37 val_main_v46 val_main_v57 val_main_cst_3 val_main_cst_7 val_main_cst_11
  generalize val_main_v36 (F := Ideal) D P = x2 at h2 ⊢
  generalize val_main_v45 (F := Ideal) D P = x1 at h1 ⊢
  generalize val_main_v56 (F := Ideal) D P = x0 at h0 ⊢
  pointwise
  by_cases h : k.val < 3
  swap
  · rw [dif_neg h, if_neg h]
  rw [dif_pos h, if_pos h]
  have g0 : ∀ q : Fin 1, x0 (ix2 q j) = _ := fun q => (congrArg (fun q => x0 (ix2 q j)) (Subsingleton.elim q 0)).trans h0
  have g1 : ∀ q : Fin 1, x1 (ix2 q j) = _ := fun q => (congrArg (fun q => x1 (ix2 q j)) (Subsingleton.elim q 0)).trans h1
  have g2 : ∀ q : Fin 1, x2 (ix2 q j) = _ := fun q => (congrArg (fun q => x2 (ix2 q j)) (Subsingleton.elim q 0)).trans h2
  obtain hk | hk | hk : k.val = 0 ∨ k.val = 1 ∨ k.val = 2 := by omega
  · rw [dif_neg (by omega), dif_neg (by omega), dif_pos (by omega), zero_add, zero_add]
    refine (g0 _).trans ?_
    rw [hk]
  · rw [dif_neg (by omega), dif_pos (by omega), dif_neg (by omega), zero_add, add_zero]
    refine (g1 _).trans ?_
    rw [hk]
  · rw [dif_pos (by omega), dif_neg (by omega), dif_neg (by omega), add_zero, add_zero]
    refine (g2 _).trans ?_
    rw [hk]
    refine Finset.sum_congr rfl fun b _ => Finset.sum_congr rfl fun s _ => ?_
    rw [Nat.sub_self, shift_zero]

/-- The two orders of the filter gradient's sum: over the tiles of the kernel's grid, and over batch and sequence. -/
theorem sum_tiles (k : ℕ) : ∑ t ∈ Finset.range 64, gw D P k t j
    = ∑ b : Fin 2, ∑ s : Fin 4096, shift (u P b j) k s * e D P b j s := by
  unfold gw
  have h : ∀ t, (∑ x : Fin 128, e D P (t / 32) j (t % 32 * 128 + x + k) * u P (t / 32) j (t % 32 * 128 + x))
      = ∑ x ∈ Finset.range 128, (fun b s => e D P b j (s + k) * u P b j s) (t / 32) (t % 32 * 128 + x) := fun t =>
    Fin.sum_univ_eq_sum_range (fun x => e D P (t / 32) j (t % 32 * 128 + x + k) * u P (t / 32) j (t % 32 * 128 + x)) 128
  rw [Finset.sum_congr rfl fun t _ => h t]
  refine (Finset.sum_points_lanes 2 32 128 fun b s => e D P b j (s + k) * u P b j s).trans ?_
  rw [← Fin.sum_univ_eq_sum_range (fun b => ∑ s ∈ Finset.range (32 * 128), e D P b j (s + k) * u P b j s)]
  refine Finset.sum_congr rfl fun b _ => ?_
  rw [Fin.sum_univ_eq_sum_range (fun s => shift (u P b j) k s * e D P b j s) 4096]
  have hs : ∀ N, ∑ s ∈ Finset.range N, e D P b j (s + k) * u P b j s = ∑ s ∈ Finset.range (N + k), shift (u P b j) k s * e D P b j s := by
    intro N
    rw [Nat.add_comm N k, Finset.sum_range_add, Finset.sum_eq_zero (s := Finset.range k), zero_add]
    · refine Finset.sum_congr rfl fun s _ => ?_
      rw [shift_ge (by omega), show k + s - k = s by omega, Nat.add_comm k s, mul_comm]
    · intro s hs; rw [shift_lt (Finset.mem_range.mp hs), zero_mul]
  refine (hs 4096).trans ?_
  rw [Finset.sum_range_add, Finset.sum_eq_zero (s := Finset.range k), add_zero]
  intro s _
  rw [e_zero D P (by omega), mul_zero]

end Cert.Proof.ScConv

end
-- ==== Proof.ScConv.lean ====
/- The short-convolution branch's gradient: the kernel's two results are the reference's. -/
module

public import proofs.«01_k».proof.Defs
public import proofs.«01_k».proof.Proof.ScConvRef
public import proofs.«01_k».proof.Proof.Gen.Reference2Ideal.Run
public import proofs.«01_k».proof.Proof.Gen.Kernel2Ideal
public import proofs.«01_k».proof.Proof.Gen.Reference2Ideal

@[expose] public section

set_option maxRecDepth 16384

noncomputable section

namespace Cert.Proof.ScConv

open Idealize.ShloMosaic Idealize.ShloMosaic.TcCoe Idealize.SL.Sem

variable (D : Cert.Kernel2Ideal.S2x4096x1024.Idx → EReal) (P : Cert.Kernel2Ideal.S2x4096x10368.Idx → EReal)
  (W : Cert.Kernel2Ideal.S3x1024.Idx → EReal) (O : Cert.Kernel2Ideal.S2x4096x10368.Idx → EReal)

theorem out_eq : (fun i : Cert.Kernel2Ideal.S2x4096x10368.Idx =>
      if (i 2).val / 3072 = 0 then written D P W (i 0) (i 1) (i 2) else O i)
    = Cert.Reference2Ideal.Read.val_main_v69 (F := Ideal) D P W O := by
  funext i
  obtain ⟨b, s, k, rfl⟩ : ∃ (b : Fin 2) (s : Fin 4096) (k : Fin 10368), i = ix3 b s k := ⟨i 0, i 1, i 2, (ix3_eta i).symm⟩
  exact (r_out D P W O b s k).symm

theorem dw_eq : (fun i : Cert.Kernel2Ideal.S8x1024.Idx => ∑ t ∈ Finset.range 64, tileRow D P t (i 0).val (i 1).val)
    = Cert.Reference2Ideal.Read.val_main_v70 (F := Ideal) D P := by
  funext i
  obtain ⟨k, j, rfl⟩ : ∃ (k : Fin 8) (j : Fin 1024), i = ix2 k j := ⟨i 0, i 1, (ix2_eta i).symm⟩
  refine Eq.trans ?_ (r_dw D P j k).symm
  show ∑ t ∈ Finset.range 64, (if k.val < 3 then gw D P (2 - k.val) t j.val else 0) = _
  by_cases h : k.val < 3
  · simp only [if_pos h]
    exact sum_tiles D P j (2 - k.val)
  · simp only [if_neg h, Finset.sum_const_zero]

theorem algebraic : Cert.algebraic_Kernel2Ideal_Reference2Ideal := by
  intro m g m' g' _ hm
  refine ⟨_, _, Cert.Kernel2Ideal.Value.run_blocks m g,
    (θ_run Cert.Reference2Ideal.defs _ _).mono (fun r h c => ?_) (Cert.Reference2Ideal.Value.run (F := Ideal) m' g')⟩
  obtain ⟨h0, h1, hk⟩ := h c
  obtain ⟨e0, e1, e2, e3⟩ := hm c
  refine ⟨h0.trans ?_, h1.trans ?_, hk⟩
  · rw [final_out m c, Cert.Reference2Ideal.Read.val_main_v69_eq, e0, e1, e2, e3]
    exact (out_eq _ _ _ _).symm
  · rw [final_dw m c, Cert.Reference2Ideal.Read.val_main_v70_eq, e0, e1]
    exact (dw_eq _ _).symm

end Cert.Proof.ScConv

end
-- ==== Proof.GatedMath.lean ====
/- The gated RMS norm of one row of one group, 512 lanes: the kernel's own order of the gradient's operations and the
   order of the derivative of the plain formula agree wherever the incoming gradient is finite: an infinite gated value makes the row's inverse root, and
   with it the gradient, zero. -/
module

public import proofs.«01_k».proof.Proof.Entries

@[expose] public section

noncomputable section

namespace Cert.Proof.GatedNorm

open Idealize.ShloMosaic

/-- The constants: the number of lanes, the norm's epsilon, and the factor of the inverse root's derivative. -/
abbrev c512 : EReal := Ideal.ofBits .f32 0x44000000#32
abbrev ceps : EReal := Ideal.ofBits .f32 0x358637BD#32
abbrev chalf : EReal := Ideal.ofBits .f32 0xBF000000#32

def sg (z : EReal) : EReal := Ideal.div 1 (1 + Ideal.exp (0 - z))

def sl (z : EReal) : EReal := z * sg z

section Row

variable (y z u : Fin 512 → EReal)

/-- The gated row, the mean of its squares plus epsilon, and the inverse root of that. -/
def yg (l : Fin 512) : EReal := y l * sl (z l)
def msq : EReal := Ideal.div (∑ l, yg y z l * yg y z l) c512 + ceps
def rr : EReal := Ideal.rsqrt (msq y z)
def yhat (l : Fin 512) : EReal := yg y z l * rr y z

/-- The gradient of the gated row, in the kernel's order, and in the derivative's. -/
def dyg (l : Fin 512) : EReal := rr y z * (u l - yhat y z l * Ideal.div (∑ i, u i * yhat y z i) c512)

def slope : EReal := Ideal.div ((∑ i, yg y z i * u i) * (chalf * Ideal.div (rr y z) (msq y z))) c512
def dygRef (l : Fin 512) : EReal := u l * rr y z + yg y z l * slope y z u + slope y z u * yg y z l

/-- The gradient of the gate's argument, in the kernel's order, and in the derivative's. -/
def dz (l : Fin 512) : EReal := dyg y z u l * y l * (sg (z l) * (1 + z l * (1 - sg (z l))))
def dzRef (l : Fin 512) : EReal :=
  y l * dygRef y z u l * sg (z l) + z l * (y l * dygRef y z u l) * (sg (z l) * (1 - sg (z l)))

end Row

theorem coe_sum {ι : Type} (s : Finset ι) (f : ι → ℝ) : ((∑ i ∈ s, f i : ℝ) : EReal) = ∑ i ∈ s, (f i : EReal) := by
  classical
  refine s.induction_on rfl fun a s ha ih => ?_
  rw [Finset.sum_insert ha, Finset.sum_insert ha, EReal.coe_add, ih]

theorem div_coe (a b : ℝ) (h : b ≠ 0) : Ideal.div (a : EReal) (b : EReal) = ((a / b : ℝ) : EReal) := by
  unfold Ideal.div
  rw [if_neg (fun e => h (EReal.coe_eq_zero.mp e)), ← EReal.coe_inv, ← EReal.coe_mul, div_eq_mul_inv]

theorem exp_coe (a : ℝ) : Ideal.exp (a : EReal) = ((Real.exp a : ℝ) : EReal) := rfl

theorem rsqrt_coe (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg h.not_gt, if_neg h.ne']

theorem c512_eq : c512 = ((512 : ℝ) : EReal) := by
  simp [Ideal.ofBits, Ideal.ieee]
  norm_num
  rw [← EReal.coe_mul]
  exact congrArg _ (by norm_num)

theorem chalf_eq : chalf = ((-1 / 2 : ℝ) : EReal) := by
  simp [Ideal.ofBits, Ideal.ieee]
  norm_num
  rw [← EReal.coe_mul]
  exact congrArg _ (by norm_num)

theorem ceps_eq : ∃ e : ℝ, 0 < e ∧ ceps = (e : EReal) := by
  refine ⟨_, ?_, by simp [Ideal.ofBits, Ideal.ieee]; rfl⟩
  positivity

theorem sg_coe (z : ℝ) : sg (z : EReal) = ((1 / (1 + Real.exp (0 - z)) : ℝ) : EReal) := by
  unfold sg
  rw [show (0 : EReal) - (z : EReal) = ((0 - z : ℝ) : EReal) from rfl, exp_coe,
    show (1 : EReal) + ((Real.exp (0 - z) : ℝ) : EReal) = ((1 + Real.exp (0 - z) : ℝ) : EReal) from rfl]
  exact div_coe 1 _ (by positivity)

theorem sg_top : sg ⊤ = 1 := by
  unfold sg
  rw [show (0 : EReal) - ⊤ = ⊥ from rfl, show Ideal.exp ⊥ = 0 from rfl]
  unfold Ideal.div
  simp

theorem sg_bot : sg ⊥ = 0 := by
  unfold sg
  rw [show (0 : EReal) - ⊥ = ⊤ from rfl, show Ideal.exp ⊤ = ⊤ from rfl, show (1 : EReal) + ⊤ = ⊤ from rfl]
  unfold Ideal.div
  simp

theorem real_or {x : EReal} : (∃ a : ℝ, x = a) ∨ x * x = ⊤ := by
  induction x using EReal.rec with
  | bot => exact Or.inr rfl
  | top => exact Or.inr rfl
  | coe a => exact Or.inl ⟨a, rfl⟩

theorem sq_nonneg' (x : EReal) : 0 ≤ x * x := by
  induction x using EReal.rec with
  | bot => exact le_top
  | top => exact le_top
  | coe a => rw [← EReal.coe_mul]; exact EReal.coe_nonneg.mpr (mul_self_nonneg a)

section Finite

variable (w u : Fin 512 → ℝ)

/-- The mean square of a row of reals, with the epsilon. -/
def msqR (e : ℝ) : ℝ := (∑ l, w l * w l) / 512 + e

theorem msqR_pos {e : ℝ} (he : 0 < e) : 0 < msqR w e := by
  unfold msqR
  have : 0 ≤ ∑ l, w l * w l := Finset.sum_nonneg fun l _ => mul_self_nonneg _
  positivity

theorem dyg_real {y z : Fin 512 → EReal} (hw : ∀ l, yg y z l = ((w l : ℝ) : EReal)) (l : Fin 512) :
    dyg y z (fun l => (u l : EReal)) l = dygRef y z (fun l => (u l : EReal)) l
      ∧ ∃ a : ℝ, dyg y z (fun l => (u l : EReal)) l = (a : EReal) := by
  obtain ⟨e, he0, he⟩ := ceps_eq
  have hp := msqR_pos w he0
  have hm : msq y z = ((msqR w e : ℝ) : EReal) := by
    unfold msq msqR
    simp only [hw, ← EReal.coe_mul]
    rw [← coe_sum, c512_eq, he, div_coe _ _ (by norm_num), ← EReal.coe_add]
  have hr : rr y z = (((Real.sqrt (msqR w e))⁻¹ : ℝ) : EReal) := by
    unfold rr; rw [hm, rsqrt_coe _ hp]
  unfold dyg dygRef slope yhat
  simp only [hr, hw, hm, c512_eq, chalf_eq, ← EReal.coe_mul, ← coe_sum, div_coe _ _ hp.ne', div_coe _ _ (show (512 : ℝ) ≠ 0 by norm_num),
    ← EReal.coe_add, ← EReal.coe_sub]
  refine ⟨congrArg _ ?_, _, rfl⟩
  have hs : Real.sqrt (msqR w e) * Real.sqrt (msqR w e) = msqR w e := Real.mul_self_sqrt hp.le
  have hq : 0 < Real.sqrt (msqR w e) := Real.sqrt_pos.mpr hp
  have h1 : ∑ i, u i * (w i * (Real.sqrt (msqR w e))⁻¹) = (∑ i, w i * u i) * (Real.sqrt (msqR w e))⁻¹ := by
    rw [Finset.sum_mul]; exact Finset.sum_congr rfl fun i _ => by ring
  rw [h1]
  generalize (∑ i, w i * u i) = S
  generalize w l = a
  generalize Real.sqrt (msqR w e) = q at hs hq ⊢
  rw [← hs]
  field_simp
  ring

end Finite

variable (y z : Fin 512 → EReal) {u : Fin 512 → EReal}

/-- A row with an infinite gated value: its mean square is infinite, and both gradients are zero. -/
theorem dyg_inf (u : Fin 512 → EReal) {j : Fin 512} (hj : yg y z j * yg y z j = ⊤) (l : Fin 512) :
    dyg y z u l = 0 ∧ dygRef y z u l = 0 := by
  obtain ⟨e, he0, he⟩ := ceps_eq
  have hs : ∑ l, yg y z l * yg y z l = ⊤ :=
    top_le_iff.mp (hj ▸ Finset.single_le_sum (f := fun l => yg y z l * yg y z l) (fun i _ => sq_nonneg' _) (Finset.mem_univ j))
  have hm : msq y z = ⊤ := by
    unfold msq
    rw [hs, c512_eq, he]
    unfold Ideal.div
    rw [if_neg (by norm_num), ← EReal.coe_inv, EReal.top_mul_coe_of_pos (by norm_num)]
    rfl
  have hr : rr y z = 0 := by unfold rr; rw [hm]; rfl
  have h0 : Ideal.div 0 (msq y z) = 0 := by rw [hm]; unfold Ideal.div; simp
  have h1 : slope y z u = 0 := by
    unfold slope
    rw [hr, h0, mul_zero, mul_zero, c512_eq]
    unfold Ideal.div
    rw [if_neg (by norm_num), zero_mul]
  refine ⟨?_, ?_⟩
  · unfold dyg; rw [hr, zero_mul]
  · unfold dygRef; rw [h1, hr]; simp

theorem dyg_row (hu : ∀ l, ∃ a : ℝ, u l = a) (l : Fin 512) : dyg y z u l = dygRef y z u l
    ∧ ∃ a : ℝ, dyg y z u l = a ∧ (yg y z l * yg y z l = ⊤ → a = 0) := by
  by_cases h : ∃ j, yg y z j * yg y z j = ⊤
  · obtain ⟨j, hj⟩ := h
    obtain ⟨h1, h2⟩ := dyg_inf y z u hj l
    exact ⟨h1.trans h2.symm, 0, h1, fun _ => rfl⟩
  · have hw : ∀ l, ∃ a : ℝ, yg y z l = a := fun l => real_or.resolve_right fun e => h ⟨l, e⟩
    choose w hw using hw
    choose u' hu using hu
    obtain rfl : u = fun l => (u' l : EReal) := funext hu
    obtain ⟨h1, a, h2⟩ := dyg_real w u' hw l
    exact ⟨h1, a, h2, fun e => absurd ⟨l, e⟩ h⟩

theorem dyg_eq (hu : ∀ l, ∃ a : ℝ, u l = a) (l : Fin 512) : dyg y z u l = dygRef y z u l := (dyg_row y z hu l).1

/-- The two orders of the gate's derivative agree at a finite gradient `a`, zero where the gated value is infinite. -/
theorem gate_eq (a : ℝ) (y z : EReal) (h : y * sl z * (y * sl z) = ⊤ → a = 0) :
    (a : EReal) * y * (sg z * (1 + z * (1 - sg z))) = y * a * sg z + z * (y * a) * (sg z * (1 - sg z)) := by
  induction z using EReal.rec with
  | bot => rw [sg_bot]; simp
  | top =>
    have h1 : (1 : EReal) - 1 = 0 := by rw [show (1 : EReal) = ((1 : ℝ) : EReal) from rfl, ← EReal.coe_sub, sub_self]; rfl
    rw [sg_top, h1]; simp [mul_comm]
  | coe z =>
    have hs : (0 : ℝ) < 1 / (1 + Real.exp (0 - z)) := by positivity
    have hy : (∃ b : ℝ, y = b) ∨ a = 0 ∨ z = 0 := by
      unfold sl at h
      rw [sg_coe, ← EReal.coe_mul] at h
      generalize (1 / (1 + Real.exp (0 - z)) : ℝ) = s at hs h
      rcases real_or (x := y) with hr | hr
      · exact Or.inl hr
      by_cases hz : z = 0
      · exact Or.inr (Or.inr hz)
      refine Or.inr (Or.inl (h ?_))
      rw [mul_mul_mul_comm, hr, ← EReal.coe_mul]
      exact EReal.top_mul_coe_of_pos (mul_self_pos.mpr (mul_ne_zero hz hs.ne'))
    rw [sg_coe]
    generalize (1 / (1 + Real.exp (0 - z)) : ℝ) = s
    rcases hy with ⟨b, rfl⟩ | rfl | rfl
    · rw [show (1 : EReal) = ((1 : ℝ) : EReal) from rfl]
      simp only [← EReal.coe_mul, ← EReal.coe_add, ← EReal.coe_sub]
      exact congrArg _ (by ring)
    · simp
    · simp [mul_comm]

theorem dz_eq (hu : ∀ l, ∃ a : ℝ, u l = a) (l : Fin 512) : dz y z u l = dzRef y z u l := by
  obtain ⟨h1, a, h2, h3⟩ := dyg_row y z hu l
  unfold dz dzRef
  rw [← h1, h2]
  exact gate_eq a (y l) (z l) h3

end Cert.Proof.GatedNorm

end
-- ==== Proof.GatedTile.lean ====
/- What one grid point of the scan's backward call computes of the gated norm's gradient. -/
module

public import proofs.«01_k».proof.Proof.GatedMath
public import proofs.«01_k».proof.Proof.Entries
public import proofs.«01_k».proof.Proof.Gen.KernelIdeal
public import proofs.«01_k».proof.Proof.Gen.KernelIdeal.Frame
public import Idealize.ShloMosaic.Lib.Pipeline.ValueKit

@[expose] public section

set_option maxRecDepth 16384

noncomputable section

namespace Cert.Proof.GatedNorm

open Cert.KernelIdeal Cert.KernelIdeal.Gen Idealize.ShloMosaic Idealize.ShloMosaic.TcCoe Idealize.SL.Sem
open Idealize.ShloMosaic.Pipeline

section Pay

variable (z dn x : S128x512.Idx → EReal) (y : S1x128x512.Idx → EReal) (gn old : S1x512.Idx → EReal) (r : Fin 128) (l : Fin 512)

/-- Row `r` of the block of values, of the block of gates, and of the gradient times the gain. -/
abbrev yr (l : Fin 512) : EReal := y (ix3 0 r l)
abbrev zr (l : Fin 512) : EReal := z (ix2 r l)
abbrev ur (l : Fin 512) : EReal := dn (ix2 r l) * gn (ix2 0 l)

theorem pay_sg : k0_pay19 (F := Ideal) z (ix2 r l) = sg (z (ix2 r l)) := by
  unfold k0_pay19
  pointwise
  rfl

theorem pay_sl : k0_pay20 (F := Ideal) z (ix2 r l) = sl (z (ix2 r l)) := by
  have h := pay_sg z r l
  unfold k0_pay20
  generalize k0_pay19 (F := Ideal) z = v at h ⊢
  pointwise
  rw [h]; rfl

theorem pay_yg : k0_pay21 (F := Ideal) z y (ix2 r l) = yg (yr y r) (zr z r) l := by
  have h := pay_sl z r l
  unfold k0_pay21 k0_pay13
  generalize k0_pay20 (F := Ideal) z = v at h ⊢
  pointwise
  rw [h]; rfl

theorem pay_rr : k0_pay22 (F := Ideal) z y (ix2 r 0) = rr (yr y r) (zr z r) := by
  have h := fun l => pay_yg z y r l
  unfold k0_pay22
  generalize k0_pay21 (F := Ideal) z y = v at h ⊢
  pointwise
  unfold rr msq
  simp only [h]

theorem pay_yhat : k0_pay23 (F := Ideal) z y (ix2 r l) = yhat (yr y r) (zr z r) l := by
  have h := pay_yg z y r l
  have h' := pay_rr z y r
  unfold k0_pay23
  generalize k0_pay21 (F := Ideal) z y = v at h ⊢
  generalize k0_pay22 (F := Ideal) z y = w at h' ⊢
  pointwise
  rw [h, h']; rfl

theorem pay_dyg : k0_pay26 (F := Ideal) dn gn (k0_pay22 z y) (k0_pay23 z y) (ix2 r l) = dyg (yr y r) (zr z r) (ur dn gn r) l := by
  have h := fun l => pay_yhat z y r l
  have h' := pay_rr z y r
  generalize k0_pay23 (F := Ideal) z y = v at h ⊢
  generalize k0_pay22 (F := Ideal) z y = w at h' ⊢
  unfold k0_pay26
  pointwise
  simp only [h, h']
  rfl

theorem pay_dz : k0_pay28 (F := Ideal) z (k0_pay13 y) dn gn (k0_pay19 z) (k0_pay22 z y) (k0_pay23 z y) (ix3 0 r l)
    = dz (yr y r) (zr z r) (ur dn gn r) l := by
  have h := pay_dyg z dn y gn r l
  have h' := pay_sg z r l
  unfold k0_pay28 k0_pay13
  generalize k0_pay26 (F := Ideal) _ _ _ _ = v at h ⊢
  generalize k0_pay19 (F := Ideal) z = w at h' ⊢
  pointwise
  simp only [h, h']
  rfl

/-- The norm gain's gradient: this tile's rows added. -/
theorem pay_dng : k0_pay25 (F := Ideal) dn (k0_pay23 z y) old (ix2 0 l)
    = old (ix2 0 l) + ∑ r : Fin 128, dn (ix2 r l) * yhat (yr y r) (zr z r) l := by
  have h := fun r => pay_yhat z y r l
  generalize k0_pay23 (F := Ideal) z y = v at h ⊢
  unfold k0_pay25
  pointwise
  simp only [h]

/-- The skip's gradient, per channel: this tile's rows added. -/
theorem pay_ddsk : k0_pay30 (F := Ideal) x dn gn (k0_pay20 z) (k0_pay22 z y) (k0_pay23 z y) old (ix2 0 l)
    = old (ix2 0 l) + ∑ r : Fin 128, dyg (yr y r) (zr z r) (ur dn gn r) l * sl (zr z r l) * x (ix2 r l) := by
  have h := fun r => pay_dyg z dn y gn r l
  have h' := fun r => pay_sl z r l
  unfold k0_pay30 k0_pay27
  generalize k0_pay26 (F := Ideal) _ _ _ _ = v at h ⊢
  generalize k0_pay20 (F := Ideal) z = w at h' ⊢
  pointwise
  simp only [h, h']

end Pay

variable (m : (ℓ : Loc nD τ sig) → Buf (Elt Ideal) ℓ) (c : Dev nD)

/-- The arguments the gated norm's gradient reads: the scan's output, its input, the projection, the skip per channel, the
norm's gain, the array written in place, and the gradient at the norm's output. -/
abbrev A0 : S2x4096x32x64.Idx → EReal := m ((c : Thread nD τ).loc main_arg0)
abbrev A1 : S2x4096x32x64.Idx → EReal := m ((c : Thread nD τ).loc main_arg1)
abbrev P : S2x4096x10368.Idx → EReal := m ((c : Thread nD τ).loc main_arg8)
abbrev K : S2048.Idx → EReal := m ((c : Thread nD τ).loc main_arg9)
abbrev G : S2048.Idx → EReal := m ((c : Thread nD τ).loc main_arg10)
abbrev O : S2x4096x10368.Idx → EReal := m ((c : Thread nD τ).loc main_arg11)
abbrev DY : S2x4096x2048.Idx → EReal := m ((c : Thread nD τ).loc main_arg12)

/-- The heads side by side. -/
def flat (A : S2x4096x32x64.Idx → EReal) : S2x4096x2048.Idx → EReal :=
  shapeCast S2x4096x2048 A shapeCasts_S2x4096x32x64_S2x4096x2048
/-- The scan's output with the skip added. -/
def skip (A0 A1 : S2x4096x32x64.Idx → EReal) (K : S2048.Idx → EReal) : S2x4096x2048.Idx → EReal :=
  fun i => flat A0 i + K (ix1 (i 2)) * flat A1 i
def gain (G : S2048.Idx → EReal) : S1x2048.Idx → EReal := fun i => G (ix1 (i 1))

theorem V_y : V m c main_v5 = skip (A0 m c) (A1 m c) (K m c) := by
  simp only [V]
  after_results
  funext i
  obtain ⟨b, s, k, rfl⟩ : ∃ (b : Fin 2) (s : Fin 4096) (k : Fin 2048), i = ix3 b s k := ⟨i 0, i 1, i 2, (ix3_eta i).symm⟩
  unfold skip flat
  pointwise

theorem V_gain : V m c main_v10 = gain (G m c) := by
  simp only [V]
  after_results
  funext i
  obtain ⟨b, k, rfl⟩ : ∃ (b : Fin 1) (k : Fin 2048), i = ix2 b k := ⟨i 0, i 1, (ix2_eta i).symm⟩
  unfold gain
  pointwise

/-- The scan's input, as the call's block of inputs lays it out: in group `g`, the first 512 of 768 columns. -/
theorem V_x (b : Fin 2) (s : Fin 4096) (g : Fin 4) (l : Fin 512) :
    (V m c main_v8 : S2x4096x3072.Idx → EReal) (ix3 b s ⟨g.val * 768 + l.val, by omega⟩)
      = at3 (flat (A1 m c)) b s (g.val * 512 + l.val) := by
  simp only [V]
  after_results
  pointwise
  refine (dif_pos (by omega)).trans ?_
  repeat (first
    | rw [StableHlo.reshape_result]
    | (rw [StableHlo.reshape_result_ne]; rotate_left; decide)
    | (rw [StableHlo.binary_result_ne]; rotate_left; decide)
    | (rw [StableHlo.unary_result_ne]; rotate_left; decide))
  unfold flat
  rw [← at3_ix _ b s ⟨g.val * 512 + l.val, by omega⟩]
  pointwise
  exact congrArg (A1 m c) (congrArg₂ (ix4 b s) (Fin.ext (by
    show g.val * 8 + (g.val * 768 + l.val) % 768 / 64 = (g.val * 512 + l.val) / 64
    omega)) (Fin.ext (by
    show (g.val * 768 + l.val) % 768 % 64 = (g.val * 512 + l.val) % 64
    omega)))

theorem x_at {b s g : ℕ} (hb : b < 2) (hs : s < 4096) (hg : g < 4) (l : Fin 512) :
    at3 (V m c main_v8 : S2x4096x3072.Idx → EReal) b s (g * 768 + l) = at3 (flat (A1 m c)) b s (g * 512 + l) :=
  (at3_ix (V m c main_v8 : S2x4096x3072.Idx → EReal) ⟨b, hb⟩ ⟨s, hs⟩ ⟨g * 768 + l.val, by omega⟩).symm.trans
    (V_x m c ⟨b, hb⟩ ⟨s, hs⟩ ⟨g, hg⟩ l)

theorem index0 : ∀ t : Fin cfg0.N, win0_0.index t = ![t.val % 64 / 32, 31 - t.val % 32, t.val / 64] :=
  (by decide +kernel : ∀ t : Fin grid0.N, _)
theorem index1 : ∀ t : Fin cfg0.N, win0_1.index t = ![t.val % 64 / 32, 31 - t.val % 32, t.val / 64] :=
  (by decide +kernel : ∀ t : Fin grid0.N, _)
theorem index2 : ∀ t : Fin cfg0.N, win0_2.index t = ![t.val % 64 / 32, 31 - t.val % 32, 12 + t.val / 64] :=
  (by decide +kernel : ∀ t : Fin grid0.N, _)
theorem index3 : ∀ t : Fin cfg0.N, win0_3.index t = ![t.val % 64 / 32, 31 - t.val % 32, t.val / 64] :=
  (by decide +kernel : ∀ t : Fin grid0.N, _)
theorem index9 : ∀ t : Fin cfg0.N, win0_9.index t = ![0, t.val / 64] := (by decide +kernel : ∀ t : Fin grid0.N, _)
theorem index10 : ∀ t : Fin cfg0.N,
    (win0_10.index t 0 = t.val % 64 / 32 ∧ win0_10.index t 1 = 31 - t.val % 32) ∧ win0_10.index t 2 = 12 + t.val / 64 :=
  (by decide +kernel : ∀ t : Fin grid0.N, _)
theorem index14 : ∀ t : Fin cfg0.N, win0_14.index t 0 = 0 ∧ win0_14.index t 1 = t.val / 64 :=
  (by decide +kernel : ∀ t : Fin grid0.N, _)
theorem index15 : ∀ t : Fin cfg0.N, win0_15.index t 0 = 0 ∧ win0_15.index t 1 = t.val / 64 :=
  (by decide +kernel : ∀ t : Fin grid0.N, _)

/-! ## A row of a group: batch row `b`, position `s`, group `g` -/

def yrow (A0 A1 : S2x4096x32x64.Idx → EReal) (K : S2048.Idx → EReal) (b s g : ℕ) (l : Fin 512) : EReal :=
  at3 (skip A0 A1 K) b s (g * 512 + l)
def zrow (P : S2x4096x10368.Idx → EReal) (b s g : ℕ) (l : Fin 512) : EReal := at3 P b s (6144 + (g * 512 + l))
def urow (DY : S2x4096x2048.Idx → EReal) (G : S2048.Idx → EReal) (b s g : ℕ) (l : Fin 512) : EReal :=
  at3 DY b s (g * 512 + l) * at2 (gain G) 0 (g * 512 + l)

variable (t : Fin cfg0.N) (r : Fin 128) (l : Fin 512)

/-- The position of row `r` of the point's blocks: the positions run backwards. -/
abbrev pos (t : ℕ) (r : ℕ) : ℕ := (31 - t % 32) * 128 + r

theorem y_row : yr (iblk m c 1 t) r = yrow (A0 m c) (A1 m c) (K m c) (t.val % 64 / 32) (pos t r) (t.val / 64) := by
  funext l
  unfold yr yrow
  rw [← V_y m c]
  refine at3_of (V m c main_v5) _ ?_ ?_ ?_ <;> blk_simp [index1] <;> simp [win0_1]

theorem z_row : zr (k0_pay12 (X0_2 m c t)) r = zrow (P m c) (t.val % 64 / 32) (pos t r) (t.val / 64) := by
  funext l
  unfold zr zrow k0_pay12
  pointwise
  unfold P; rw [← V_main_arg8 m c]
  unfold X0_2 Window.fill; rw [dif_pos (moved0_2 t _)]; unfold iblk
  refine at3_of (V m c main_arg8) _ ?_ ?_ ?_ <;> blk_simp [index2] <;> simp [win0_2]
  omega

theorem d_tile : k0_pay14 (F := Ideal) (iblk m c 0 t) (ix2 r l) = at3 (DY m c) (t.val % 64 / 32) (pos t r) (t.val / 64 * 512 + l) := by
  unfold k0_pay14
  pointwise
  unfold DY; rw [← V_main_arg12 m c]
  refine at3_of (V m c main_arg12) _ ?_ ?_ ?_ <;> blk_simp [index0] <;> simp [win0_0]

theorem g_tile : k0_pay18 (F := Ideal) (iblk m c 9 t) (ix2 0 l) = at2 (gain (G m c)) 0 (t.val / 64 * 512 + l) := by
  unfold k0_pay18
  pointwise
  rw [← V_gain m c]
  refine at2_of (V m c main_v10) _ ?_ ?_ <;> blk_simp [index9] <;> simp [win0_9]

theorem u_row : ur (k0_pay14 (iblk m c 0 t)) (k0_pay18 (iblk m c 9 t)) r
    = urow (DY m c) (G m c) (t.val % 64 / 32) (pos t r) (t.val / 64) := by
  funext l
  unfold ur urow
  rw [d_tile, g_tile]

theorem x_read (A : S2x4096x3072.Idx → EReal) (y : (⟨3, ![1, 128, 768]⟩ : Shape).Idx) (h0 : (y 0).val = 0) :
    A ((win0_3.blk t).view.emb y) = at3 A (t.val % 64 / 32) (pos t (y 1).val) (t.val / 64 * 768 + (y 2).val) := by
  refine at3_of (n0 := 2) (n1 := 4096) (n2 := 3072) A _ ?_ ?_ ?_ <;> blk_simp [index3] <;> simp [win0_3, h0]

theorem x_of (A : S2x4096x3072.Idx → EReal) (l : Fin 768) : View.read (Elt Ideal) ((cfg0.win 3).blk t).view A (ix3 0 r l)
    = at3 A (t.val % 64 / 32) (pos t r) (t.val / 64 * 768 + l) := x_read t A (ix3 0 r l) rfl

theorem x_arr (l : Fin 768) : (iblk m c 3 t : Vec Ideal S1x128x768 .f32) (ix3 0 r l)
    = at3 (V m c (arrRef spec0 3) : S2x4096x3072.Idx → EReal) (t.val % 64 / 32) (pos t r) (t.val / 64 * 768 + l) :=
  x_of t r (V m c (arrRef spec0 3)) l

theorem x_ref : at3 (V m c (arrRef spec0 3) : S2x4096x3072.Idx → EReal) = at3 (V m c main_v8 : S2x4096x3072.Idx → EReal) := rfl

theorem x_tile : k0_pay11 (F := Ideal) (View.ld (iblk m c 3 t) (Rect.unit ![0, 0, 0] ![1, 128, 512] inb_S1x128x768_S1x128x512_0_0_0)) (ix2 r l)
    = at3 (flat (A1 m c)) (t.val % 64 / 32) (pos t r) (t.val / 64 * 512 + l) := by
  have ht : t.val < 256 := t.isLt
  have h := x_arr m c t r ⟨l.val, by omega⟩
  rw [x_ref m c, x_at m c (by omega) (by unfold pos; omega) (by omega) l] at h
  generalize (iblk m c 3 t : Vec Ideal S1x128x768 .f32) = v at h ⊢
  unfold k0_pay11
  pointwise
  exact h

end Cert.Proof.GatedNorm

end
-- ==== Proof.GatedRun.lean ====
/- The gated norm's gradient in the arrays the scan's backward call leaves. -/
module

public import proofs.«01_k».proof.Proof.GatedTile
public import proofs.«01_k».proof.Proof.Entries
public import proofs.«01_k».proof.Proof.Gen.KernelIdeal
public import proofs.«01_k».proof.Proof.Gen.KernelIdeal.Frame
public import Idealize.ShloMosaic.Lib.Pipeline.ValueKit

@[expose] public section

set_option maxRecDepth 16384

noncomputable section

namespace Cert.Proof.GatedNorm

open Cert.KernelIdeal Cert.KernelIdeal.Gen Idealize.ShloMosaic Idealize.ShloMosaic.TcCoe Idealize.SL.Sem
open Idealize.ShloMosaic.Pipeline

variable (m : (ℓ : Loc nD τ sig) → Buf (Elt Ideal) ℓ) (c : Dev nD)

/-- The gradient of the gate's argument at batch row `b`, position `s`, column `k` of the gates. -/
def dzAt (A0 A1 : S2x4096x32x64.Idx → EReal) (P : S2x4096x10368.Idx → EReal) (K G : S2048.Idx → EReal)
    (DY : S2x4096x2048.Idx → EReal) (b s k : ℕ) : EReal :=
  dz (yrow A0 A1 K b s (k / 512)) (zrow P b s (k / 512)) (urow DY G b s (k / 512)) ⟨k % 512, Nat.mod_lt _ (by decide)⟩
/-- What one row adds to the skip's gradient at column `l` of group `g`, and to the gain's. -/
def ddskAt (A0 A1 : S2x4096x32x64.Idx → EReal) (P : S2x4096x10368.Idx → EReal) (K G : S2048.Idx → EReal)
    (DY : S2x4096x2048.Idx → EReal) (b s g : ℕ) (l : Fin 512) : EReal :=
  dyg (yrow A0 A1 K b s g) (zrow P b s g) (urow DY G b s g) l * sl (zrow P b s g l) * at3 (flat A1) b s (g * 512 + l)
def dngAt (A0 A1 : S2x4096x32x64.Idx → EReal) (P : S2x4096x10368.Idx → EReal) (K : S2048.Idx → EReal)
    (DY : S2x4096x2048.Idx → EReal) (b s g : ℕ) (l : Fin 512) : EReal :=
  at3 DY b s (g * 512 + l) * yhat (yrow A0 A1 K b s g) (zrow P b s g) l

variable (t : Fin cfg0.N) (r : Fin 128) (l : Fin 512)

/-- What a grid point leaves in the in-place output's block. -/
theorem tile_dz : ((outsAt0 m c t.val t.isLt).1 : Vec Ideal S1x128x512 .bf16) (ix3 0 r l)
    = dzAt (A0 m c) (A1 m c) (P m c) (K m c) (G m c) (DY m c) (t.val % 64 / 32) (pos t r) (t.val / 64 * 512 + l) := by
  have h := pay_dz (k0_pay12 (X0_2 m c t)) (k0_pay14 (iblk m c 0 t)) (iblk m c 1 t) (k0_pay18 (iblk m c 9 t)) r l
  rw [y_row, z_row, u_row] at h
  have hl : l.val < 512 := l.isLt
  unfold dzAt
  rw [show (t.val / 64 * 512 + l.val) / 512 = t.val / 64 by omega,
    show (⟨(t.val / 64 * 512 + l.val) % 512, Nat.mod_lt _ (by decide)⟩ : Fin 512) = l from Fin.ext (by
      show (t.val / 64 * 512 + l.val) % 512 = l.val
      omega), ← h]
  by_cases h0 : t.val % 32 = 0
  · by_cases h1 : t.val % 64 = 0
    · rw [outsAt0_A m c t h0 h1]; frame_out
    · rw [outsAt0_C m c t h0 h1]; frame_out
  · rw [outsAt0_B m c t h0 (by omega)]; frame_out

theorem tile_dz_at (y : S1x128x512.Idx) : ((outsAt0 m c t.val t.isLt).1 : Vec Ideal S1x128x512 .bf16) y
    = dzAt (A0 m c) (A1 m c) (P m c) (K m c) (G m c) (DY m c) (t.val % 64 / 32) (pos t (y 1).val) (t.val / 64 * 512 + (y 2).val) := by
  obtain ⟨a, r, l, rfl⟩ : ∃ (a : Fin 1) (r : Fin 128) (l : Fin 512), y = ix3 a r l := ⟨y 0, y 1, y 2, (ix3_eta y).symm⟩
  obtain rfl : a = 0 := Subsingleton.elim _ _
  exact tile_dz m c t r l

/-- What a grid point adds to the skip's gradient, and to the gain's. -/
def tileK (A0 A1 : S2x4096x32x64.Idx → EReal) (P : S2x4096x10368.Idx → EReal) (K G : S2048.Idx → EReal)
    (DY : S2x4096x2048.Idx → EReal) (t : ℕ) (l : Fin 512) : EReal :=
  ∑ r : Fin 128, ddskAt A0 A1 P K G DY (t % 64 / 32) (pos t r) (t / 64) l
def tileG (A0 A1 : S2x4096x32x64.Idx → EReal) (P : S2x4096x10368.Idx → EReal) (K : S2048.Idx → EReal)
    (DY : S2x4096x2048.Idx → EReal) (t : ℕ) (l : Fin 512) : EReal :=
  ∑ r : Fin 128, dngAt A0 A1 P K DY (t % 64 / 32) (pos t r) (t / 64) l

theorem add_k (old : S1x512.Idx → EReal) : k0_pay30 (F := Ideal)
    (k0_pay11 (View.ld (iblk m c 3 t) (Rect.unit ![0, 0, 0] ![1, 128, 512] inb_S1x128x768_S1x128x512_0_0_0)))
    (k0_pay14 (iblk m c 0 t)) (k0_pay18 (iblk m c 9 t)) (k0_pay20 (k0_pay12 (X0_2 m c t)))
    (k0_pay22 (k0_pay12 (X0_2 m c t)) (iblk m c 1 t)) (k0_pay23 (k0_pay12 (X0_2 m c t)) (iblk m c 1 t)) old (ix2 0 l)
      = old (ix2 0 l) + tileK (A0 m c) (A1 m c) (P m c) (K m c) (G m c) (DY m c) t l := by
  refine (pay_ddsk _ _ _ _ _ old l).trans (congrArg (old (ix2 0 l) + ·) (Finset.sum_congr rfl fun r _ => ?_))
  rw [y_row, z_row, u_row, x_tile]
  rfl

theorem add_g (old : S1x512.Idx → EReal) : k0_pay25 (F := Ideal) (k0_pay14 (iblk m c 0 t))
    (k0_pay23 (k0_pay12 (X0_2 m c t)) (iblk m c 1 t)) old (ix2 0 l)
      = old (ix2 0 l) + tileG (A0 m c) (A1 m c) (P m c) (K m c) (DY m c) t l := by
  refine (pay_dng _ _ _ old l).trans (congrArg (old (ix2 0 l) + ·) (Finset.sum_congr rfl fun r _ => ?_))
  rw [y_row, z_row, d_tile]
  rfl

theorem k_step (h : ¬ t.val % 64 = 0) (y : S1x512.Idx) : ((outsAt0 m c t.val t.isLt).2.2.2.2.1 : Vec Ideal S1x512 .f32) y
    = ((outsAt0 m c (t.val - 1) (Nat.lt_of_le_of_lt (Nat.sub_le _ _) t.isLt)).2.2.2.2.1 : Vec Ideal S1x512 .f32) y
      + tileK (A0 m c) (A1 m c) (P m c) (K m c) (G m c) (DY m c) t (y 1) := by
  obtain ⟨k, l, rfl⟩ : ∃ (k : Fin 1) (l : Fin 512), y = ix2 k l := ⟨y 0, y 1, (ix2_eta y).symm⟩
  obtain rfl : k = 0 := Subsingleton.elim _ _
  refine Eq.trans ?_ (add_k m c t l _)
  by_cases h0 : t.val % 32 = 0
  · rw [outsAt0_C m c t h0 h]; frame_out; rfl
  · rw [outsAt0_B m c t h0 h]; frame_out; rfl

theorem k_reset (h : t.val % 64 = 0) (y : S1x512.Idx) : ((outsAt0 m c t.val t.isLt).2.2.2.2.1 : Vec Ideal S1x512 .f32) y
    = (0 : EReal) + tileK (A0 m c) (A1 m c) (P m c) (K m c) (G m c) (DY m c) t (y 1) := by
  obtain ⟨k, l, rfl⟩ : ∃ (k : Fin 1) (l : Fin 512), y = ix2 k l := ⟨y 0, y 1, (ix2_eta y).symm⟩
  obtain rfl : k = 0 := Subsingleton.elim _ _
  have hz : (k0_pay3 (F := Ideal)) (ix2 (0 : Fin 1) l : S1x512.Idx) = 0 := by unfold k0_pay3; pointwise
  refine Eq.trans ?_ ((add_k m c t l (k0_pay3 (F := Ideal))).trans (congrArg (· + tileK _ _ _ _ _ _ _ _) hz))
  rw [outsAt0_A m c t (by omega) h]; frame_out; rfl

theorem g_step (h : ¬ t.val % 64 = 0) (y : S1x512.Idx) : ((outsAt0 m c t.val t.isLt).2.2.2.2.2.1 : Vec Ideal S1x512 .f32) y
    = ((outsAt0 m c (t.val - 1) (Nat.lt_of_le_of_lt (Nat.sub_le _ _) t.isLt)).2.2.2.2.2.1 : Vec Ideal S1x512 .f32) y
      + tileG (A0 m c) (A1 m c) (P m c) (K m c) (DY m c) t (y 1) := by
  obtain ⟨k, l, rfl⟩ : ∃ (k : Fin 1) (l : Fin 512), y = ix2 k l := ⟨y 0, y 1, (ix2_eta y).symm⟩
  obtain rfl : k = 0 := Subsingleton.elim _ _
  refine Eq.trans ?_ (add_g m c t l _)
  by_cases h0 : t.val % 32 = 0
  · rw [outsAt0_C m c t h0 h]; frame_out; unfold k0_pay24; pointwise
  · rw [outsAt0_B m c t h0 h]; frame_out; unfold k0_pay24; pointwise

theorem g_reset (h : t.val % 64 = 0) (y : S1x512.Idx) : ((outsAt0 m c t.val t.isLt).2.2.2.2.2.1 : Vec Ideal S1x512 .f32) y
    = (0 : EReal) + tileG (A0 m c) (A1 m c) (P m c) (K m c) (DY m c) t (y 1) := by
  obtain ⟨k, l, rfl⟩ : ∃ (k : Fin 1) (l : Fin 512), y = ix2 k l := ⟨y 0, y 1, (ix2_eta y).symm⟩
  obtain rfl : k = 0 := Subsingleton.elim _ _
  have hz : (k0_pay24 (F := Ideal) (k0_pay4 (F := Ideal))) (ix2 (0 : Fin 1) l : S1x512.Idx) = 0 := by
    unfold k0_pay24 k0_pay4; pointwise
  refine Eq.trans ?_ ((add_g m c t l (k0_pay24 (F := Ideal) (k0_pay4 (F := Ideal)))).trans (congrArg (· + tileG _ _ _ _ _ _ _) hz))
  rw [outsAt0_A m c t (by omega) h]; frame_out

theorem V_out : V m c main_v11_0 = O m c := by
  simp only [V]
  after_results
  rfl

theorem final_dz : (dats m 0 c).arrAt 10 cfg0.N
    = fun i : S2x4096x10368.Idx => if 12 ≤ (i 2).val / 512 ∧ (i 2).val / 512 < 16 then
        dzAt (A0 m c) (A1 m c) (P m c) (K m c) (G m c) (DY m c) (i 0).val (i 1).val ((i 2).val - 6144) else O m c i := by
  refine ((dats m 0 c).arrAt_eq_of_coversWhere 10 (fun i : S2x4096x10368.Idx =>
        dzAt (A0 m c) (A1 m c) (P m c) (K m c) (G m c) (DY m c) (i 0).val (i 1).val ((i 2).val - 6144))
          (P := fun i : S2x4096x10368.Idx => 12 ≤ (i 2).val / 512 ∧ (i 2).val / 512 < 16)
          (fun β => 12 ≤ β (2 : Fin _) ∧ β (2 : Fin _) < 16) (by decide +kernel)
          (fun t hf y => ?_) (fun j => Iff.rfl)).trans ?_
  · blk_simp
    rw [after0_10, (index10 t).1.1, (index10 t).1.2, (index10 t).2]
    refine (tile_dz_at m c t _).trans (congrArg₂ (dzAt (A0 m c) (A1 m c) (P m c) (K m c) (G m c) (DY m c) · (pos t (y 1).val) ·) ?_ ?_)
    · have h2 : ((cfg0.win 10).xinj (cfg0.grid.coords t) y 0).val < 1 := ((cfg0.win 10).xinj (cfg0.grid.coords t) y 0).isLt
      replace h2 : (y 0).val = 0 := Nat.lt_one_iff.mp h2
      rw [h2, Nat.add_zero]
    · show t.val / 64 * 512 + (y 2).val = (12 + t.val / 64) * 512 + (y 2).val - 6144
      omega
  · rw [A_eq]
    funext i
    show (if 12 ≤ (i 2).val / 512 ∧ (i 2).val / 512 < 16 then _ else V m c main_v11_0 i) = _
    rw [V_out]

theorem flush14 : ∀ t : Fin cfg0.N, (cfg0.win 14).flush t = true → t.val % 64 = 63 := (by decide +kernel : ∀ t : Fin grid0.N, _)
theorem flush15 : ∀ t : Fin cfg0.N, (cfg0.win 15).flush t = true → t.val % 64 = 63 := (by decide +kernel : ∀ t : Fin grid0.N, _)

/-- The contributions of a group's 64 points, at column `n` of the groups side by side. -/
def total (f : ℕ → Fin 512 → EReal) (n : ℕ) : EReal :=
  ∑ k ∈ Finset.range 64, f (64 * (n / 512) + k) ⟨n % 512, Nat.mod_lt _ (by decide)⟩

theorem total_at (f : ℕ → Fin 512 → EReal) {t : ℕ} (ht : t % 64 = 63) (l : Fin 512) {n : ℕ} (hn : n = t / 64 * 512 + l.val) :
    (0 : EReal) + ∑ k ∈ Finset.range (t % 64 + 1), f (64 * (t / 64) + k) l = total f n := by
  have hl : l.val < 512 := l.isLt
  unfold total
  rw [zero_add, ht, show n / 512 = t / 64 by omega,
    show (⟨n % 512, Nat.mod_lt _ (by decide)⟩ : Fin 512) = l from Fin.ext (by show n % 512 = l.val; omega)]

/-- The skip's gradient per channel: the 64 points of the channel's group added up. -/
theorem final_k : (dats m 0 c).arrAt 14 cfg0.N
    = fun i : S1x2048.Idx => total (tileK (A0 m c) (A1 m c) (P m c) (K m c) (G m c) (DY m c)) (i 1).val := by
  refine (dats m 0 c).arrAt_eq_of_covers 14 _ (by decide +kernel) (fun t hf y => ?_)
  have ht := flush14 t hf
  blk_simp
  rw [after0_14, (index14 t).2]
  exact (eq_sum_of_reset_step_apply (fun n h => ((outsAt0 m c n h).2.2.2.2.1 : S1x512.Idx → EReal)) 64 (fun _ => (0 : EReal))
    (fun t y => tileK (A0 m c) (A1 m c) (P m c) (K m c) (G m c) (DY m c) t (y 1)) (k_reset m c) (k_step m c) t y).trans
    (total_at _ ht (y 1) rfl)

/-- The norm gain's gradient, likewise. -/
theorem final_g : (dats m 0 c).arrAt 15 cfg0.N
    = fun i : S1x2048.Idx => total (tileG (A0 m c) (A1 m c) (P m c) (K m c) (DY m c)) (i 1).val := by
  refine (dats m 0 c).arrAt_eq_of_covers 15 _ (by decide +kernel) (fun t hf y => ?_)
  have ht := flush15 t hf
  blk_simp
  rw [after0_15, (index15 t).2]
  exact (eq_sum_of_reset_step_apply (fun n h => ((outsAt0 m c n h).2.2.2.2.2.1 : S1x512.Idx → EReal)) 64 (fun _ => (0 : EReal))
    (fun t y => tileG (A0 m c) (A1 m c) (P m c) (K m c) (DY m c) t (y 1)) (g_reset m c) (g_step m c) t y).trans
    (total_at _ ht (y 1) rfl)

/-- A group's contributions, row by row: the points run over the batch and, backwards, over the blocks of positions. -/
theorem sum_rows (g : ℕ → ℕ → EReal) : ∑ k ∈ Finset.range 64, ∑ r : Fin 128, g (k / 32) ((31 - k % 32) * 128 + r)
    = ∑ b : Fin 2, ∑ s : Fin 4096, g b s := by
  rw [Fin.sum_univ_eq_sum_range (fun b => ∑ s : Fin 4096, g b s) 2, show 64 = 2 * 32 from rfl, Finset.sum_range_mul_split]
  refine Finset.sum_congr rfl fun b _ => ?_
  rw [Fin.sum_univ_eq_sum_range (g b) 4096, show 4096 = 32 * 128 from rfl, Finset.sum_range_mul_split, ← Finset.sum_range_reflect]
  refine Finset.sum_congr rfl fun k hk => ?_
  have hk' := Finset.mem_range.mp hk
  rw [show (b * 32 + (32 - 1 - k)) / 32 = b by omega, show 31 - (b * 32 + (32 - 1 - k)) % 32 = k by omega]
  exact Fin.sum_univ_eq_sum_range (fun r => g b (k * 128 + r)) 128

theorem total_rows (f : ℕ → ℕ → ℕ → Fin 512 → EReal) (n : ℕ) :
    total (fun t l => ∑ r : Fin 128, f (t % 64 / 32) (pos t r) (t / 64) l) n
      = ∑ b : Fin 2, ∑ s : Fin 4096, f b s (n / 512) ⟨n % 512, Nat.mod_lt _ (by decide)⟩ := by
  refine Eq.trans ?_ (sum_rows fun b s => f b s (n / 512) ⟨n % 512, Nat.mod_lt _ (by decide)⟩)
  refine Finset.sum_congr rfl fun k hk => Finset.sum_congr rfl fun r _ => ?_
  have hk' := Finset.mem_range.mp hk
  rw [show (64 * (n / 512) + k) % 64 / 32 = k / 32 by omega, show (64 * (n / 512) + k) / 64 = n / 512 by omega]
  unfold pos
  rw [show (64 * (n / 512) + k) % 32 = k % 32 by omega]

end Cert.Proof.GatedNorm

end
-- ==== Proof.GatedRef.lean ====
/- The gated norm's gradient as the reference computes it, row by row. -/
module

public import proofs.«01_k».proof.Proof.GatedTile
public import proofs.«01_k».proof.Proof.Entries
public import proofs.«01_k».proof.Proof.GatedRun
public import proofs.«01_k».proof.Proof.Gen.ReferenceIdeal.Read
public import Idealize.ShloMosaic.Lib.Pipeline.ValueKit

@[expose] public section

set_option maxRecDepth 16384

noncomputable section

namespace Cert.Proof.GatedNorm

open Cert.ReferenceIdeal Cert.ReferenceIdeal.Gen Cert.ReferenceIdeal.Read Idealize.ShloMosaic Idealize.ShloMosaic.TcCoe Idealize.SL.Sem
open Idealize.ShloMosaic.Pipeline

variable (X0 X1 : S2x4096x32x64.Idx → EReal) (X8 : S2x4096x10368.Idx → EReal) (X9 X10 : S2048.Idx → EReal)
  (X12 : S2x4096x2048.Idx → EReal) (b : Fin 2) (s : Fin 4096) (g : Fin 4) (l : Fin 512) (k : Fin 2048)

/-- Column `l` of group `g`, among the groups side by side; and a column's group and its place there. -/
abbrev col (g : Fin 4) (l : Fin 512) : Fin 2048 := ⟨g.val * 512 + l.val, by omega⟩
abbrev grp (k : Fin 2048) : Fin 4 := ⟨k.val / 512, by omega⟩
abbrev lane (k : Fin 2048) : Fin 512 := ⟨k.val % 512, by omega⟩

theorem r_y : val_main_v6 (F := Ideal) X0 X1 X9 = skip X0 X1 X9 := by
  funext i
  obtain ⟨b, s, k, rfl⟩ : ∃ (b : Fin 2) (s : Fin 4096) (k : Fin 2048), i = ix3 b s k := ⟨i 0, i 1, i 2, (ix3_eta i).symm⟩
  unfold val_main_v6 val_main_v5 val_main_v4 val_main_v3 val_main_v2 val_main_v1 skip flat
  pointwise

theorem r_z : val_main_v0 (F := Ideal) X8 (ix3 b s k) = at3 X8 b s (6144 + k) := by
  unfold val_main_v0
  pointwise
  exact at3_ix X8 b s ⟨6144 + k.val, by omega⟩

theorem r_sg : val_main_v7_2 (F := Ideal) X8 (ix3 b s k) = sg (at3 X8 b s (6144 + k)) := by
  have h := r_z X8 b s k
  unfold val_main_v7_2 val_main_call0_v4 val_main_call0_v3 val_main_call0_v2 val_main_call0_v1 val_main_call0_v0 val_main_call0_cst
    val_main_call0_cst_0
  generalize val_main_v0 (F := Ideal) X8 = v at h ⊢
  pointwise
  rw [h]; unfold sg; rw [zero_sub]

theorem r_sgc : val_main_v7_1 (F := Ideal) X8 (ix3 b s k) = sg (at3 X8 b s (6144 + k)) * (1 - sg (at3 X8 b s (6144 + k))) := by
  have h := r_sg X8 b s k
  unfold val_main_v7_1 val_main_call0_v7 val_main_call0_v6 val_main_call0_cst_1
  generalize val_main_v7_2 (F := Ideal) X8 = v at h ⊢
  pointwise
  rw [h]

theorem r_sl : val_main_v7_0 (F := Ideal) X8 (ix3 b s k) = sl (at3 X8 b s (6144 + k)) := by
  rw [val_main_v7_0_apply, r_sg, r_z]; rfl

theorem r_yg : val_main_v9 (F := Ideal) X0 X1 X8 X9 (ix4 b s g l) = yg (yrow X0 X1 X9 b s g) (zrow X8 b s g) l := by
  have h : ∀ k, val_main_v8 (F := Ideal) X0 X1 X8 X9 (ix3 b s k) = at3 (skip X0 X1 X9) b s k * sl (at3 X8 b s (6144 + k)) := by
    intro k; rw [val_main_v8_apply, r_y, r_sl, at3_ix (skip X0 X1 X9)]; rfl
  unfold val_main_v9
  generalize val_main_v8 (F := Ideal) X0 X1 X8 X9 = v at h ⊢
  pointwise
  exact h (col g l)

theorem r_msq : val_main_v16 (F := Ideal) X0 X1 X8 X9 (ix4 b s g 0) = msq (yrow X0 X1 X9 b s g) (zrow X8 b s g) := by
  have h : val_main_v11 (F := Ideal) X0 X1 X8 X9 (ix3 b s g)
      = 0 + ∑ l, yg (yrow X0 X1 X9 b s g) (zrow X8 b s g) l * yg (yrow X0 X1 X9 b s g) (zrow X8 b s g) l := by
    rw [val_main_v11_apply]
    refine congrArg₂ (· + ·) ?_ (Finset.sum_congr rfl fun l _ => ?_)
    · unfold val_main_cst; pointwise
    · rw [val_main_v10_apply, show idx_main_v11 (ix3 b s g) l = ix4 b s g l from ?_, r_yg]
      · rfl
      · exact (ix4_eta (n0 := 2) (n1 := 4096) (n2 := 4) (n3 := 512) _).symm
  unfold val_main_v16 val_main_v15 val_main_v14 val_main_v13 val_main_v12 val_main_cst_0 val_main_cst_1
  generalize val_main_v11 (F := Ideal) X0 X1 X8 X9 = v at h ⊢
  pointwise
  rw [h, zero_add]; rfl

theorem r_rr : val_main_v17 (F := Ideal) X0 X1 X8 X9 (ix4 b s g 0) = rr (yrow X0 X1 X9 b s g) (zrow X8 b s g) := by
  rw [val_main_v17_apply, r_msq]; rfl

theorem r_yhat : val_main_v22 (F := Ideal) X0 X1 X8 X9 (ix4 b s g l) = yhat (yrow X0 X1 X9 b s g) (zrow X8 b s g) l := by
  have h := r_yg X0 X1 X8 X9 b s g l
  have h' := r_rr X0 X1 X8 X9 b s g
  unfold val_main_v22 val_main_v21
  generalize val_main_v9 (F := Ideal) X0 X1 X8 X9 = v at h ⊢
  generalize val_main_v17 (F := Ideal) X0 X1 X8 X9 = w at h' ⊢
  pointwise
  rw [h, h']; rfl

theorem r_u : val_main_v33 (F := Ideal) X10 X12 (ix4 b s g l) = urow X12 X10 b s g l := by
  have h : ∀ k, val_main_v31 (F := Ideal) X10 X12 (ix3 b s k) = at3 X12 b s k * at2 (gain X10) 0 k := by
    intro k
    unfold val_main_v31 val_main_v30 val_main_v24
    pointwise
    rw [at3_ix X12]
    exact congrArg (at3 X12 b s k * ·) (at2_ix (gain X10) (0 : Fin 1) k)
  unfold val_main_v33
  generalize val_main_v31 (F := Ideal) X10 X12 = v at h ⊢
  pointwise
  exact h (col g l)

theorem r_slope : val_main_v43 (F := Ideal) X0 X1 X8 X9 X10 X12 (ix4 b s g l)
    = slope (yrow X0 X1 X9 b s g) (zrow X8 b s g) (urow X12 X10 b s g) := by
  have h : val_main_v35 (F := Ideal) X0 X1 X8 X9 X10 X12 (ix3 b s g)
      = 0 + ∑ l, yg (yrow X0 X1 X9 b s g) (zrow X8 b s g) l * urow X12 X10 b s g l := by
    rw [val_main_v35_apply]
    refine congrArg₂ (· + ·) ?_ (Finset.sum_congr rfl fun l _ => ?_)
    · unfold val_main_cst_5; pointwise
    · rw [val_main_v34_apply, show idx_main_v35 (ix3 b s g) l = ix4 b s g l from ?_, r_yg, r_u]
      · rfl
      · exact (ix4_eta (n0 := 2) (n1 := 4096) (n2 := 4) (n3 := 512) _).symm
  have h1 : val_main_v41 (F := Ideal) X0 X1 X8 X9 X10 X12 (ix4 b s g 0)
      = slope (yrow X0 X1 X9 b s g) (zrow X8 b s g) (urow X12 X10 b s g) := by
    have h2 := r_msq X0 X1 X8 X9 b s g
    have h3 := r_rr X0 X1 X8 X9 b s g
    unfold val_main_v41 val_main_v40 val_main_v39 val_main_v36 val_main_v20 val_main_v19 val_main_v18 val_main_cst_2 val_main_cst_6
    generalize val_main_v35 (F := Ideal) X0 X1 X8 X9 X10 X12 = v at h ⊢
    generalize val_main_v16 (F := Ideal) X0 X1 X8 X9 = w at h2 ⊢
    generalize val_main_v17 (F := Ideal) X0 X1 X8 X9 = w' at h3 ⊢
    pointwise
    rw [h, h2, h3, zero_add]; rfl
  have h4 : val_main_v42 (F := Ideal) X0 X1 X8 X9 X10 X12 (ix3 b s g)
      = slope (yrow X0 X1 X9 b s g) (zrow X8 b s g) (urow X12 X10 b s g) := by
    rw [val_main_v42_apply, Fin.sum_univ_one, show idx_main_v42 (ix3 b s g) 0 = ix4 b s g 0 from
      (ix4_eta (n0 := 2) (n1 := 4096) (n2 := 4) (n3 := 1) _).symm, h1]
    refine (congrArg (· + _) ?_).trans (zero_add _)
    unfold val_main_cst_7; pointwise
  unfold val_main_v43
  generalize val_main_v42 (F := Ideal) X0 X1 X8 X9 X10 X12 = v at h4 ⊢
  pointwise
  exact h4

theorem r_dyg : val_main_v47 (F := Ideal) X0 X1 X8 X9 X10 X12 (ix4 b s g l)
    = dygRef (yrow X0 X1 X9 b s g) (zrow X8 b s g) (urow X12 X10 b s g) l := by
  have h := r_rr X0 X1 X8 X9 b s g
  have h1 : val_main_v37 (F := Ideal) X0 X1 X8 X9 (ix4 b s g l) = rr (yrow X0 X1 X9 b s g) (zrow X8 b s g) := by
    unfold val_main_v37
    generalize val_main_v17 (F := Ideal) X0 X1 X8 X9 = v at h ⊢
    pointwise
    exact h
  rw [val_main_v47_apply, val_main_v45_apply, val_main_v46_apply, val_main_v44_apply, val_main_v38_apply, r_slope, r_u, r_yg, h1]
  rfl

theorem r_dyg3 : val_main_v48 (F := Ideal) X0 X1 X8 X9 X10 X12 (ix3 b s k)
    = dygRef (yrow X0 X1 X9 b s (grp k)) (zrow X8 b s (grp k)) (urow X12 X10 b s (grp k)) (lane k) := by
  have h := r_dyg X0 X1 X8 X9 X10 X12 b s (grp k) (lane k)
  unfold val_main_v48
  generalize val_main_v47 (F := Ideal) X0 X1 X8 X9 X10 X12 = v at h ⊢
  pointwise
  exact h

theorem r_yhat3 : val_main_v23 (F := Ideal) X0 X1 X8 X9 (ix3 b s k) = yhat (yrow X0 X1 X9 b s (grp k)) (zrow X8 b s (grp k)) (lane k) := by
  have h := r_yhat X0 X1 X8 X9 b s (grp k) (lane k)
  unfold val_main_v23
  generalize val_main_v22 (F := Ideal) X0 X1 X8 X9 = v at h ⊢
  pointwise
  exact h

theorem grp_lane : (grp k).val * 512 + (lane k).val = k.val := by
  show k.val / 512 * 512 + k.val % 512 = k.val
  omega

theorem r_dz : val_main_v51 (F := Ideal) X0 X1 X8 X9 X10 X12 (ix3 b s k)
    = dzRef (yrow X0 X1 X9 b s (grp k)) (zrow X8 b s (grp k)) (urow X12 X10 b s (grp k)) (lane k) := by
  rw [val_main_v51_apply, val_main_call1_v1_apply, val_main_call1_v2_apply, val_main_call1_v0_apply, val_main_v49_apply, r_dyg3, r_sg,
    r_sgc, r_z, r_y, at3_ix (skip X0 X1 X9)]
  unfold dzRef
  have hz : zrow X8 b s (grp k) (lane k) = at3 X8 b s (6144 + k) := by unfold zrow; rw [grp_lane]
  have hy : yrow X0 X1 X9 b s (grp k) (lane k) = at3 (skip X0 X1 X9) b s k := by unfold yrow; rw [grp_lane]
  rw [hz, hy]
  rfl

theorem sum01_2048 {n0 n1 : ℕ} (h : (⟨3, ![n0, n1, 2048]⟩ : Shape).ReducesTo [0, 1] S2048)
    (v : (⟨3, ![n0, n1, 2048]⟩ : Shape).Idx → EReal) (j : Fin 2048) :
    (Host.reduceAdd (F := Ideal) (φ := .f32) v (constant S_ .f32 0x00000000#32) h h_S_ : S2048.Idx → EReal) (ix1 j)
      = ∑ a : Fin n0, ∑ b : Fin n1, v (ix3 a b j) := by
  refine (hostSum01 h v _ j).trans ?_
  refine (congrArg (· + _) ?_).trans (zero_add _)
  pointwise

/-- The skip's gradient per channel. -/
theorem r_ddsk : val_main_v60 (F := Ideal) X0 X1 X8 X9 X10 X12 (ix2 0 k) = ∑ b : Fin 2, ∑ s : Fin 4096,
    dygRef (yrow X0 X1 X9 b s (grp k)) (zrow X8 b s (grp k)) (urow X12 X10 b s (grp k)) (lane k)
      * sl (zrow X8 b s (grp k) (lane k)) * at3 (flat X1) b s k := by
  have h53 : val_main_v53 (F := Ideal) X0 X1 X8 X9 X10 X12 (ix1 k)
      = ∑ b : Fin 2, ∑ s : Fin 4096, val_main_v52 (F := Ideal) X0 X1 X8 X9 X10 X12 (ix3 b s k) := by
    unfold val_main_v53 val_main_cst_8
    exact sum01_2048 _ _ k
  have h55 : val_main_v55 (F := Ideal) X0 X1 X8 X9 X10 X12 (ix1 k) = val_main_v53 (F := Ideal) X0 X1 X8 X9 X10 X12 (ix1 k) := by
    unfold val_main_v55 val_main_cst_9
    refine (sum01_2048 _ _ k).trans ?_
    rw [Fin.sum_univ_one, Fin.sum_univ_one]
    unfold val_main_v54
    generalize val_main_v53 (F := Ideal) X0 X1 X8 X9 X10 X12 = v
    pointwise
  have h60 : val_main_v60 (F := Ideal) X0 X1 X8 X9 X10 X12 (ix2 0 k) = val_main_v55 (F := Ideal) X0 X1 X8 X9 X10 X12 (ix1 k) := by
    unfold val_main_v60
    generalize val_main_v55 (F := Ideal) X0 X1 X8 X9 X10 X12 = v
    pointwise
  refine h60.trans (h55.trans (h53.trans (Finset.sum_congr rfl fun b _ => Finset.sum_congr rfl fun s _ => ?_)))
  have hz : zrow X8 b s (grp k) (lane k) = at3 X8 b s (6144 + k) := by unfold zrow; rw [grp_lane]
  rw [val_main_v52_apply, val_main_v50_apply, r_dyg3, r_sl, hz, ← at3_ix (flat X1)]
  rfl

/-- The norm gain's gradient. -/
theorem r_dng : val_main_v61 (F := Ideal) X0 X1 X8 X9 X12 (ix2 0 k) = ∑ b : Fin 2, ∑ s : Fin 4096,
    yhat (yrow X0 X1 X9 b s (grp k)) (zrow X8 b s (grp k)) (lane k) * at3 X12 b s k := by
  have h28 : val_main_v28 (F := Ideal) X0 X1 X8 X9 X12 (ix1 k)
      = ∑ b : Fin 2, ∑ s : Fin 4096, val_main_v27 (F := Ideal) X0 X1 X8 X9 X12 (ix3 b s k) := by
    unfold val_main_v28 val_main_cst_3
    exact sum01_2048 _ _ k
  have h32 : val_main_v32 (F := Ideal) X0 X1 X8 X9 X12 (ix1 k) = val_main_v28 (F := Ideal) X0 X1 X8 X9 X12 (ix1 k) := by
    unfold val_main_v32 val_main_cst_4
    refine (sum01_2048 _ _ k).trans ?_
    rw [Fin.sum_univ_one, Fin.sum_univ_one]
    unfold val_main_v29
    generalize val_main_v28 (F := Ideal) X0 X1 X8 X9 X12 = v
    pointwise
  have h61 : val_main_v61 (F := Ideal) X0 X1 X8 X9 X12 (ix2 0 k) = val_main_v32 (F := Ideal) X0 X1 X8 X9 X12 (ix1 k) := by
    unfold val_main_v61
    generalize val_main_v32 (F := Ideal) X0 X1 X8 X9 X12 = v
    pointwise
  refine h61.trans (h32.trans (h28.trans (Finset.sum_congr rfl fun b _ => Finset.sum_congr rfl fun s _ => ?_)))
  rw [val_main_v27_apply, r_yhat3, at3_ix X12]
  rfl

end Cert.Proof.GatedNorm

end
-- ==== Proof.GatedNorm.lean ====
/- The scan's backward call: its gradients through the gated norm are the derivative's, at a finite gain
   and a finite incoming gradient. -/
module

public import proofs.«01_k».proof.Defs
public import proofs.«01_k».proof.Proof.GatedRun
public import proofs.«01_k».proof.Proof.GatedRef
public import proofs.«01_k».proof.Proof.Gen.ReferenceIdeal.Run
public import proofs.«01_k».proof.Proof.Gen.Pre_finite
public import Idealize.ShloMosaic.Lib.ReduceAll

@[expose] public section

set_option maxRecDepth 16384

noncomputable section

namespace Cert.Proof.GatedNorm

open Cert.ReferenceIdeal Cert.ReferenceIdeal.Gen Cert.ReferenceIdeal.Read Idealize.ShloMosaic Idealize.ShloMosaic.TcCoe Idealize.SL.Sem
open Idealize.ShloMosaic.Pipeline

/-! ## The precondition, read -/

theorem real_of_lt {x : EReal} (h : Ideal.cmp .olt (max x (-x)) (Ideal.ofBits .f32 0x7F800000#32) = 1#1) : ∃ a : ℝ, x = a := by
  have h' : max x (-x) < (⊤ : EReal) := by
    rw [show (⊤ : EReal) = Ideal.ofBits .f32 0x7F800000#32 by simp [Ideal.ofBits, Ideal.ieee]]
    rw [Ideal.cmp_olt] at h
    by_contra hn
    simp [hn] at h
  induction x using EReal.rec with
  | bot => exact absurd h' (by simp)
  | top => exact absurd h' (by simp)
  | coe a => exact ⟨a, rfl⟩

theorem both {a b : BitVec 1} : IntOp.andi a b = 1#1 → a = 1#1 ∧ b = 1#1 := by revert a b; decide

instance : Subsingleton Cert.Pre_finite.S_.Idx := ⟨fun a b => funext fun x => x.elim0⟩

theorem finite_args {X0 X1 : S2x4096x32x64.Idx → EReal} {X8 : S2x4096x10368.Idx → EReal} {X9 X10 : S2048.Idx → EReal}
    {X12 : S2x4096x2048.Idx → EReal} {X2 X3 X4 X5 X6 X7 X11}
    (h : Cert.Pre_finite.fn (F := Ideal) X0 X1 X2 X3 X4 X5 X6 X7 X8 X9 X10 X11 X12 = fun _ => 1#1) :
    (∀ i, ∃ a : ℝ, X10 i = a) ∧ ∀ i, ∃ a : ℝ, X12 i = a := by
  have h := congrFun h (fun x => x.elim0)
  simp only [Cert.Pre_finite.fn] at h
  obtain ⟨h10, h12⟩ := both h
  exact ⟨fun i => real_of_lt (Host.reduce_andi_all _ _ _ _ _ h10 i), fun i => real_of_lt (Host.reduce_andi_all _ _ _ _ _ h12 i)⟩

section Rows

variable {X0 X1 : S2x4096x32x64.Idx → EReal} {X8 : S2x4096x10368.Idx → EReal} {X9 X10 : S2048.Idx → EReal}
  {X12 : S2x4096x2048.Idx → EReal} (h10 : ∀ i, ∃ a : ℝ, X10 i = a) (h12 : ∀ i, ∃ a : ℝ, X12 i = a)
  (b : Fin 2) (s : Fin 4096) (k : Fin 2048)

theorem real_at3 {n0 n1 n2 : ℕ} {A : (⟨3, ![n0, n1, n2]⟩ : Shape).Idx → EReal} (h : ∀ i, ∃ a : ℝ, A i = a) (a b c : ℕ) :
    ∃ r : ℝ, at3 A a b c = r := by
  unfold at3
  split
  · exact h _
  · exact ⟨0, rfl⟩

theorem real_at2 {n0 n1 : ℕ} {A : (⟨2, ![n0, n1]⟩ : Shape).Idx → EReal} (h : ∀ i, ∃ a : ℝ, A i = a) (a b : ℕ) :
    ∃ r : ℝ, at2 A a b = r := by
  unfold at2
  split
  · exact h _
  · exact ⟨0, rfl⟩

include h10 h12 in
theorem real_u (l : Fin 512) : ∃ a : ℝ, urow X12 X10 b s (grp k) l = a := by
  obtain ⟨p, hp⟩ := real_at3 h12 b s ((grp k).val * 512 + l.val)
  obtain ⟨q, hq⟩ := real_at2 (A := gain X10) (fun _ => h10 _) 0 ((grp k).val * 512 + l.val)
  exact ⟨p * q, by unfold urow; rw [hp, hq, EReal.coe_mul]⟩

/-! ## The three results, entry by entry -/

variable (X11 : S2x4096x10368.Idx → EReal)

/-- The reference's first result: the columns of the gate, and around them the array written in place. -/
theorem r_proj (q : Fin 10368) : val_main_v59 (F := Ideal) X0 X1 X8 X9 X10 X11 X12 (ix3 b s q)
    = if h : 6144 ≤ q.val ∧ q.val < 8192 then
        val_main_v51 (F := Ideal) X0 X1 X8 X9 X10 X12 (ix3 b s ⟨q.val - 6144, by omega⟩)
      else X11 (ix3 b s q) := by
  have h0 : ∀ k : Fin 6144, val_main_v56 (F := Ideal) X11 (ix3 b s k) = X11 (ix3 b s ⟨k.val, by omega⟩) := by
    intro k; unfold val_main_v56; pointwise
  have h1 : ∀ k : Fin 2048, val_main_v57 (F := Ideal) X0 X1 X8 X9 X10 X12 (ix3 b s k)
      = val_main_v51 (F := Ideal) X0 X1 X8 X9 X10 X12 (ix3 b s k) := fun _ => rfl
  have h2 : ∀ k : Fin 2176, val_main_v58 (F := Ideal) X11 (ix3 b s k) = X11 (ix3 b s ⟨8192 + k.val, by omega⟩) := by
    intro k; unfold val_main_v58; pointwise
  unfold val_main_v59
  generalize val_main_v56 (F := Ideal) X11 = x0 at h0 ⊢
  generalize val_main_v57 (F := Ideal) X0 X1 X8 X9 X10 X12 = x1 at h1 ⊢
  generalize val_main_v58 (F := Ideal) X11 = x2 at h2 ⊢
  pointwise
  by_cases h : q.val < 6144
  · have e : ¬(6144 ≤ q.val ∧ q.val < 8192) := by omega
    refine (dif_pos h).trans ((h0 ⟨q.val, h⟩).trans ?_)
    rw [dif_neg e]
  refine (dif_neg h).trans ?_
  by_cases h' : q.val - 6144 < 2048
  · have e : 6144 ≤ q.val ∧ q.val < 8192 := by omega
    refine (dif_pos h').trans ((h1 ⟨q.val - 6144, h'⟩).trans ?_)
    rw [dif_pos e]
  have e : ¬(6144 ≤ q.val ∧ q.val < 8192) := by omega
  refine (dif_neg h').trans ((h2 ⟨q.val - 6144 - 2048, by omega⟩).trans ?_)
  rw [dif_neg e]
  refine congrArg (fun p => X11 (ix3 b s p)) (Fin.ext ?_)
  show 8192 + (q.val - 6144 - 2048) = q.val
  omega

include h10 h12

theorem eq_dz (i : S2x4096x10368.Idx) : val_main_v59 (F := Ideal) X0 X1 X8 X9 X10 X11 X12 i
    = if 12 ≤ (i 2).val / 512 ∧ (i 2).val / 512 < 16 then
        dzAt X0 X1 X8 X9 X10 X12 (i 0).val (i 1).val ((i 2).val - 6144) else X11 i := by
  obtain ⟨b, s, q, rfl⟩ : ∃ (b : Fin 2) (s : Fin 4096) (q : Fin 10368), i = ix3 b s q := ⟨i 0, i 1, i 2, (ix3_eta i).symm⟩
  rw [r_proj]
  show _ = if 12 ≤ q.val / 512 ∧ q.val / 512 < 16 then dzAt X0 X1 X8 X9 X10 X12 b.val s.val (q.val - 6144) else _
  by_cases h : 6144 ≤ q.val ∧ q.val < 8192
  · rw [dif_pos h, if_pos (by omega), r_dz]
    exact (dz_eq _ _ (real_u h10 h12 b s _) _).symm
  · rw [dif_neg h, if_neg (by omega)]

theorem eq_ddsk (i : S1x2048.Idx) : val_main_v60 (F := Ideal) X0 X1 X8 X9 X10 X12 i
    = total (tileK X0 X1 X8 X9 X10 X12) (i 1).val := by
  obtain ⟨a, k, rfl⟩ : ∃ (a : Fin 1) (k : Fin 2048), i = ix2 a k := ⟨i 0, i 1, (ix2_eta i).symm⟩
  obtain rfl : a = 0 := Subsingleton.elim _ _
  refine (r_ddsk X0 X1 X8 X9 X10 X12 k).trans (Eq.trans ?_ (total_rows (ddskAt X0 X1 X8 X9 X10 X12) k.val).symm)
  refine Finset.sum_congr rfl fun b _ => Finset.sum_congr rfl fun s _ => ?_
  rw [← dyg_eq _ _ (real_u h10 h12 b s k)]
  unfold ddskAt
  rw [show k.val / 512 * 512 + (⟨k.val % 512, Nat.mod_lt _ (by decide)⟩ : Fin 512).val = k.val from grp_lane k]

omit h10 h12 in
theorem eq_dng (i : S1x2048.Idx) : val_main_v61 (F := Ideal) X0 X1 X8 X9 X12 i = total (tileG X0 X1 X8 X9 X12) (i 1).val := by
  obtain ⟨a, k, rfl⟩ : ∃ (a : Fin 1) (k : Fin 2048), i = ix2 a k := ⟨i 0, i 1, (ix2_eta i).symm⟩
  obtain rfl : a = 0 := Subsingleton.elim _ _
  refine (r_dng X0 X1 X8 X9 X12 k).trans (Eq.trans ?_ (total_rows (dngAt X0 X1 X8 X9 X12) k.val).symm)
  refine Finset.sum_congr rfl fun b _ => Finset.sum_congr rfl fun s _ => ?_
  unfold dngAt
  rw [show k.val / 512 * 512 + (⟨k.val % 512, Nat.mod_lt _ (by decide)⟩ : Fin 512).val = k.val from grp_lane k, mul_comm]

end Rows

theorem algebraic : Cert.algebraic_KernelIdeal_ReferenceIdeal_pre_finite := by
  intro m g m' g' hp hm
  refine ⟨fun c => (Cert.KernelIdeal.Gen.dats m 0 c).arrAt 10 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    (θ_run Cert.KernelIdeal.defs _ _).mono (fun r h c => ⟨(h.1 c).1 10, (h.1 c).1 14, (h.1 c).1 15, h.2 c⟩)
      (θ_run_and (Cert.KernelIdeal.Gen.run_main m g) (Cert.KernelIdeal.Gen.unchanged m g)),
    (θ_run Cert.ReferenceIdeal.defs _ _).mono (fun r h c => ?_) (Cert.ReferenceIdeal.Value.run (F := Ideal) m' g')⟩
  obtain ⟨r0, r1, r2, hk⟩ := h c
  obtain ⟨e0, e1, -, -, -, -, -, -, e8, e9, e10, e11, e12⟩ := hm c
  obtain ⟨h10, h12⟩ := finite_args (hp c)
  refine ⟨r0.trans (Eq.trans ?_ (final_dz m c).symm), r1.trans (Eq.trans ?_ (final_k m c).symm),
    r2.trans (Eq.trans ?_ (final_g m c).symm), hk⟩
  · rw [val_main_v59_eq, e0, e1, e8, e9, e10, e11, e12]
    funext i
    exact eq_dz h10 h12 _ i
  · rw [val_main_v60_eq, e0, e1, e8, e9, e10, e12]
    funext i
    exact eq_ddsk h10 h12 i
  · rw [val_main_v61_eq, e0, e1, e8, e9, e12]
    funext i
    exact eq_dng i

end Cert.Proof.GatedNorm

end
-- ==== Proof.MatKit.lean ====
/- What the blocked products share: two sequences' rows under one index, and a sum taken block by block. -/
module

public import proofs.«01_k».proof.Proof.Entries
public import Idealize.ShloMosaic.Lib.Pipeline.ValueKit

@[expose] public section

set_option maxRecDepth 16384

noncomputable section

namespace Cert.Proof

open Idealize.ShloMosaic

variable {n : ℕ}

/-- Entry `k` of row `r`, the rows of both sequences counted through. -/
def rowAt (D : (⟨3, ![2, 4096, n]⟩ : Shape).Idx → EReal) (r k : ℕ) : EReal := at3 D (r / 4096) (r % 4096) k

theorem rowAt_of (D : (⟨3, ![2, 4096, n]⟩ : Shape).Idx → EReal) {r k : ℕ} (z : (⟨3, ![2, 4096, n]⟩ : Shape).Idx)
    (h0 : (z 0).val * 4096 + (z 1).val = r) (h1 : (z 2).val = k) : D z = rowAt D r k := by
  have hz : (z 1).val < 4096 := (z 1).isLt
  exact at3_of D z (by omega) (by omega) h1

/-- The rows laid out under one index. -/
theorem flat_rows (D : (⟨3, ![2, 4096, n]⟩ : Shape).Idx → EReal)
    (h : (⟨3, ![2, 4096, n]⟩ : Shape).ShapeCasts ⟨2, ![8192, n]⟩) (i : (⟨2, ![8192, n]⟩ : Shape).Idx) :
    shapeCast (⟨2, ![8192, n]⟩ : Shape) D h i = rowAt D (i 0).val (i 1).val := by
  obtain ⟨r, k, rfl⟩ : ∃ (r : Fin 8192) (k : Fin n), i = ix2 r k := ⟨i 0, i 1, (ix2_eta i).symm⟩
  have hr : r.val < 8192 := r.isLt
  refine (shapeCast_apply D h (ix2 r k) (ix3 (⟨r.val / 4096, by omega⟩ : Fin 2) (⟨r.val % 4096, by omega⟩ : Fin 4096) k) ?_).trans
    (rowAt_of D _ ?_ rfl)
  · rw [Shape.rowMajor_val_three, Shape.rowMajor_val_two]
    show (r.val / 4096 * 4096 + r.val % 4096) * n + k.val = r.val * n + k.val
    rw [Nat.div_add_mod']
  · show r.val / 4096 * 4096 + r.val % 4096 = r.val
    exact Nat.div_add_mod' _ _

/-- A sum over `K` blocks of `L` is the sum over all. -/
theorem sum_blocks (K L : ℕ) (g : ℕ → EReal) :
    ∑ k ∈ Finset.range K, ∑ l : Fin L, g (k * L + l.val) = ∑ x ∈ Finset.range (K * L), g x := by
  rw [Finset.sum_range_mul_split]
  exact Finset.sum_congr rfl fun k _ => Fin.sum_univ_eq_sum_range (fun l => g (k * L + l)) L

/-- A sum over `Fin K`, entry by entry one over the numbers below `K`. -/
theorem sum_fin {K : ℕ} (f : Fin K → EReal) (g : ℕ → EReal) (h : ∀ k, f k = g k.val) : ∑ k, f k = ∑ k ∈ Finset.range K, g k :=
  (Finset.sum_congr rfl fun k _ => h k).trans (Fin.sum_univ_eq_sum_range g K)

/-- The sum over both sequences' positions is the sum over the rows. -/
theorem sum_rows (g : ℕ → EReal) :
    ∑ a : Fin 2, ∑ b : Fin 4096, g (a.val * 4096 + b.val) = ∑ x ∈ Finset.range 8192, g x := by
  rw [← sum_blocks 2 4096 g]
  exact Fin.sum_univ_eq_sum_range (fun a => ∑ b : Fin 4096, g (a * 4096 + b.val)) 2

/-- Row `r` of the rows against column `j` of the weights. -/
def dotNN {K n : ℕ} (D : (⟨3, ![2, 4096, K]⟩ : Shape).Idx → EReal) (W : (⟨2, ![K, n]⟩ : Shape).Idx → EReal) (r j : ℕ) : EReal :=
  ∑ k ∈ Finset.range K, rowAt D r k * at2 W k j

/-- Row `r` of the rows against row `j` of the weights: the product with the weights' transpose. -/
def dotNT {K n : ℕ} (D : (⟨3, ![2, 4096, K]⟩ : Shape).Idx → EReal) (W : (⟨2, ![n, K]⟩ : Shape).Idx → EReal) (r j : ℕ) : EReal :=
  ∑ k ∈ Finset.range K, rowAt D r k * at2 W j k

/-- Column `r` of one set of rows against column `j` of another. -/
def dotTN {p n : ℕ} (X : (⟨3, ![2, 4096, p]⟩ : Shape).Idx → EReal) (D : (⟨3, ![2, 4096, n]⟩ : Shape).Idx → EReal) (r j : ℕ) : EReal :=
  ∑ k ∈ Finset.range 8192, rowAt X k r * rowAt D k j

/-- An accumulator cleared at the first of every `J` points, to which each point adds `L` summands of its run's sum,
    holds at the last of them the whole sum: `g q y k` is summand `k` of run `q` at entry `y`. -/
theorem sum_run {ι : Type} {N : ℕ} (acc : (n : ℕ) → n < N → ι → EReal) (J L : ℕ) (g : ℕ → ι → ℕ → EReal)
    (h0 : ∀ t : Fin N, t.val % J = 0 → ∀ y, acc t.val t.isLt y = (0 : EReal) + ∑ l : Fin L, g (t.val / J) y (t.val % J * L + l.val))
    (hs : ∀ t : Fin N, ¬t.val % J = 0 → ∀ y, acc t.val t.isLt y
      = acc (t.val - 1) (Nat.lt_of_le_of_lt (Nat.sub_le _ _) t.isLt) y + ∑ l : Fin L, g (t.val / J) y (t.val % J * L + l.val))
    (hJ : 0 < J) (t : Fin N) (ht : t.val % J = J - 1) (y : ι) :
    acc t.val t.isLt y = ∑ k ∈ Finset.range (J * L), g (t.val / J) y k := by
  refine (Pipeline.eq_sum_of_reset_step_apply acc J (fun _ => (0 : EReal))
    (fun t y => ∑ l : Fin L, g (t / J) y (t % J * L + l.val)) h0 hs t y).trans ?_
  rw [zero_add, ht, ← sum_blocks J L, show J - 1 + 1 = J by omega]
  refine Finset.sum_congr rfl fun k hk => Finset.sum_congr rfl fun l _ => ?_
  have hk' := Finset.mem_range.mp hk
  rw [show (J * (t.val / J) + k) % J = k by rw [Nat.mul_add_mod, Nat.mod_eq_of_lt hk'],
    show (J * (t.val / J) + k) / J = t.val / J by rw [Nat.mul_add_div hJ, Nat.div_eq_of_lt hk', Nat.add_zero]]

end Cert.Proof

end
-- ==== Proof.Mat3.lean ====
/- The gradient of the input projection's argument: the blocked product is the reference's. -/
module

public import proofs.«01_k».proof.Defs
public import proofs.«01_k».proof.Proof.MatKit
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Proof.Mat3

open Cert.Kernel3Ideal Cert.Kernel3Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x10368.Idx → EReal := m ((c : Thread nD τ).loc main_arg0)
abbrev B : S1024x10368.Idx → EReal := m ((c : Thread nD τ).loc main_arg1)

theorem index0 : ∀ t : Fin cfg0.N, win0_0.index t 0 = t.val / 9 ∧ win0_0.index t 1 = t.val % 9 :=
  (by decide +kernel : ∀ t : Fin grid0.N, _)

theorem index1 : ∀ t : Fin cfg0.N, win0_1.index t 0 = 0 ∧ win0_1.index t 1 = t.val % 9 :=
  (by decide +kernel : ∀ t : Fin grid0.N, _)

theorem V_in : V m c main_v0 = shapeCast S8192x10368 (A m c) shapeCasts_S2x4096x10368_S8192x10368 := by
  simp only [V, hostOps0]
  after_results
  try rfl

theorem V_row (i : S8192x10368.Idx) : (V m c main_v0 : S8192x10368.Idx → EReal) i = rowAt (A m c) (i 0).val (i 1).val := by
  rw [V_in]
  exact flat_rows _ _ _

theorem a_tile (t : Fin cfg0.N) (x : S2048x1152.Idx) : (iblk m c 0 t : S2048x1152.Idx → EReal) x
    = rowAt (A m c) (t.val / 9 * 2048 + (x 0).val) (t.val % 9 * 1152 + (x 1).val) := by
  unfold iblk
  blk_simp [index0]
  refine (V_row m c _).trans ?_
  have h0 : ((win0_0.blk t).view.emb x 0).val = win0_0.index t 0 * 2048 + 1 * (x 0).val := rfl
  have h1 : ((win0_0.blk t).view.emb x 1).val = win0_0.index t 1 * 1152 + 1 * (x 1).val := rfl
  rw [h0, h1, (index0 t).1, (index0 t).2, Nat.one_mul, Nat.one_mul]

theorem b_tile (t : Fin cfg0.N) (x : S1024x1152.Idx) : (iblk m c 1 t : S1024x1152.Idx → EReal) x
    = at2 (B m c) ((x 0).val) (t.val % 9 * 1152 + (x 1).val) := by
  unfold iblk
  blk_simp [index1]
  rw [V_main_arg1]
  refine at2_of _ _ ?_ ?_
  · show win0_1.index t 0 * 1024 + 1 * (x 0).val = _
    rw [(index1 t).1, Nat.one_mul, Nat.zero_mul, Nat.zero_add]
  · show win0_1.index t 1 * 1152 + 1 * (x 1).val = _
    rw [(index1 t).2, Nat.one_mul]

/-- What column `k` adds to entry `y` of tile `q`. -/
def summand (q : ℕ) (y : S2048x1024.Idx) (k : ℕ) : EReal := rowAt (A m c) (q * 2048 + (y 0).val) k * at2 (B m c) (y 1).val k

theorem block_product (t : Fin cfg0.N) (z : S2048x1024.Idx → EReal) (y : S2048x1024.Idx) :
    (k0_pay2 (F := Ideal) z (iblk m c 0 t) (iblk m c 1 t) : S2048x1024.Idx → EReal) y
      = z y + ∑ l : Fin 1152, summand m c (t.val / 9) y (t.val % 9 * 1152 + l.val) := by
  obtain ⟨r, j, rfl⟩ : ∃ (r : Fin 2048) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 r k)) (b_tile m c t (ix2 j k))

theorem acc_step (t : Fin cfg0.N) (h : ¬ t.val % 9 = 0) (y : S2048x1024.Idx) : ((outsAt0 m c t.val t.isLt).2 : Vec Ideal S2048x1024 .f32) y
    = ((outsAt0 m c (t.val - 1) (Nat.lt_of_le_of_lt (Nat.sub_le _ _) t.isLt)).2 : Vec Ideal S2048x1024 .f32) y
      + ∑ l : Fin 1152, summand m c (t.val / 9) y (t.val % 9 * 1152 + l.val) := by
  by_cases h1 : t.val % 9 = 8
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 9 = 0) (y : S2048x1024.Idx) : ((outsAt0 m c t.val t.isLt).2 : Vec Ideal S2048x1024 .f32) y
    = (0 : EReal) + ∑ l : Fin 1152, summand m c (t.val / 9) y (t.val % 9 * 1152 + l.val) := by
  rw [outsAt0_A m c t h (by omega)]
  frame_out
  have hz : (k0_pay1 : FVec Ideal S2048x1024 .f32) y = 0 := by unfold k0_pay1; pointwise
  exact (block_product m c t _ y).trans (congrArg (· + _) hz)

theorem out_last (t : Fin cfg0.N) (h : t.val % 9 = 8) : (outsAt0 m c t.val t.isLt).1 = (outsAt0 m c t.val t.isLt).2 := by
  rw [outsAt0_C m c t (by omega) h]
  frame_out

theorem index2 : ∀ t : Fin cfg0.N, win0_2.index t 0 = t.val / 9 ∧ win0_2.index t 1 = 0 :=
  (by decide +kernel : ∀ t : Fin grid0.N, _)

theorem final_out : (dats m 0 c).arrAt 2 cfg0.N = fun i : S8192x1024.Idx => dotNT (A m c) (B m c) (i 0).val (i 1).val := by
  refine (dats m 0 c).arrAt_eq_of_covers 2 _ (by decide +kernel) (fun t hf y => ?_)
  have hm : t.val % 9 = 8 := (flush0_2 t).mp hf
  blk_simp
  rw [after0_2, out_last m c t hm, (index2 t).1, (index2 t).2, Nat.zero_mul, Nat.zero_add]
  exact sum_run (fun n h => ((outsAt0 m c n h).2 : S2048x1024.Idx → EReal)) 9 1152 (summand m c) (acc_reset m c) (acc_step m c)
    (by decide) t hm y

/-- The reference's product, row by row. -/
theorem ref_out (D : S2x4096x10368.Idx → EReal) (W : S1024x10368.Idx → EReal) :
    Cert.Reference3Ideal.Read.val_main_v3 (F := Ideal) D W = fun i : S8192x1024.Idx => dotNT D W (i 0).val (i 1).val := by
  funext i
  rw [Cert.Reference3Ideal.Read.val_main_v3_apply, Cert.Reference3Ideal.Read.val_main_v2_apply]
  unfold dotNT
  have hi0 : (i 0).val < 8192 := (i 0).isLt
  have hi1 : (i 1).val < 1024 := (i 1).isLt
  refine sum_fin _ _ fun k => congr_arg₂ (· * ·) (rowAt_of D _ ?_ rfl) (at2_of W _ ?_ rfl)
  · show ((i 0).val * 1024 + (i 1).val) / 4194304 * 4096 + ((i 0).val * 1024 + (i 1).val) / 1024 % 4096 = _
    omega
  · show ((i 0).val * 1024 + (i 1).val) % 1024 = _
    omega

theorem algebraic : Cert.algebraic_Kernel3Ideal_Reference3Ideal := by
  intro m g m' g' _ hm
  refine ⟨_, Cert.Kernel3Ideal.Value.run_blocks m g,
    (θ_run Cert.Reference3Ideal.defs _ _).mono (fun r h c => ?_) (Cert.Reference3Ideal.Value.run (F := Ideal) m' g')⟩
  obtain ⟨h0, hk⟩ := h c
  obtain ⟨e0, e1⟩ := hm c
  refine ⟨h0.trans ?_, hk⟩
  rw [final_out m c, Cert.Reference3Ideal.Read.val_main_v3_eq, e0, e1]
  exact ref_out _ _

end Cert.Proof.Mat3

end
-- ==== Proof.Mat4.lean ====
/- The gradient of the input projection's weights: the blocked product is the reference's. -/
module

public import proofs.«01_k».proof.Defs
public import proofs.«01_k».proof.Proof.MatKit
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Proof.Mat4

open Cert.Kernel4Ideal Cert.Kernel4Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, the gradient flowing in, and the gradients of both layers so far. -/
abbrev A : S2x4096x1024.Idx → EReal := m ((c : Thread nD τ).loc main_arg0)
abbrev B : S2x4096x10368.Idx → EReal := m ((c : Thread nD τ).loc main_arg1)
abbrev O : S2x1024x10368.Idx → EReal := m ((c : Thread nD τ).loc main_arg2)

theorem index0 : ∀ t : Fin cfg0.N, win0_0.index t 0 = t.val % 4 ∧ win0_0.index t 1 = t.val / 4 / 9 :=
  (by decide +kernel : ∀ t : Fin grid0.N, _)

theorem index1 : ∀ t : Fin cfg0.N, win0_1.index t 0 = t.val % 4 ∧ win0_1.index t 1 = t.val / 4 % 9 :=
  (by decide +kernel : ∀ t : Fin grid0.N, _)

theorem index2 : ∀ t : Fin cfg0.N, (win0_2.index t 0 = 0 ∧ win0_2.index t 1 = t.val / 4 / 9) ∧ win0_2.index t 2 = t.val / 4 % 9 :=
  (by decide +kernel : ∀ t : Fin grid0.N, _)

theorem V_in0 : V m c main_v0 = shapeCast S8192x1024 (A m c) shapeCasts_S2x4096x1024_S8192x1024 := by
  simp only [V, hostOps0]
  after_results
  try rfl

theorem V_in1 : V m c main_v1 = shapeCast S8192x10368 (B m c) shapeCasts_S2x4096x10368_S8192x10368 := by
  simp only [V, hostOps0]
  after_results
  try rfl

theorem V_out : V m c main_v2 = O m c := by
  simp only [V, hostOps0]
  after_results
  try rfl

theorem V_row0 (i : S8192x1024.Idx) : (V m c main_v0 : S8192x1024.Idx → EReal) i = rowAt (A m c) (i 0).val (i 1).val := by
  rw [V_in0]
  exact flat_rows _ _ _

theorem V_row1 (i : S8192x10368.Idx) : (V m c main_v1 : S8192x10368.Idx → EReal) i = rowAt (B m c) (i 0).val (i 1).val := by
  rw [V_in1]
  exact flat_rows _ _ _

theorem a_tile (t : Fin cfg0.N) (x : S2048x1024.Idx) : (iblk m c 0 t : S2048x1024.Idx → EReal) x
    = rowAt (A m c) (t.val % 4 * 2048 + (x 0).val) (t.val / 4 / 9 * 1024 + (x 1).val) := by
  unfold iblk
  blk_simp [index0]
  refine (V_row0 m c _).trans ?_
  have h0 : ((win0_0.blk t).view.emb x 0).val = win0_0.index t 0 * 2048 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S2048x1152.Idx) : (iblk m c 1 t : S2048x1152.Idx → EReal) x
    = rowAt (B m c) (t.val % 4 * 2048 + (x 0).val) (t.val / 4 % 9 * 1152 + (x 1).val) := by
  unfold iblk
  blk_simp [index1]
  refine (V_row1 m c _).trans ?_
  have h0 : ((win0_1.blk t).view.emb x 0).val = win0_1.index t 0 * 2048 + 1 * (x 0).val := rfl
  have h1 : ((win0_1.blk t).view.emb x 1).val = win0_1.index t 1 * 1152 + 1 * (x 1).val := rfl
  rw [h0, h1, (index1 t).1, (index1 t).2, Nat.one_mul, Nat.one_mul]

/-- What row `k` adds to entry `y` of tile `q`. -/
def summand (q : ℕ) (y : S1024x1152.Idx) (k : ℕ) : EReal :=
  rowAt (A m c) k (q / 9 * 1024 + (y 0).val) * rowAt (B m c) k (q % 9 * 1152 + (y 1).val)

theorem block_product (t : Fin cfg0.N) (z : S1024x1152.Idx → EReal) (y : S1024x1152.Idx) :
    (k0_pay2 (F := Ideal) z (iblk m c 0 t) (iblk m c 1 t) : S1024x1152.Idx → EReal) y
      = z y + ∑ l : Fin 2048, summand m c (t.val / 4) y (t.val % 4 * 2048 + l.val) := by
  obtain ⟨r, j, rfl⟩ : ∃ (r : Fin 1024) (j : Fin 1152), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 4 = 0) (y : S1024x1152.Idx) : ((outsAt0 m c t.val t.isLt).2 : Vec Ideal S1024x1152 .f32) y
    = ((outsAt0 m c (t.val - 1) (Nat.lt_of_le_of_lt (Nat.sub_le _ _) t.isLt)).2 : Vec Ideal S1024x1152 .f32) y
      + ∑ l : Fin 2048, summand m c (t.val / 4) y (t.val % 4 * 2048 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S1024x1152.Idx) : ((outsAt0 m c t.val t.isLt).2 : Vec Ideal S1024x1152 .f32) y
    = (0 : EReal) + ∑ l : Fin 2048, summand m c (t.val / 4) y (t.val % 4 * 2048 + l.val) := by
  rw [outsAt0_A m c t h (by omega)]
  frame_out
  have hz : (k0_pay1 : FVec Ideal S1024x1152 .f32) y = 0 := by unfold k0_pay1; pointwise
  exact (block_product m c t _ y).trans (congrArg (· + _) hz)

/-- The block written out is the sum, its format changed. -/
theorem out_last (t : Fin cfg0.N) (h : t.val % 4 = 3) (r : Fin 1024) (j : Fin 1152) :
    ((outsAt0 m c t.val t.isLt).1 : S1x1024x1152.Idx → EReal) (ix3 0 r j) = ((outsAt0 m c t.val t.isLt).2 : S1024x1152.Idx → EReal) (ix2 r j) := by
  rw [outsAt0_C m c t (by omega) h]
  frame_out
  generalize k0_pay2 (F := Ideal) _ _ _ = v
  unfold k0_pay3
  pointwise

theorem final_out : (dats m 0 c).arrAt 2 cfg0.N
    = fun i : S2x1024x10368.Idx => if (i 0).val / 1 = 0 then dotTN (A m c) (B m c) (i 1).val (i 2).val else O m c i := by
  refine ((dats m 0 c).arrAt_eq_of_coversWhere 2 (fun i : S2x1024x10368.Idx => dotTN (A m c) (B m c) (i 1).val (i 2).val)
          (P := fun i : S2x1024x10368.Idx => (i 0).val / 1 = 0) (fun β => β (0 : Fin _) = 0) (by decide +kernel)
          (fun t hf y => ?_) (fun j => Iff.rfl)).trans ?_
  · have hm : t.val % 4 = 3 := (flush0_2 t).mp hf
    blk_simp
    rw [after0_2, (index2 t).1.2, (index2 t).2]
    obtain ⟨a, r, j, rfl⟩ : ∃ (a : Fin 1) (r : Fin 1024) (j : Fin 1152), y = ix3 a r j := ⟨_, _, _, (ix3_eta (n0 := 1) (n1 := 1024) (n2 := 1152) y).symm⟩
    obtain rfl : a = 0 := Subsingleton.elim _ _
    refine (out_last m c t hm r j).trans ?_
    exact sum_run (fun n h => ((outsAt0 m c n h).2 : S1024x1152.Idx → EReal)) 4 2048 (summand m c) (acc_reset m c) (acc_step m c)
      (by decide) t hm (ix2 r j)
  · rw [A_eq]
    funext i
    show (if (i 0).val / 1 = 0 then _ else V m c main_v2 i) = _
    rw [V_out]

open Cert.Reference4Ideal.Read in
theorem ref_dw (X : S2x4096x1024.Idx → EReal) (D : S2x4096x10368.Idx → EReal) (r : Fin 1024) (j : Fin 10368) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

open Cert.Reference4Ideal.Read in
/-- The reference's gradients: the product for layer 0, layer 1 as it was. -/
theorem ref_out (X : S2x4096x1024.Idx → EReal) (D : S2x4096x10368.Idx → EReal) (G : S2x1024x10368.Idx → EReal) :
    val_main_v9 (F := Ideal) X D G = fun i : S2x1024x10368.Idx => if (i 0).val / 1 = 0 then dotTN X D (i 1).val (i 2).val else G i := by
  funext i
  obtain ⟨a, r, j, rfl⟩ : ∃ (a : Fin 2) (r : Fin 1024) (j : Fin 10368), i = ix3 a r j := ⟨i 0, i 1, i 2, (ix3_eta i).symm⟩
  have h7 : ∀ q : Fin 1, val_main_v7 (F := Ideal) X D (ix3 q r j) = dotTN X D r j := fun q => by
    rw [val_main_v7_apply]
    refine (congrArg (val_main_v4 (F := Ideal) X D) (funext fun b => Fin.ext ?_)).trans (ref_dw X D r j)
    match b with
    | ⟨0, _⟩ => rfl
    | ⟨1, _⟩ => rfl
  have h8 : ∀ q : Fin 1, val_main_v8 (F := Ideal) G (ix3 q r j) = G (ix3 1 r j) := fun q => by
    rw [val_main_v8_apply, val_main_v6_apply, val_main_v5_apply]
    have hr : r.val < 1024 := r.isLt
    have hj : j.val < 10368 := j.isLt
    refine congrArg G (funext fun b => Fin.ext ?_)
    match b with
    | ⟨0, _⟩ => rfl
    | ⟨1, _⟩ => show (r.val * 10368 + j.val) / 10368 % 1024 = r.val; omega
    | ⟨2, _⟩ => show (r.val * 10368 + j.val) % 10368 = j.val; omega
  unfold val_main_v9
  generalize val_main_v7 (F := Ideal) X D = x7 at h7 ⊢
  generalize val_main_v8 (F := Ideal) G = x8 at h8 ⊢
  pointwise
  show _ = if a.val = 0 then dotTN X D r.val j.val else G (ix3 a r j)
  have ha : a.val < 2 := a.isLt
  by_cases h : a.val < 1
  · refine (dif_pos h).trans ((h7 ⟨a.val, h⟩).trans ?_)
    rw [if_pos (by omega)]
  · refine (dif_neg h).trans ((h8 ⟨a.val - 1, by omega⟩).trans ?_)
    rw [if_neg (by omega), show a = 1 from Fin.ext (by show a.val = 1; omega)]

theorem algebraic : Cert.algebraic_Kernel4Ideal_Reference4Ideal := by
  intro m g m' g' _ hm
  refine ⟨_, Cert.Kernel4Ideal.Value.run_blocks m g,
    (θ_run Cert.Reference4Ideal.defs _ _).mono (fun r h c => ?_) (Cert.Reference4Ideal.Value.run (F := Ideal) m' g')⟩
  obtain ⟨h0, hk⟩ := h c
  obtain ⟨e0, e1, e2⟩ := hm c
  refine ⟨h0.trans ?_, hk⟩
  rw [final_out m c, Cert.Reference4Ideal.Read.val_main_v9_eq, e0, e1, e2]
  exact ref_out _ _ _

end Cert.Proof.Mat4

end
-- ==== Proof.Mat5.lean ====
/- The gradient of the feed-forward layer's argument: the blocked product is the reference's. -/
module

public import proofs.«01_k».proof.Defs
public import proofs.«01_k».proof.Proof.MatKit
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Proof.Mat5

open Cert.Kernel5Ideal Cert.Kernel5Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x5632.Idx → EReal := m ((c : Thread nD τ).loc main_arg0)
abbrev B : S1024x5632.Idx → EReal := m ((c : Thread nD τ).loc main_arg1)

theorem index0 : ∀ t : Fin cfg0.N, win0_0.index t 0 = t.val / 4 ∧ win0_0.index t 1 = t.val % 4 :=
  (by decide +kernel : ∀ t : Fin grid0.N, _)

theorem index1 : ∀ t : Fin cfg0.N, win0_1.index t 0 = 0 ∧ win0_1.index t 1 = t.val % 4 :=
  (by decide +kernel : ∀ t : Fin grid0.N, _)

theorem V_in : V m c main_v0 = shapeCast S8192x5632 (A m c) shapeCasts_S2x4096x5632_S8192x5632 := by
  simp only [V, hostOps0]
  after_results
  try rfl

theorem V_row (i : S8192x5632.Idx) : (V m c main_v0 : S8192x5632.Idx → EReal) i = rowAt (A m c) (i 0).val (i 1).val := by
  rw [V_in]
  exact flat_rows _ _ _

theorem a_tile (t : Fin cfg0.N) (x : S2048x1408.Idx) : (iblk m c 0 t : S2048x1408.Idx → EReal) x
    = rowAt (A m c) (t.val / 4 * 2048 + (x 0).val) (t.val % 4 * 1408 + (x 1).val) := by
  unfold iblk
  blk_simp [index0]
  refine (V_row m c _).trans ?_
  have h0 : ((win0_0.blk t).view.emb x 0).val = win0_0.index t 0 * 2048 + 1 * (x 0).val := rfl
  have h1 : ((win0_0.blk t).view.emb x 1).val = win0_0.index t 1 * 1408 + 1 * (x 1).val := rfl
  rw [h0, h1, (index0 t).1, (index0 t).2, Nat.one_mul, Nat.one_mul]

theorem b_tile (t : Fin cfg0.N) (x : S1024x1408.Idx) : (iblk m c 1 t : S1024x1408.Idx → EReal) x
    = at2 (B m c) ((x 0).val) (t.val % 4 * 1408 + (x 1).val) := by
  unfold iblk
  blk_simp [index1]
  rw [V_main_arg1]
  refine at2_of _ _ ?_ ?_
  · show win0_1.index t 0 * 1024 + 1 * (x 0).val = _
    rw [(index1 t).1, Nat.one_mul, Nat.zero_mul, Nat.zero_add]
  · show win0_1.index t 1 * 1408 + 1 * (x 1).val = _
    rw [(index1 t).2, Nat.one_mul]

/-- What column `k` adds to entry `y` of tile `q`. -/
def summand (q : ℕ) (y : S2048x1024.Idx) (k : ℕ) : EReal := rowAt (A m c) (q * 2048 + (y 0).val) k * at2 (B m c) (y 1).val k

theorem block_product (t : Fin cfg0.N) (z : S2048x1024.Idx → EReal) (y : S2048x1024.Idx) :
    (k0_pay2 (F := Ideal) z (iblk m c 0 t) (iblk m c 1 t) : S2048x1024.Idx → EReal) y
      = z y + ∑ l : Fin 1408, summand m c (t.val / 4) y (t.val % 4 * 1408 + l.val) := by
  obtain ⟨r, j, rfl⟩ : ∃ (r : Fin 2048) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 r k)) (b_tile m c t (ix2 j k))

theorem acc_step (t : Fin cfg0.N) (h : ¬ t.val % 4 = 0) (y : S2048x1024.Idx) : ((outsAt0 m c t.val t.isLt).2 : Vec Ideal S2048x1024 .f32) y
    = ((outsAt0 m c (t.val - 1) (Nat.lt_of_le_of_lt (Nat.sub_le _ _) t.isLt)).2 : Vec Ideal S2048x1024 .f32) y
      + ∑ l : Fin 1408, summand m c (t.val / 4) y (t.val % 4 * 1408 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S2048x1024.Idx) : ((outsAt0 m c t.val t.isLt).2 : Vec Ideal S2048x1024 .f32) y
    = (0 : EReal) + ∑ l : Fin 1408, summand m c (t.val / 4) y (t.val % 4 * 1408 + l.val) := by
  rw [outsAt0_A m c t h (by omega)]
  frame_out
  have hz : (k0_pay1 : FVec Ideal S2048x1024 .f32) y = 0 := by unfold k0_pay1; pointwise
  exact (block_product m c t _ y).trans (congrArg (· + _) hz)

theorem out_last (t : Fin cfg0.N) (h : t.val % 4 = 3) : (outsAt0 m c t.val t.isLt).1 = (outsAt0 m c t.val t.isLt).2 := by
  rw [outsAt0_C m c t (by omega) h]
  frame_out

theorem index2 : ∀ t : Fin cfg0.N, win0_2.index t 0 = t.val / 4 ∧ win0_2.index t 1 = 0 :=
  (by decide +kernel : ∀ t : Fin grid0.N, _)

theorem final_out : (dats m 0 c).arrAt 2 cfg0.N = fun i : S8192x1024.Idx => dotNT (A m c) (B m c) (i 0).val (i 1).val := by
  refine (dats m 0 c).arrAt_eq_of_covers 2 _ (by decide +kernel) (fun t hf y => ?_)
  have hm : t.val % 4 = 3 := (flush0_2 t).mp hf
  blk_simp
  rw [after0_2, out_last m c t hm, (index2 t).1, (index2 t).2, Nat.zero_mul, Nat.zero_add]
  exact sum_run (fun n h => ((outsAt0 m c n h).2 : S2048x1024.Idx → EReal)) 4 1408 (summand m c) (acc_reset m c) (acc_step m c)
    (by decide) t hm y

/-- The reference's product, row by row. -/
theorem ref_out (D : S2x4096x5632.Idx → EReal) (W : S1024x5632.Idx → EReal) :
    Cert.Reference5Ideal.Read.val_main_v3 (F := Ideal) D W = fun i : S8192x1024.Idx => dotNT D W (i 0).val (i 1).val := by
  funext i
  rw [Cert.Reference5Ideal.Read.val_main_v3_apply, Cert.Reference5Ideal.Read.val_main_v2_apply]
  unfold dotNT
  have hi0 : (i 0).val < 8192 := (i 0).isLt
  have hi1 : (i 1).val < 1024 := (i 1).isLt
  refine sum_fin _ _ fun k => congr_arg₂ (· * ·) (rowAt_of D _ ?_ rfl) (at2_of W _ ?_ rfl)
  · show ((i 0).val * 1024 + (i 1).val) / 4194304 * 4096 + ((i 0).val * 1024 + (i 1).val) / 1024 % 4096 = _
    omega
  · show ((i 0).val * 1024 + (i 1).val) % 1024 = _
    omega

theorem algebraic : Cert.algebraic_Kernel5Ideal_Reference5Ideal := by
  intro m g m' g' _ hm
  refine ⟨_, Cert.Kernel5Ideal.Value.run_blocks m g,
    (θ_run Cert.Reference5Ideal.defs _ _).mono (fun r h c => ?_) (Cert.Reference5Ideal.Value.run (F := Ideal) m' g')⟩
  obtain ⟨h0, hk⟩ := h c
  obtain ⟨e0, e1⟩ := hm c
  refine ⟨h0.trans ?_, hk⟩
  rw [final_out m c, Cert.Reference5Ideal.Read.val_main_v3_eq, e0, e1]
  exact ref_out _ _

end Cert.Proof.Mat5

end
-- ==== Proof.Mat6.lean ====
/- The gradient of the feed-forward layer's first weights: the blocked product is the reference's. -/
module

public import proofs.«01_k».proof.Defs
public import proofs.«01_k».proof.Proof.MatKit
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Proof.Mat6

open Cert.Kernel6Ideal Cert.Kernel6Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, the gradient flowing in, and the gradients of both layers so far. -/
abbrev A : S2x4096x1024.Idx → EReal := m ((c : Thread nD τ).loc main_arg0)
abbrev B : S2x4096x5632.Idx → EReal := m ((c : Thread nD τ).loc main_arg1)
abbrev O : S2x1024x5632.Idx → EReal := m ((c : Thread nD τ).loc main_arg2)

theorem index0 : ∀ t : Fin cfg0.N, win0_0.index t 0 = t.val % 4 ∧ win0_0.index t 1 = t.val / 4 / 4 :=
  (by decide +kernel : ∀ t : Fin grid0.N, _)

theorem index1 : ∀ t : Fin cfg0.N, win0_1.index t 0 = t.val % 4 ∧ win0_1.index t 1 = t.val / 4 % 4 :=
  (by decide +kernel : ∀ t : Fin grid0.N, _)

theorem index2 : ∀ t : Fin cfg0.N, (win0_2.index t 0 = 0 ∧ win0_2.index t 1 = t.val / 4 / 4) ∧ win0_2.index t 2 = t.val / 4 % 4 :=
  (by decide +kernel : ∀ t : Fin grid0.N, _)

theorem V_in0 : V m c main_v0 = shapeCast S8192x1024 (A m c) shapeCasts_S2x4096x1024_S8192x1024 := by
  simp only [V, hostOps0]
  after_results
  try rfl

theorem V_in1 : V m c main_v1 = shapeCast S8192x5632 (B m c) shapeCasts_S2x4096x5632_S8192x5632 := by
  simp only [V, hostOps0]
  after_results
  try rfl

theorem V_out : V m c main_v2 = O m c := by
  simp only [V, hostOps0]
  after_results
  try rfl

theorem V_row0 (i : S8192x1024.Idx) : (V m c main_v0 : S8192x1024.Idx → EReal) i = rowAt (A m c) (i 0).val (i 1).val := by
  rw [V_in0]
  exact flat_rows _ _ _

theorem V_row1 (i : S8192x5632.Idx) : (V m c main_v1 : S8192x5632.Idx → EReal) i = rowAt (B m c) (i 0).val (i 1).val := by
  rw [V_in1]
  exact flat_rows _ _ _

theorem a_tile (t : Fin cfg0.N) (x : S2048x1024.Idx) : (iblk m c 0 t : S2048x1024.Idx → EReal) x
    = rowAt (A m c) (t.val % 4 * 2048 + (x 0).val) (t.val / 4 / 4 * 1024 + (x 1).val) := by
  unfold iblk
  blk_simp [index0]
  refine (V_row0 m c _).trans ?_
  have h0 : ((win0_0.blk t).view.emb x 0).val = win0_0.index t 0 * 2048 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S2048x1408.Idx) : (iblk m c 1 t : S2048x1408.Idx → EReal) x
    = rowAt (B m c) (t.val % 4 * 2048 + (x 0).val) (t.val / 4 % 4 * 1408 + (x 1).val) := by
  unfold iblk
  blk_simp [index1]
  refine (V_row1 m c _).trans ?_
  have h0 : ((win0_1.blk t).view.emb x 0).val = win0_1.index t 0 * 2048 + 1 * (x 0).val := rfl
  have h1 : ((win0_1.blk t).view.emb x 1).val = win0_1.index t 1 * 1408 + 1 * (x 1).val := rfl
  rw [h0, h1, (index1 t).1, (index1 t).2, Nat.one_mul, Nat.one_mul]

/-- What row `k` adds to entry `y` of tile `q`. -/
def summand (q : ℕ) (y : S1024x1408.Idx) (k : ℕ) : EReal :=
  rowAt (A m c) k (q / 4 * 1024 + (y 0).val) * rowAt (B m c) k (q % 4 * 1408 + (y 1).val)

theorem block_product (t : Fin cfg0.N) (z : S1024x1408.Idx → EReal) (y : S1024x1408.Idx) :
    (k0_pay2 (F := Ideal) z (iblk m c 0 t) (iblk m c 1 t) : S1024x1408.Idx → EReal) y
      = z y + ∑ l : Fin 2048, summand m c (t.val / 4) y (t.val % 4 * 2048 + l.val) := by
  obtain ⟨r, j, rfl⟩ : ∃ (r : Fin 1024) (j : Fin 1408), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 4 = 0) (y : S1024x1408.Idx) : ((outsAt0 m c t.val t.isLt).2 : Vec Ideal S1024x1408 .f32) y
    = ((outsAt0 m c (t.val - 1) (Nat.lt_of_le_of_lt (Nat.sub_le _ _) t.isLt)).2 : Vec Ideal S1024x1408 .f32) y
      + ∑ l : Fin 2048, summand m c (t.val / 4) y (t.val % 4 * 2048 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S1024x1408.Idx) : ((outsAt0 m c t.val t.isLt).2 : Vec Ideal S1024x1408 .f32) y
    = (0 : EReal) + ∑ l : Fin 2048, summand m c (t.val / 4) y (t.val % 4 * 2048 + l.val) := by
  rw [outsAt0_A m c t h (by omega)]
  frame_out
  have hz : (k0_pay1 : FVec Ideal S1024x1408 .f32) y = 0 := by unfold k0_pay1; pointwise
  exact (block_product m c t _ y).trans (congrArg (· + _) hz)

/-- The block written out is the sum, its format changed. -/
theorem out_last (t : Fin cfg0.N) (h : t.val % 4 = 3) (r : Fin 1024) (j : Fin 1408) :
    ((outsAt0 m c t.val t.isLt).1 : S1x1024x1408.Idx → EReal) (ix3 0 r j) = ((outsAt0 m c t.val t.isLt).2 : S1024x1408.Idx → EReal) (ix2 r j) := by
  rw [outsAt0_C m c t (by omega) h]
  frame_out
  generalize k0_pay2 (F := Ideal) _ _ _ = v
  unfold k0_pay3
  pointwise

theorem final_out : (dats m 0 c).arrAt 2 cfg0.N
    = fun i : S2x1024x5632.Idx => if (i 0).val / 1 = 0 then dotTN (A m c) (B m c) (i 1).val (i 2).val else O m c i := by
  refine ((dats m 0 c).arrAt_eq_of_coversWhere 2 (fun i : S2x1024x5632.Idx => dotTN (A m c) (B m c) (i 1).val (i 2).val)
          (P := fun i : S2x1024x5632.Idx => (i 0).val / 1 = 0) (fun β => β (0 : Fin _) = 0) (by decide +kernel)
          (fun t hf y => ?_) (fun j => Iff.rfl)).trans ?_
  · have hm : t.val % 4 = 3 := (flush0_2 t).mp hf
    blk_simp
    rw [after0_2, (index2 t).1.2, (index2 t).2]
    obtain ⟨a, r, j, rfl⟩ : ∃ (a : Fin 1) (r : Fin 1024) (j : Fin 1408), y = ix3 a r j := ⟨_, _, _, (ix3_eta (n0 := 1) (n1 := 1024) (n2 := 1408) y).symm⟩
    obtain rfl : a = 0 := Subsingleton.elim _ _
    refine (out_last m c t hm r j).trans ?_
    exact sum_run (fun n h => ((outsAt0 m c n h).2 : S1024x1408.Idx → EReal)) 4 2048 (summand m c) (acc_reset m c) (acc_step m c)
      (by decide) t hm (ix2 r j)
  · rw [A_eq]
    funext i
    show (if (i 0).val / 1 = 0 then _ else V m c main_v2 i) = _
    rw [V_out]

open Cert.Reference6Ideal.Read in
theorem ref_dw (X : S2x4096x1024.Idx → EReal) (D : S2x4096x5632.Idx → EReal) (r : Fin 1024) (j : Fin 5632) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

open Cert.Reference6Ideal.Read in
/-- The reference's gradients: the product for layer 0, layer 1 as it was. -/
theorem ref_out (X : S2x4096x1024.Idx → EReal) (D : S2x4096x5632.Idx → EReal) (G : S2x1024x5632.Idx → EReal) :
    val_main_v9 (F := Ideal) X D G = fun i : S2x1024x5632.Idx => if (i 0).val / 1 = 0 then dotTN X D (i 1).val (i 2).val else G i := by
  funext i
  obtain ⟨a, r, j, rfl⟩ : ∃ (a : Fin 2) (r : Fin 1024) (j : Fin 5632), i = ix3 a r j := ⟨i 0, i 1, i 2, (ix3_eta i).symm⟩
  have h7 : ∀ q : Fin 1, val_main_v7 (F := Ideal) X D (ix3 q r j) = dotTN X D r j := fun q => by
    rw [val_main_v7_apply]
    refine (congrArg (val_main_v4 (F := Ideal) X D) (funext fun b => Fin.ext ?_)).trans (ref_dw X D r j)
    match b with
    | ⟨0, _⟩ => rfl
    | ⟨1, _⟩ => rfl
  have h8 : ∀ q : Fin 1, val_main_v8 (F := Ideal) G (ix3 q r j) = G (ix3 1 r j) := fun q => by
    rw [val_main_v8_apply, val_main_v6_apply, val_main_v5_apply]
    have hr : r.val < 1024 := r.isLt
    have hj : j.val < 5632 := j.isLt
    refine congrArg G (funext fun b => Fin.ext ?_)
    match b with
    | ⟨0, _⟩ => rfl
    | ⟨1, _⟩ => show (r.val * 5632 + j.val) / 5632 % 1024 = r.val; omega
    | ⟨2, _⟩ => show (r.val * 5632 + j.val) % 5632 = j.val; omega
  unfold val_main_v9
  generalize val_main_v7 (F := Ideal) X D = x7 at h7 ⊢
  generalize val_main_v8 (F := Ideal) G = x8 at h8 ⊢
  pointwise
  show _ = if a.val = 0 then dotTN X D r.val j.val else G (ix3 a r j)
  have ha : a.val < 2 := a.isLt
  by_cases h : a.val < 1
  · refine (dif_pos h).trans ((h7 ⟨a.val, h⟩).trans ?_)
    rw [if_pos (by omega)]
  · refine (dif_neg h).trans ((h8 ⟨a.val - 1, by omega⟩).trans ?_)
    rw [if_neg (by omega), show a = 1 from Fin.ext (by show a.val = 1; omega)]

theorem algebraic : Cert.algebraic_Kernel6Ideal_Reference6Ideal := by
  intro m g m' g' _ hm
  refine ⟨_, Cert.Kernel6Ideal.Value.run_blocks m g,
    (θ_run Cert.Reference6Ideal.defs _ _).mono (fun r h c => ?_) (Cert.Reference6Ideal.Value.run (F := Ideal) m' g')⟩
  obtain ⟨h0, hk⟩ := h c
  obtain ⟨e0, e1, e2⟩ := hm c
  refine ⟨h0.trans ?_, hk⟩
  rw [final_out m c, Cert.Reference6Ideal.Read.val_main_v9_eq, e0, e1, e2]
  exact ref_out _ _ _

end Cert.Proof.Mat6

end
-- ==== Proof.Mat7.lean ====
/- The gradient of the feed-forward layer's activation: the blocked product is the reference's. -/
module

public import proofs.«01_k».proof.Defs
public import proofs.«01_k».proof.Proof.MatKit
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Proof.Mat7

open Cert.Kernel7Ideal Cert.Kernel7Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x1024.Idx → EReal := m ((c : Thread nD τ).loc main_arg0)
abbrev B : S2816x1024.Idx → EReal := m ((c : Thread nD τ).loc main_arg1)

theorem index0 : ∀ t : Fin cfg0.N, win0_0.index t 0 = t.val / 2 ∧ win0_0.index t 1 = 0 :=
  (by decide +kernel : ∀ t : Fin grid0.N, _)

theorem index1 : ∀ t : Fin cfg0.N, win0_1.index t 0 = t.val % 2 ∧ win0_1.index t 1 = 0 :=
  (by decide +kernel : ∀ t : Fin grid0.N, _)

theorem V_in : V m c main_v0 = shapeCast S8192x1024 (A m c) shapeCasts_S2x4096x1024_S8192x1024 := by
  simp only [V, hostOps0]
  after_results
  try rfl

theorem V_row (i : S8192x1024.Idx) : (V m c main_v0 : S8192x1024.Idx → EReal) i = rowAt (A m c) (i 0).val (i 1).val := by
  rw [V_in]
  exact flat_rows _ _ _

theorem a_tile (t : Fin cfg0.N) (x : S1024x1024.Idx) : (iblk m c 0 t : S1024x1024.Idx → EReal) x
    = rowAt (A m c) (t.val / 2 * 1024 + (x 0).val) ((x 1).val) := by
  unfold iblk
  blk_simp [index0]
  refine (V_row m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul, Nat.zero_mul, Nat.zero_add]

theorem b_tile (t : Fin cfg0.N) (x : S1408x1024.Idx) : (iblk m c 1 t : S1408x1024.Idx → EReal) x
    = at2 (B m c) (t.val % 2 * 1408 + (x 0).val) ((x 1).val) := by
  unfold iblk
  blk_simp [index1]
  rw [V_main_arg1]
  refine at2_of _ _ ?_ ?_
  · show win0_1.index t 0 * 1408 + 1 * (x 0).val = _
    rw [(index1 t).1, Nat.one_mul]
  · show win0_1.index t 1 * 1024 + 1 * (x 1).val = _
    rw [(index1 t).2, Nat.one_mul, Nat.zero_mul, Nat.zero_add]

theorem tile (t : Fin cfg0.N) (y : S1024x1408.Idx) :
    (out0_2 (F := Ideal) (iblk m c 0 t) (iblk m c 1 t) : S1024x1408.Idx → EReal) y
      = dotNT (A m c) (B m c) (t.val / 2 * 1024 + (y 0).val) (t.val % 2 * 1408 + (y 1).val) := by
  obtain ⟨r, j, rfl⟩ : ∃ (r : Fin 1024) (j : Fin 1408), y = ix2 r j := ⟨y 0, y 1, (ix2_eta y).symm⟩
  frame_out
  unfold k0_pay1
  pointwise
  unfold dotNT
  exact sum_fin _ _ fun k => congr_arg₂ (· * ·) (a_tile m c t (ix2 r k)) (b_tile m c t (ix2 j k))

theorem index2 : ∀ t : Fin cfg0.N, win0_2.index t 0 = t.val / 2 ∧ win0_2.index t 1 = t.val % 2 :=
  (by decide +kernel : ∀ t : Fin grid0.N, _)

theorem final_out : (dats m 0 c).arrAt 2 cfg0.N = fun i : S8192x2816.Idx => dotNT (A m c) (B m c) (i 0).val (i 1).val := by
  refine (dats m 0 c).arrAt_eq_of_covers 2 _ (by decide +kernel) (fun t hf y => ?_)
  blk_simp
  rw [after0_2, (index2 t).1, (index2 t).2]
  exact tile m c t _

/-- The reference's product, row by row. -/
theorem ref_out (D : S2x4096x1024.Idx → EReal) (W : S2816x1024.Idx → EReal) :
    Cert.Reference7Ideal.Read.val_main_v3 (F := Ideal) D W = fun i : S8192x2816.Idx => dotNT D W (i 0).val (i 1).val := by
  funext i
  rw [Cert.Reference7Ideal.Read.val_main_v3_apply, Cert.Reference7Ideal.Read.val_main_v2_apply]
  unfold dotNT
  have hi0 : (i 0).val < 8192 := (i 0).isLt
  have hi1 : (i 1).val < 2816 := (i 1).isLt
  refine sum_fin _ _ fun k => congr_arg₂ (· * ·) (rowAt_of D _ ?_ rfl) (at2_of W _ ?_ rfl)
  · show ((i 0).val * 2816 + (i 1).val) / 11534336 * 4096 + ((i 0).val * 2816 + (i 1).val) / 2816 % 4096 = _
    omega
  · show ((i 0).val * 2816 + (i 1).val) % 2816 = _
    omega

theorem algebraic : Cert.algebraic_Kernel7Ideal_Reference7Ideal := by
  intro m g m' g' _ hm
  refine ⟨_, Cert.Kernel7Ideal.Value.run_blocks m g,
    (θ_run Cert.Reference7Ideal.defs _ _).mono (fun r h c => ?_) (Cert.Reference7Ideal.Value.run (F := Ideal) m' g')⟩
  obtain ⟨h0, hk⟩ := h c
  obtain ⟨e0, e1⟩ := hm c
  refine ⟨h0.trans ?_, hk⟩
  rw [final_out m c, Cert.Reference7Ideal.Read.val_main_v3_eq, e0, e1]
  exact ref_out _ _

end Cert.Proof.Mat7

end
-- ==== Proof.Mat8.lean ====
/- The gradient of the feed-forward layer's second weights: the blocked product is the reference's. -/
module

public import proofs.«01_k».proof.Defs
public import proofs.«01_k».proof.Proof.MatKit
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.Proof.Mat8

open Cert.Kernel8Ideal Cert.Kernel8Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, the gradient flowing in, and the gradients of both layers so far. -/
abbrev A : S2x4096x2816.Idx → EReal := m ((c : Thread nD τ).loc main_arg0)
abbrev B : S2x4096x1024.Idx → EReal := m ((c : Thread nD τ).loc main_arg1)
abbrev O : S2x2816x1024.Idx → EReal := m ((c : Thread nD τ).loc main_arg2)

theorem index0 : ∀ t : Fin cfg0.N, win0_0.index t 0 = t.val % 4 ∧ win0_0.index t 1 = t.val / 4 / 1 :=
  (by decide +kernel : ∀ t : Fin grid0.N, _)

theorem index1 : ∀ t : Fin cfg0.N, win0_1.index t 0 = t.val % 4 ∧ win0_1.index t 1 = t.val / 4 % 1 :=
  (by decide +kernel : ∀ t : Fin grid0.N, _)

theorem index2 : ∀ t : Fin cfg0.N, (win0_2.index t 0 = 0 ∧ win0_2.index t 1 = t.val / 4 / 1) ∧ win0_2.index t 2 = t.val / 4 % 1 :=
  (by decide +kernel : ∀ t : Fin grid0.N, _)

theorem V_in0 : V m c main_v0 = shapeCast S8192x2816 (A m c) shapeCasts_S2x4096x2816_S8192x2816 := by
  simp only [V, hostOps0]
  after_results
  try rfl

theorem V_in1 : V m c main_v1 = shapeCast S8192x1024 (B m c) shapeCasts_S2x4096x1024_S8192x1024 := by
  simp only [V, hostOps0]
  after_results
  try rfl

theorem V_out : V m c main_v2 = O m c := by
  simp only [V, hostOps0]
  after_results
  try rfl

theorem V_row0 (i : S8192x2816.Idx) : (V m c main_v0 : S8192x2816.Idx → EReal) i = rowAt (A m c) (i 0).val (i 1).val := by
  rw [V_in0]
  exact flat_rows _ _ _

theorem V_row1 (i : S8192x1024.Idx) : (V m c main_v1 : S8192x1024.Idx → EReal) i = rowAt (B m c) (i 0).val (i 1).val := by
  rw [V_in1]
  exact flat_rows _ _ _

theorem a_tile (t : Fin cfg0.N) (x : S2048x1408.Idx) : (iblk m c 0 t : S2048x1408.Idx → EReal) x
    = rowAt (A m c) (t.val % 4 * 2048 + (x 0).val) (t.val / 4 / 1 * 1408 + (x 1).val) := by
  unfold iblk
  blk_simp [index0]
  refine (V_row0 m c _).trans ?_
  have h0 : ((win0_0.blk t).view.emb x 0).val = win0_0.index t 0 * 2048 + 1 * (x 0).val := rfl
  have h1 : ((win0_0.blk t).view.emb x 1).val = win0_0.index t 1 * 1408 + 1 * (x 1).val := rfl
  rw [h0, h1, (index0 t).1, (index0 t).2, Nat.one_mul, Nat.one_mul]

theorem b_tile (t : Fin cfg0.N) (x : S2048x1024.Idx) : (iblk m c 1 t : S2048x1024.Idx → EReal) x
    = rowAt (B m c) (t.val % 4 * 2048 + (x 0).val) (t.val / 4 % 1 * 1024 + (x 1).val) := by
  unfold iblk
  blk_simp [index1]
  refine (V_row1 m c _).trans ?_
  have h0 : ((win0_1.blk t).view.emb x 0).val = win0_1.index t 0 * 2048 + 1 * (x 0).val := rfl
  have h1 : ((win0_1.blk t).view.emb x 1).val = win0_1.index t 1 * 1024 + 1 * (x 1).val := rfl
  rw [h0, h1, (index1 t).1, (index1 t).2, Nat.one_mul, Nat.one_mul]

/-- What row `k` adds to entry `y` of tile `q`. -/
def summand (q : ℕ) (y : S1408x1024.Idx) (k : ℕ) : EReal :=
  rowAt (A m c) k (q / 1 * 1408 + (y 0).val) * rowAt (B m c) k (q % 1 * 1024 + (y 1).val)

theorem block_product (t : Fin cfg0.N) (z : S1408x1024.Idx → EReal) (y : S1408x1024.Idx) :
    (k0_pay2 (F := Ideal) z (iblk m c 0 t) (iblk m c 1 t) : S1408x1024.Idx → EReal) y
      = z y + ∑ l : Fin 2048, summand m c (t.val / 4) y (t.val % 4 * 2048 + l.val) := by
  obtain ⟨r, j, rfl⟩ : ∃ (r : Fin 1408) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 4 = 0) (y : S1408x1024.Idx) : ((outsAt0 m c t.val t.isLt).2 : Vec Ideal S1408x1024 .f32) y
    = ((outsAt0 m c (t.val - 1) (Nat.lt_of_le_of_lt (Nat.sub_le _ _) t.isLt)).2 : Vec Ideal S1408x1024 .f32) y
      + ∑ l : Fin 2048, summand m c (t.val / 4) y (t.val % 4 * 2048 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S1408x1024.Idx) : ((outsAt0 m c t.val t.isLt).2 : Vec Ideal S1408x1024 .f32) y
    = (0 : EReal) + ∑ l : Fin 2048, summand m c (t.val / 4) y (t.val % 4 * 2048 + l.val) := by
  rw [outsAt0_A m c t h (by omega)]
  frame_out
  have hz : (k0_pay1 : FVec Ideal S1408x1024 .f32) y = 0 := by unfold k0_pay1; pointwise
  exact (block_product m c t _ y).trans (congrArg (· + _) hz)

/-- The block written out is the sum, its format changed. -/
theorem out_last (t : Fin cfg0.N) (h : t.val % 4 = 3) (r : Fin 1408) (j : Fin 1024) :
    ((outsAt0 m c t.val t.isLt).1 : S1x1408x1024.Idx → EReal) (ix3 0 r j) = ((outsAt0 m c t.val t.isLt).2 : S1408x1024.Idx → EReal) (ix2 r j) := by
  rw [outsAt0_C m c t (by omega) h]
  frame_out
  generalize k0_pay2 (F := Ideal) _ _ _ = v
  unfold k0_pay3
  pointwise

theorem final_out : (dats m 0 c).arrAt 2 cfg0.N
    = fun i : S2x2816x1024.Idx => if (i 0).val / 1 = 0 then dotTN (A m c) (B m c) (i 1).val (i 2).val else O m c i := by
  refine ((dats m 0 c).arrAt_eq_of_coversWhere 2 (fun i : S2x2816x1024.Idx => dotTN (A m c) (B m c) (i 1).val (i 2).val)
          (P := fun i : S2x2816x1024.Idx => (i 0).val / 1 = 0) (fun β => β (0 : Fin _) = 0) (by decide +kernel)
          (fun t hf y => ?_) (fun j => Iff.rfl)).trans ?_
  · have hm : t.val % 4 = 3 := (flush0_2 t).mp hf
    blk_simp
    rw [after0_2, (index2 t).1.2, (index2 t).2]
    obtain ⟨a, r, j, rfl⟩ : ∃ (a : Fin 1) (r : Fin 1408) (j : Fin 1024), y = ix3 a r j := ⟨_, _, _, (ix3_eta (n0 := 1) (n1 := 1408) (n2 := 1024) y).symm⟩
    obtain rfl : a = 0 := Subsingleton.elim _ _
    refine (out_last m c t hm r j).trans ?_
    exact sum_run (fun n h => ((outsAt0 m c n h).2 : S1408x1024.Idx → EReal)) 4 2048 (summand m c) (acc_reset m c) (acc_step m c)
      (by decide) t hm (ix2 r j)
  · rw [A_eq]
    funext i
    show (if (i 0).val / 1 = 0 then _ else V m c main_v2 i) = _
    rw [V_out]

open Cert.Reference8Ideal.Read in
theorem ref_dw (X : S2x4096x2816.Idx → EReal) (D : S2x4096x1024.Idx → EReal) (r : Fin 2816) (j : Fin 1024) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

open Cert.Reference8Ideal.Read in
/-- The reference's gradients: the product for layer 0, layer 1 as it was. -/
theorem ref_out (X : S2x4096x2816.Idx → EReal) (D : S2x4096x1024.Idx → EReal) (G : S2x2816x1024.Idx → EReal) :
    val_main_v9 (F := Ideal) X D G = fun i : S2x2816x1024.Idx => if (i 0).val / 1 = 0 then dotTN X D (i 1).val (i 2).val else G i := by
  funext i
  obtain ⟨a, r, j, rfl⟩ : ∃ (a : Fin 2) (r : Fin 2816) (j : Fin 1024), i = ix3 a r j := ⟨i 0, i 1, i 2, (ix3_eta i).symm⟩
  have h7 : ∀ q : Fin 1, val_main_v7 (F := Ideal) X D (ix3 q r j) = dotTN X D r j := fun q => by
    rw [val_main_v7_apply]
    refine (congrArg (val_main_v4 (F := Ideal) X D) (funext fun b => Fin.ext ?_)).trans (ref_dw X D r j)
    match b with
    | ⟨0, _⟩ => rfl
    | ⟨1, _⟩ => rfl
  have h8 : ∀ q : Fin 1, val_main_v8 (F := Ideal) G (ix3 q r j) = G (ix3 1 r j) := fun q => by
    rw [val_main_v8_apply, val_main_v6_apply, val_main_v5_apply]
    have hr : r.val < 2816 := r.isLt
    have hj : j.val < 1024 := j.isLt
    refine congrArg G (funext fun b => Fin.ext ?_)
    match b with
    | ⟨0, _⟩ => rfl
    | ⟨1, _⟩ => show (r.val * 1024 + j.val) / 1024 % 2816 = r.val; omega
    | ⟨2, _⟩ => show (r.val * 1024 + j.val) % 1024 = j.val; omega
  unfold val_main_v9
  generalize val_main_v7 (F := Ideal) X D = x7 at h7 ⊢
  generalize val_main_v8 (F := Ideal) G = x8 at h8 ⊢
  pointwise
  show _ = if a.val = 0 then dotTN X D r.val j.val else G (ix3 a r j)
  have ha : a.val < 2 := a.isLt
  by_cases h : a.val < 1
  · refine (dif_pos h).trans ((h7 ⟨a.val, h⟩).trans ?_)
    rw [if_pos (by omega)]
  · refine (dif_neg h).trans ((h8 ⟨a.val - 1, by omega⟩).trans ?_)
    rw [if_neg (by omega), show a = 1 from Fin.ext (by show a.val = 1; omega)]

theorem algebraic : Cert.algebraic_Kernel8Ideal_Reference8Ideal := by
  intro m g m' g' _ hm
  refine ⟨_, Cert.Kernel8Ideal.Value.run_blocks m g,
    (θ_run Cert.Reference8Ideal.defs _ _).mono (fun r h c => ?_) (Cert.Reference8Ideal.Value.run (F := Ideal) m' g')⟩
  obtain ⟨h0, hk⟩ := h c
  obtain ⟨e0, e1, e2⟩ := hm c
  refine ⟨h0.trans ?_, hk⟩
  rw [final_out m c, Cert.Reference8Ideal.Read.val_main_v9_eq, e0, e1, e2]
  exact ref_out _ _ _

end Cert.Proof.Mat8

end
-- ==== Proof.Mat9.lean ====
/- The gradient of the state-space branch's normalised output: the blocked product is the reference's. -/
module

public import proofs.«01_k».proof.Defs
public import proofs.«01_k».proof.Proof.MatKit
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit

@[expose] public section

set_option maxRecDepth 16384

noncomputable section

namespace Cert.Proof.Mat9

open Cert.Kernel9Ideal Cert.Kernel9Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x1024.Idx → EReal := m ((c : Thread nD τ).loc main_arg0)
abbrev B : S2048x1024.Idx → EReal := m ((c : Thread nD τ).loc main_arg1)

theorem index0 : ∀ t : Fin cfg0.N, win0_0.index t 0 = t.val / 2 ∧ win0_0.index t 1 = 0 :=
  (by decide +kernel : ∀ t : Fin grid0.N, _)

theorem index1 : ∀ t : Fin cfg0.N, win0_1.index t 0 = t.val % 2 ∧ win0_1.index t 1 = 0 :=
  (by decide +kernel : ∀ t : Fin grid0.N, _)

theorem V_in : V m c main_v0 = shapeCast S8192x1024 (A m c) shapeCasts_S2x4096x1024_S8192x1024 := by
  simp only [V, hostOps0]
  after_results
  try rfl

theorem V_row (i : S8192x1024.Idx) : (V m c main_v0 : S8192x1024.Idx → EReal) i = rowAt (A m c) (i 0).val (i 1).val := by
  rw [V_in]
  exact flat_rows _ _ _

theorem a_tile (t : Fin cfg0.N) (x : S1024x1024.Idx) : (iblk m c 0 t : S1024x1024.Idx → EReal) x
    = rowAt (A m c) (t.val / 2 * 1024 + (x 0).val) ((x 1).val) := by
  unfold iblk
  blk_simp [index0]
  refine (V_row m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul, Nat.zero_mul, Nat.zero_add]

theorem b_tile (t : Fin cfg0.N) (x : S1024x1024.Idx) : (iblk m c 1 t : S1024x1024.Idx → EReal) x
    = at2 (B m c) (t.val % 2 * 1024 + (x 0).val) ((x 1).val) := by
  unfold iblk
  blk_simp [index1]
  rw [V_main_arg1]
  refine at2_of _ _ ?_ ?_
  · show win0_1.index t 0 * 1024 + 1 * (x 0).val = _
    rw [(index1 t).1, Nat.one_mul]
  · show win0_1.index t 1 * 1024 + 1 * (x 1).val = _
    rw [(index1 t).2, Nat.one_mul, Nat.zero_mul, Nat.zero_add]

theorem tile (t : Fin cfg0.N) (y : S1024x1024.Idx) :
    (out0_2 (F := Ideal) (iblk m c 0 t) (iblk m c 1 t) : S1024x1024.Idx → EReal) y
      = dotNT (A m c) (B m c) (t.val / 2 * 1024 + (y 0).val) (t.val % 2 * 1024 + (y 1).val) := by
  obtain ⟨r, j, rfl⟩ : ∃ (r : Fin 1024) (j : Fin 1024), y = ix2 r j := ⟨y 0, y 1, (ix2_eta y).symm⟩
  frame_out
  unfold k0_pay1
  pointwise
  unfold dotNT
  exact sum_fin _ _ fun k => congr_arg₂ (· * ·) (a_tile m c t (ix2 r k)) (b_tile m c t (ix2 j k))

theorem index2 : ∀ t : Fin cfg0.N, win0_2.index t 0 = t.val / 2 ∧ win0_2.index t 1 = t.val % 2 :=
  (by decide +kernel : ∀ t : Fin grid0.N, _)

theorem final_out : (dats m 0 c).arrAt 2 cfg0.N = fun i : S8192x2048.Idx => dotNT (A m c) (B m c) (i 0).val (i 1).val := by
  refine (dats m 0 c).arrAt_eq_of_covers 2 _ (by decide +kernel) (fun t hf y => ?_)
  blk_simp
  rw [after0_2, (index2 t).1, (index2 t).2]
  exact tile m c t _

/-- The reference's product, row by row. -/
theorem ref_out (D : S2x4096x1024.Idx → EReal) (W : S2048x1024.Idx → EReal) :
    Cert.Reference9Ideal.Read.val_main_v3 (F := Ideal) D W = fun i : S8192x2048.Idx => dotNT D W (i 0).val (i 1).val := by
  funext i
  rw [Cert.Reference9Ideal.Read.val_main_v3_apply, Cert.Reference9Ideal.Read.val_main_v2_apply]
  unfold dotNT
  have hi0 : (i 0).val < 8192 := (i 0).isLt
  have hi1 : (i 1).val < 2048 := (i 1).isLt
  refine sum_fin _ _ fun k => congr_arg₂ (· * ·) (rowAt_of D _ ?_ rfl) (at2_of W _ ?_ rfl)
  · show ((i 0).val * 2048 + (i 1).val) / 8388608 * 4096 + ((i 0).val * 2048 + (i 1).val) / 2048 % 4096 = _
    omega
  · show ((i 0).val * 2048 + (i 1).val) % 2048 = _
    omega

theorem algebraic : Cert.algebraic_Kernel9Ideal_Reference9Ideal := by
  intro m g m' g' _ hm
  refine ⟨_, Cert.Kernel9Ideal.Value.run_blocks m g,
    (θ_run Cert.Reference9Ideal.defs _ _).mono (fun r h c => ?_) (Cert.Reference9Ideal.Value.run (F := Ideal) m' g')⟩
  obtain ⟨h0, hk⟩ := h c
  obtain ⟨e0, e1⟩ := hm c
  refine ⟨h0.trans ?_, hk⟩
  rw [final_out m c, Cert.Reference9Ideal.Read.val_main_v3_eq, e0, e1]
  exact ref_out _ _

end Cert.Proof.Mat9

end
-- ==== Proof.Mat10.lean ====
/- The gradient of the state-space branch's output weights: the blocked product is the reference's. -/
module

public import proofs.«01_k».proof.Defs
public import proofs.«01_k».proof.Proof.MatKit
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit

@[expose] public section

set_option maxRecDepth 16384

noncomputable section

namespace Cert.Proof.Mat10

open Cert.Kernel10Ideal Cert.Kernel10Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, the gradient flowing in, and the gradients of both layers so far. -/
abbrev A : S2x4096x2048.Idx → EReal := m ((c : Thread nD τ).loc main_arg0)
abbrev B : S2x4096x1024.Idx → EReal := m ((c : Thread nD τ).loc main_arg1)
abbrev O : S2x2048x1024.Idx → EReal := m ((c : Thread nD τ).loc main_arg2)

theorem index0 : ∀ t : Fin cfg0.N, win0_0.index t 0 = t.val % 8 ∧ win0_0.index t 1 = t.val / 8 / 1 :=
  (by decide +kernel : ∀ t : Fin grid0.N, _)

theorem index1 : ∀ t : Fin cfg0.N, win0_1.index t 0 = t.val % 8 ∧ win0_1.index t 1 = t.val / 8 % 1 :=
  (by decide +kernel : ∀ t : Fin grid0.N, _)

theorem index2 : ∀ t : Fin cfg0.N, (win0_2.index t 0 = 0 ∧ win0_2.index t 1 = t.val / 8 / 1) ∧ win0_2.index t 2 = t.val / 8 % 1 :=
  (by decide +kernel : ∀ t : Fin grid0.N, _)

theorem V_in0 : V m c main_v0 = shapeCast S8192x2048 (A m c) shapeCasts_S2x4096x2048_S8192x2048 := by
  simp only [V, hostOps0]
  after_results
  try rfl

theorem V_in1 : V m c main_v1 = shapeCast S8192x1024 (B m c) shapeCasts_S2x4096x1024_S8192x1024 := by
  simp only [V, hostOps0]
  after_results
  try rfl

theorem V_out : V m c main_v2 = O m c := by
  simp only [V, hostOps0]
  after_results
  try rfl

theorem V_row0 (i : S8192x2048.Idx) : (V m c main_v0 : S8192x2048.Idx → EReal) i = rowAt (A m c) (i 0).val (i 1).val := by
  rw [V_in0]
  exact flat_rows _ _ _

theorem V_row1 (i : S8192x1024.Idx) : (V m c main_v1 : S8192x1024.Idx → EReal) i = rowAt (B m c) (i 0).val (i 1).val := by
  rw [V_in1]
  exact flat_rows _ _ _

theorem a_tile (t : Fin cfg0.N) (x : S1024x1024.Idx) : (iblk m c 0 t : S1024x1024.Idx → EReal) x
    = rowAt (A m c) (t.val % 8 * 1024 + (x 0).val) (t.val / 8 / 1 * 1024 + (x 1).val) := by
  unfold iblk
  blk_simp [index0]
  refine (V_row0 m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S1024x1024.Idx) : (iblk m c 1 t : S1024x1024.Idx → EReal) x
    = rowAt (B m c) (t.val % 8 * 1024 + (x 0).val) (t.val / 8 % 1 * 1024 + (x 1).val) := by
  unfold iblk
  blk_simp [index1]
  refine (V_row1 m c _).trans ?_
  have h0 : ((win0_1.blk t).view.emb x 0).val = win0_1.index t 0 * 1024 + 1 * (x 0).val := rfl
  have h1 : ((win0_1.blk t).view.emb x 1).val = win0_1.index t 1 * 1024 + 1 * (x 1).val := rfl
  rw [h0, h1, (index1 t).1, (index1 t).2, Nat.one_mul, Nat.one_mul]

/-- What row `k` adds to entry `y` of tile `q`. -/
def summand (q : ℕ) (y : S1024x1024.Idx) (k : ℕ) : EReal :=
  rowAt (A m c) k (q / 1 * 1024 + (y 0).val) * rowAt (B m c) k (q % 1 * 1024 + (y 1).val)

theorem block_product (t : Fin cfg0.N) (z : S1024x1024.Idx → EReal) (y : S1024x1024.Idx) :
    (k0_pay2 (F := Ideal) z (iblk m c 0 t) (iblk m c 1 t) : S1024x1024.Idx → EReal) y
      = z y + ∑ l : Fin 1024, summand m c (t.val / 8) y (t.val % 8 * 1024 + l.val) := by
  obtain ⟨r, j, rfl⟩ : ∃ (r : Fin 1024) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 8 = 0) (y : S1024x1024.Idx) : ((outsAt0 m c t.val t.isLt).2 : Vec Ideal S1024x1024 .f32) y
    = ((outsAt0 m c (t.val - 1) (Nat.lt_of_le_of_lt (Nat.sub_le _ _) t.isLt)).2 : Vec Ideal S1024x1024 .f32) y
      + ∑ l : Fin 1024, summand m c (t.val / 8) y (t.val % 8 * 1024 + l.val) := by
  by_cases h1 : t.val % 8 = 7
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 8 = 0) (y : S1024x1024.Idx) : ((outsAt0 m c t.val t.isLt).2 : Vec Ideal S1024x1024 .f32) y
    = (0 : EReal) + ∑ l : Fin 1024, summand m c (t.val / 8) y (t.val % 8 * 1024 + l.val) := by
  rw [outsAt0_A m c t h (by omega)]
  frame_out
  have hz : (k0_pay1 : FVec Ideal S1024x1024 .f32) y = 0 := by unfold k0_pay1; pointwise
  exact (block_product m c t _ y).trans (congrArg (· + _) hz)

/-- The block written out is the sum, its format changed. -/
theorem out_last (t : Fin cfg0.N) (h : t.val % 8 = 7) (r : Fin 1024) (j : Fin 1024) :
    ((outsAt0 m c t.val t.isLt).1 : S1x1024x1024.Idx → EReal) (ix3 0 r j) = ((outsAt0 m c t.val t.isLt).2 : S1024x1024.Idx → EReal) (ix2 r j) := by
  rw [outsAt0_C m c t (by omega) h]
  frame_out
  generalize k0_pay2 (F := Ideal) _ _ _ = v
  unfold k0_pay3
  pointwise

theorem final_out : (dats m 0 c).arrAt 2 cfg0.N
    = fun i : S2x2048x1024.Idx => if (i 0).val / 1 = 0 then dotTN (A m c) (B m c) (i 1).val (i 2).val else O m c i := by
  refine ((dats m 0 c).arrAt_eq_of_coversWhere 2 (fun i : S2x2048x1024.Idx => dotTN (A m c) (B m c) (i 1).val (i 2).val)
          (P := fun i : S2x2048x1024.Idx => (i 0).val / 1 = 0) (fun β => β (0 : Fin _) = 0) (by decide +kernel)
          (fun t hf y => ?_) (fun j => Iff.rfl)).trans ?_
  · have hm : t.val % 8 = 7 := (flush0_2 t).mp hf
    blk_simp
    rw [after0_2, (index2 t).1.2, (index2 t).2]
    obtain ⟨a, r, j, rfl⟩ : ∃ (a : Fin 1) (r : Fin 1024) (j : Fin 1024), y = ix3 a r j := ⟨_, _, _, (ix3_eta (n0 := 1) (n1 := 1024) (n2 := 1024) y).symm⟩
    obtain rfl : a = 0 := Subsingleton.elim _ _
    refine (out_last m c t hm r j).trans ?_
    exact sum_run (fun n h => ((outsAt0 m c n h).2 : S1024x1024.Idx → EReal)) 8 1024 (summand m c) (acc_reset m c) (acc_step m c)
      (by decide) t hm (ix2 r j)
  · rw [A_eq]
    funext i
    show (if (i 0).val / 1 = 0 then _ else V m c main_v2 i) = _
    rw [V_out]

open Cert.Reference10Ideal.Read in
theorem ref_dw (X : S2x4096x2048.Idx → EReal) (D : S2x4096x1024.Idx → EReal) (r : Fin 2048) (j : Fin 1024) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

open Cert.Reference10Ideal.Read in
/-- The reference's gradients: the product for layer 0, layer 1 as it was. -/
theorem ref_out (X : S2x4096x2048.Idx → EReal) (D : S2x4096x1024.Idx → EReal) (G : S2x2048x1024.Idx → EReal) :
    val_main_v9 (F := Ideal) X D G = fun i : S2x2048x1024.Idx => if (i 0).val / 1 = 0 then dotTN X D (i 1).val (i 2).val else G i := by
  funext i
  obtain ⟨a, r, j, rfl⟩ : ∃ (a : Fin 2) (r : Fin 2048) (j : Fin 1024), i = ix3 a r j := ⟨i 0, i 1, i 2, (ix3_eta i).symm⟩
  have h7 : ∀ q : Fin 1, val_main_v7 (F := Ideal) X D (ix3 q r j) = dotTN X D r j := fun q => by
    rw [val_main_v7_apply]
    refine (congrArg (val_main_v4 (F := Ideal) X D) (funext fun b => Fin.ext ?_)).trans (ref_dw X D r j)
    match b with
    | ⟨0, _⟩ => rfl
    | ⟨1, _⟩ => rfl
  have h8 : ∀ q : Fin 1, val_main_v8 (F := Ideal) G (ix3 q r j) = G (ix3 1 r j) := fun q => by
    rw [val_main_v8_apply, val_main_v6_apply, val_main_v5_apply]
    have hr : r.val < 2048 := r.isLt
    have hj : j.val < 1024 := j.isLt
    refine congrArg G (funext fun b => Fin.ext ?_)
    match b with
    | ⟨0, _⟩ => rfl
    | ⟨1, _⟩ => show (r.val * 1024 + j.val) / 1024 % 2048 = r.val; omega
    | ⟨2, _⟩ => show (r.val * 1024 + j.val) % 1024 = j.val; omega
  unfold val_main_v9
  generalize val_main_v7 (F := Ideal) X D = x7 at h7 ⊢
  generalize val_main_v8 (F := Ideal) G = x8 at h8 ⊢
  pointwise
  show _ = if a.val = 0 then dotTN X D r.val j.val else G (ix3 a r j)
  have ha : a.val < 2 := a.isLt
  by_cases h : a.val < 1
  · refine (dif_pos h).trans ((h7 ⟨a.val, h⟩).trans ?_)
    rw [if_pos (by omega)]
  · refine (dif_neg h).trans ((h8 ⟨a.val - 1, by omega⟩).trans ?_)
    rw [if_neg (by omega), show a = 1 from Fin.ext (by show a.val = 1; omega)]

theorem algebraic : Cert.algebraic_Kernel10Ideal_Reference10Ideal := by
  intro m g m' g' _ hm
  refine ⟨_, Cert.Kernel10Ideal.Value.run_blocks m g,
    (θ_run Cert.Reference10Ideal.defs _ _).mono (fun r h c => ?_) (Cert.Reference10Ideal.Value.run (F := Ideal) m' g')⟩
  obtain ⟨h0, hk⟩ := h c
  obtain ⟨e0, e1, e2⟩ := hm c
  refine ⟨h0.trans ?_, hk⟩
  rw [final_out m c, Cert.Reference10Ideal.Read.val_main_v9_eq, e0, e1, e2]
  exact ref_out _ _ _

end Cert.Proof.Mat10

end
-- ==== Proof.Mat11.lean ====
/- The gradient of the merged branches: the blocked product is the reference's. -/
module

public import proofs.«01_k».proof.Defs
public import proofs.«01_k».proof.Proof.MatKit
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit

@[expose] public section

set_option maxRecDepth 16384

noncomputable section

namespace Cert.Proof.Mat11

open Cert.Kernel11Ideal Cert.Kernel11Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x1024.Idx → EReal := m ((c : Thread nD τ).loc main_arg0)
abbrev B : S1024x1024.Idx → EReal := m ((c : Thread nD τ).loc main_arg1)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem V_in : V m c main_v0 = shapeCast S8192x1024 (A m c) shapeCasts_S2x4096x1024_S8192x1024 := by
  simp only [V, hostOps0]
  after_results
  try rfl

theorem V_row (i : S8192x1024.Idx) : (V m c main_v0 : S8192x1024.Idx → EReal) i = rowAt (A m c) (i 0).val (i 1).val := by
  rw [V_in]
  exact flat_rows _ _ _

theorem a_tile (t : Fin cfg0.N) (x : S1024x1024.Idx) : (iblk m c 0 t : S1024x1024.Idx → EReal) x
    = rowAt (A m c) (t.val * 1024 + (x 0).val) ((x 1).val) := by
  unfold iblk
  blk_simp [index0]
  refine (V_row m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul, Nat.zero_mul, Nat.zero_add]

theorem b_tile (t : Fin cfg0.N) (x : S1024x1024.Idx) : (iblk m c 1 t : S1024x1024.Idx → EReal) x
    = at2 (B m c) ((x 0).val) ((x 1).val) := by
  unfold iblk
  blk_simp [index1]
  rw [V_main_arg1]
  refine at2_of _ _ ?_ ?_
  · show win0_1.index t 0 * 1024 + 1 * (x 0).val = _
    rw [(index1 t).1, Nat.one_mul, Nat.zero_mul, Nat.zero_add]
  · show win0_1.index t 1 * 1024 + 1 * (x 1).val = _
    rw [(index1 t).2, Nat.one_mul, Nat.zero_mul, Nat.zero_add]

theorem tile (t : Fin cfg0.N) (y : S1024x1024.Idx) :
    (out0_2 (F := Ideal) (iblk m c 0 t) (iblk m c 1 t) : S1024x1024.Idx → EReal) y
      = dotNT (A m c) (B m c) (t.val * 1024 + (y 0).val) ((y 1).val) := by
  obtain ⟨r, j, rfl⟩ : ∃ (r : Fin 1024) (j : Fin 1024), y = ix2 r j := ⟨y 0, y 1, (ix2_eta y).symm⟩
  frame_out
  unfold k0_pay1
  pointwise
  unfold dotNT
  exact sum_fin _ _ fun k => congr_arg₂ (· * ·) (a_tile m c t (ix2 r k)) (b_tile m c t (ix2 j k))

theorem index2 : ∀ t : Fin cfg0.N, win0_2.index t 0 = t.val ∧ win0_2.index t 1 = 0 :=
  (by decide +kernel : ∀ t : Fin grid0.N, _)

theorem final_out : (dats m 0 c).arrAt 2 cfg0.N = fun i : S8192x1024.Idx => dotNT (A m c) (B m c) (i 0).val (i 1).val := by
  refine (dats m 0 c).arrAt_eq_of_covers 2 _ (by decide +kernel) (fun t hf y => ?_)
  blk_simp
  rw [after0_2, (index2 t).1, (index2 t).2, Nat.zero_mul, Nat.zero_add]
  exact tile m c t _

/-- The reference's product, row by row. -/
theorem ref_out (D : S2x4096x1024.Idx → EReal) (W : S1024x1024.Idx → EReal) :
    Cert.Reference11Ideal.Read.val_main_v3 (F := Ideal) D W = fun i : S8192x1024.Idx => dotNT D W (i 0).val (i 1).val := by
  funext i
  rw [Cert.Reference11Ideal.Read.val_main_v3_apply, Cert.Reference11Ideal.Read.val_main_v2_apply]
  unfold dotNT
  have hi0 : (i 0).val < 8192 := (i 0).isLt
  have hi1 : (i 1).val < 1024 := (i 1).isLt
  refine sum_fin _ _ fun k => congr_arg₂ (· * ·) (rowAt_of D _ ?_ rfl) (at2_of W _ ?_ rfl)
  · show ((i 0).val * 1024 + (i 1).val) / 4194304 * 4096 + ((i 0).val * 1024 + (i 1).val) / 1024 % 4096 = _
    omega
  · show ((i 0).val * 1024 + (i 1).val) % 1024 = _
    omega

theorem algebraic : Cert.algebraic_Kernel11Ideal_Reference11Ideal := by
  intro m g m' g' _ hm
  refine ⟨_, Cert.Kernel11Ideal.Value.run_blocks m g,
    (θ_run Cert.Reference11Ideal.defs _ _).mono (fun r h c => ?_) (Cert.Reference11Ideal.Value.run (F := Ideal) m' g')⟩
  obtain ⟨h0, hk⟩ := h c
  obtain ⟨e0, e1⟩ := hm c
  refine ⟨h0.trans ?_, hk⟩
  rw [final_out m c, Cert.Reference11Ideal.Read.val_main_v3_eq, e0, e1]
  exact ref_out _ _

end Cert.Proof.Mat11

end
-- ==== Proof.Mat12.lean ====
/- The gradient of the mixer's output weights: the blocked product is the reference's. -/
module

public import proofs.«01_k».proof.Defs
public import proofs.«01_k».proof.Proof.MatKit
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit

@[expose] public section

set_option maxRecDepth 16384

noncomputable section

namespace Cert.Proof.Mat12

open Cert.Kernel12Ideal Cert.Kernel12Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, the gradient flowing in, and the gradients of both layers so far. -/
abbrev A : S2x4096x1024.Idx → EReal := m ((c : Thread nD τ).loc main_arg0)
abbrev B : S2x4096x1024.Idx → EReal := m ((c : Thread nD τ).loc main_arg1)
abbrev O : S2x1024x1024.Idx → EReal := m ((c : Thread nD τ).loc main_arg2)

theorem index0 : ∀ t : Fin cfg0.N, win0_0.index t 0 = t.val % 8 ∧ win0_0.index t 1 = t.val / 8 / 1 :=
  (by decide +kernel : ∀ t : Fin grid0.N, _)

theorem index1 : ∀ t : Fin cfg0.N, win0_1.index t 0 = t.val % 8 ∧ win0_1.index t 1 = t.val / 8 % 1 :=
  (by decide +kernel : ∀ t : Fin grid0.N, _)

theorem index2 : ∀ t : Fin cfg0.N, (win0_2.index t 0 = 0 ∧ win0_2.index t 1 = t.val / 8 / 1) ∧ win0_2.index t 2 = t.val / 8 % 1 :=
  (by decide +kernel : ∀ t : Fin grid0.N, _)

theorem V_in0 : V m c main_v0 = shapeCast S8192x1024 (A m c) shapeCasts_S2x4096x1024_S8192x1024 := by
  simp only [V, hostOps0]
  after_results
  try rfl

theorem V_in1 : V m c main_v1 = shapeCast S8192x1024 (B m c) shapeCasts_S2x4096x1024_S8192x1024 := by
  simp only [V, hostOps0]
  after_results
  try rfl

theorem V_out : V m c main_v2 = O m c := by
  simp only [V, hostOps0]
  after_results
  try rfl

theorem V_row0 (i : S8192x1024.Idx) : (V m c main_v0 : S8192x1024.Idx → EReal) i = rowAt (A m c) (i 0).val (i 1).val := by
  rw [V_in0]
  exact flat_rows _ _ _

theorem V_row1 (i : S8192x1024.Idx) : (V m c main_v1 : S8192x1024.Idx → EReal) i = rowAt (B m c) (i 0).val (i 1).val := by
  rw [V_in1]
  exact flat_rows _ _ _

theorem a_tile (t : Fin cfg0.N) (x : S1024x1024.Idx) : (iblk m c 0 t : S1024x1024.Idx → EReal) x
    = rowAt (A m c) (t.val % 8 * 1024 + (x 0).val) (t.val / 8 / 1 * 1024 + (x 1).val) := by
  unfold iblk
  blk_simp [index0]
  refine (V_row0 m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S1024x1024.Idx) : (iblk m c 1 t : S1024x1024.Idx → EReal) x
    = rowAt (B m c) (t.val % 8 * 1024 + (x 0).val) (t.val / 8 % 1 * 1024 + (x 1).val) := by
  unfold iblk
  blk_simp [index1]
  refine (V_row1 m c _).trans ?_
  have h0 : ((win0_1.blk t).view.emb x 0).val = win0_1.index t 0 * 1024 + 1 * (x 0).val := rfl
  have h1 : ((win0_1.blk t).view.emb x 1).val = win0_1.index t 1 * 1024 + 1 * (x 1).val := rfl
  rw [h0, h1, (index1 t).1, (index1 t).2, Nat.one_mul, Nat.one_mul]

/-- What row `k` adds to entry `y` of tile `q`. -/
def summand (q : ℕ) (y : S1024x1024.Idx) (k : ℕ) : EReal :=
  rowAt (A m c) k (q / 1 * 1024 + (y 0).val) * rowAt (B m c) k (q % 1 * 1024 + (y 1).val)

theorem block_product (t : Fin cfg0.N) (z : S1024x1024.Idx → EReal) (y : S1024x1024.Idx) :
    (k0_pay2 (F := Ideal) z (iblk m c 0 t) (iblk m c 1 t) : S1024x1024.Idx → EReal) y
      = z y + ∑ l : Fin 1024, summand m c (t.val / 8) y (t.val % 8 * 1024 + l.val) := by
  obtain ⟨r, j, rfl⟩ : ∃ (r : Fin 1024) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 8 = 0) (y : S1024x1024.Idx) : ((outsAt0 m c t.val t.isLt).2 : Vec Ideal S1024x1024 .f32) y
    = ((outsAt0 m c (t.val - 1) (Nat.lt_of_le_of_lt (Nat.sub_le _ _) t.isLt)).2 : Vec Ideal S1024x1024 .f32) y
      + ∑ l : Fin 1024, summand m c (t.val / 8) y (t.val % 8 * 1024 + l.val) := by
  by_cases h1 : t.val % 8 = 7
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 8 = 0) (y : S1024x1024.Idx) : ((outsAt0 m c t.val t.isLt).2 : Vec Ideal S1024x1024 .f32) y
    = (0 : EReal) + ∑ l : Fin 1024, summand m c (t.val / 8) y (t.val % 8 * 1024 + l.val) := by
  rw [outsAt0_A m c t h (by omega)]
  frame_out
  have hz : (k0_pay1 : FVec Ideal S1024x1024 .f32) y = 0 := by unfold k0_pay1; pointwise
  exact (block_product m c t _ y).trans (congrArg (· + _) hz)

/-- The block written out is the sum, its format changed. -/
theorem out_last (t : Fin cfg0.N) (h : t.val % 8 = 7) (r : Fin 1024) (j : Fin 1024) :
    ((outsAt0 m c t.val t.isLt).1 : S1x1024x1024.Idx → EReal) (ix3 0 r j) = ((outsAt0 m c t.val t.isLt).2 : S1024x1024.Idx → EReal) (ix2 r j) := by
  rw [outsAt0_C m c t (by omega) h]
  frame_out
  generalize k0_pay2 (F := Ideal) _ _ _ = v
  unfold k0_pay3
  pointwise

theorem final_out : (dats m 0 c).arrAt 2 cfg0.N
    = fun i : S2x1024x1024.Idx => if (i 0).val / 1 = 0 then dotTN (A m c) (B m c) (i 1).val (i 2).val else O m c i := by
  refine ((dats m 0 c).arrAt_eq_of_coversWhere 2 (fun i : S2x1024x1024.Idx => dotTN (A m c) (B m c) (i 1).val (i 2).val)
          (P := fun i : S2x1024x1024.Idx => (i 0).val / 1 = 0) (fun β => β (0 : Fin _) = 0) (by decide +kernel)
          (fun t hf y => ?_) (fun j => Iff.rfl)).trans ?_
  · have hm : t.val % 8 = 7 := (flush0_2 t).mp hf
    blk_simp
    rw [after0_2, (index2 t).1.2, (index2 t).2]
    obtain ⟨a, r, j, rfl⟩ : ∃ (a : Fin 1) (r : Fin 1024) (j : Fin 1024), y = ix3 a r j := ⟨_, _, _, (ix3_eta (n0 := 1) (n1 := 1024) (n2 := 1024) y).symm⟩
    obtain rfl : a = 0 := Subsingleton.elim _ _
    refine (out_last m c t hm r j).trans ?_
    exact sum_run (fun n h => ((outsAt0 m c n h).2 : S1024x1024.Idx → EReal)) 8 1024 (summand m c) (acc_reset m c) (acc_step m c)
      (by decide) t hm (ix2 r j)
  · rw [A_eq]
    funext i
    show (if (i 0).val / 1 = 0 then _ else V m c main_v2 i) = _
    rw [V_out]

open Cert.Reference12Ideal.Read in
theorem ref_dw (X : S2x4096x1024.Idx → EReal) (D : S2x4096x1024.Idx → EReal) (r : Fin 1024) (j : Fin 1024) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

open Cert.Reference12Ideal.Read in
/-- The reference's gradients: the product for layer 0, layer 1 as it was. -/
theorem ref_out (X : S2x4096x1024.Idx → EReal) (D : S2x4096x1024.Idx → EReal) (G : S2x1024x1024.Idx → EReal) :
    val_main_v9 (F := Ideal) X D G = fun i : S2x1024x1024.Idx => if (i 0).val / 1 = 0 then dotTN X D (i 1).val (i 2).val else G i := by
  funext i
  obtain ⟨a, r, j, rfl⟩ : ∃ (a : Fin 2) (r : Fin 1024) (j : Fin 1024), i = ix3 a r j := ⟨i 0, i 1, i 2, (ix3_eta i).symm⟩
  have h7 : ∀ q : Fin 1, val_main_v7 (F := Ideal) X D (ix3 q r j) = dotTN X D r j := fun q => by
    rw [val_main_v7_apply]
    refine (congrArg (val_main_v4 (F := Ideal) X D) (funext fun b => Fin.ext ?_)).trans (ref_dw X D r j)
    match b with
    | ⟨0, _⟩ => rfl
    | ⟨1, _⟩ => rfl
  have h8 : ∀ q : Fin 1, val_main_v8 (F := Ideal) G (ix3 q r j) = G (ix3 1 r j) := fun q => by
    rw [val_main_v8_apply, val_main_v6_apply, val_main_v5_apply]
    have hr : r.val < 1024 := r.isLt
    have hj : j.val < 1024 := j.isLt
    refine congrArg G (funext fun b => Fin.ext ?_)
    match b with
    | ⟨0, _⟩ => rfl
    | ⟨1, _⟩ => show (r.val * 1024 + j.val) / 1024 % 1024 = r.val; omega
    | ⟨2, _⟩ => show (r.val * 1024 + j.val) % 1024 = j.val; omega
  unfold val_main_v9
  generalize val_main_v7 (F := Ideal) X D = x7 at h7 ⊢
  generalize val_main_v8 (F := Ideal) G = x8 at h8 ⊢
  pointwise
  show _ = if a.val = 0 then dotTN X D r.val j.val else G (ix3 a r j)
  have ha : a.val < 2 := a.isLt
  by_cases h : a.val < 1
  · refine (dif_pos h).trans ((h7 ⟨a.val, h⟩).trans ?_)
    rw [if_pos (by omega)]
  · refine (dif_neg h).trans ((h8 ⟨a.val - 1, by omega⟩).trans ?_)
    rw [if_neg (by omega), show a = 1 from Fin.ext (by show a.val = 1; omega)]

theorem algebraic : Cert.algebraic_Kernel12Ideal_Reference12Ideal := by
  intro m g m' g' _ hm
  refine ⟨_, Cert.Kernel12Ideal.Value.run_blocks m g,
    (θ_run Cert.Reference12Ideal.defs _ _).mono (fun r h c => ?_) (Cert.Reference12Ideal.Value.run (F := Ideal) m' g')⟩
  obtain ⟨h0, hk⟩ := h c
  obtain ⟨e0, e1, e2⟩ := hm c
  refine ⟨h0.trans ?_, hk⟩
  rw [final_out m c, Cert.Reference12Ideal.Read.val_main_v9_eq, e0, e1, e2]
  exact ref_out _ _ _

end Cert.Proof.Mat12

end
-- ==== Proof.Mat13.lean ====
/- The input projection: the blocked product is the reference's. -/
module

public import proofs.«01_k».proof.Defs
public import proofs.«01_k».proof.Proof.MatKit
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit

@[expose] public section

set_option maxRecDepth 16384

noncomputable section

namespace Cert.Proof.Mat13

open Cert.Kernel13Ideal Cert.Kernel13Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x1024.Idx → EReal := m ((c : Thread nD τ).loc main_arg0)
abbrev B : S1024x10368.Idx → EReal := m ((c : Thread nD τ).loc main_arg1)

theorem index0 : ∀ t : Fin cfg0.N, win0_0.index t 0 = t.val / 9 ∧ win0_0.index t 1 = 0 :=
  (by decide +kernel : ∀ t : Fin grid0.N, _)

theorem index1 : ∀ t : Fin cfg0.N, win0_1.index t 0 = 0 ∧ win0_1.index t 1 = t.val % 9 :=
  (by decide +kernel : ∀ t : Fin grid0.N, _)

theorem V_in : V m c main_v0 = shapeCast S8192x1024 (A m c) shapeCasts_S2x4096x1024_S8192x1024 := by
  simp only [V, hostOps0]
  after_results
  try rfl

theorem V_row (i : S8192x1024.Idx) : (V m c main_v0 : S8192x1024.Idx → EReal) i = rowAt (A m c) (i 0).val (i 1).val := by
  rw [V_in]
  exact flat_rows _ _ _

theorem a_tile (t : Fin cfg0.N) (x : S2048x1024.Idx) : (iblk m c 0 t : S2048x1024.Idx → EReal) x
    = rowAt (A m c) (t.val / 9 * 2048 + (x 0).val) ((x 1).val) := by
  unfold iblk
  blk_simp [index0]
  refine (V_row m c _).trans ?_
  have h0 : ((win0_0.blk t).view.emb x 0).val = win0_0.index t 0 * 2048 + 1 * (x 0).val := rfl
  have h1 : ((win0_0.blk t).view.emb x 1).val = win0_0.index t 1 * 1024 + 1 * (x 1).val := rfl
  rw [h0, h1, (index0 t).1, (index0 t).2, Nat.one_mul, Nat.one_mul, Nat.zero_mul, Nat.zero_add]

theorem b_tile (t : Fin cfg0.N) (x : S1024x1152.Idx) : (iblk m c 1 t : S1024x1152.Idx → EReal) x
    = at2 (B m c) ((x 0).val) (t.val % 9 * 1152 + (x 1).val) := by
  unfold iblk
  blk_simp [index1]
  rw [V_main_arg1]
  refine at2_of _ _ ?_ ?_
  · show win0_1.index t 0 * 1024 + 1 * (x 0).val = _
    rw [(index1 t).1, Nat.one_mul, Nat.zero_mul, Nat.zero_add]
  · show win0_1.index t 1 * 1152 + 1 * (x 1).val = _
    rw [(index1 t).2, Nat.one_mul]

theorem tile (t : Fin cfg0.N) (y : S2048x1152.Idx) :
    (out0_2 (F := Ideal) (iblk m c 0 t) (iblk m c 1 t) : S2048x1152.Idx → EReal) y
      = dotNN (A m c) (B m c) (t.val / 9 * 2048 + (y 0).val) (t.val % 9 * 1152 + (y 1).val) := by
  obtain ⟨r, j, rfl⟩ : ∃ (r : Fin 2048) (j : Fin 1152), y = ix2 r j := ⟨y 0, y 1, (ix2_eta y).symm⟩
  frame_out
  unfold k0_pay1
  pointwise
  unfold dotNN
  exact sum_fin _ _ fun k => congr_arg₂ (· * ·) (a_tile m c t (ix2 r k)) (b_tile m c t (ix2 k j))

theorem index2 : ∀ t : Fin cfg0.N, win0_2.index t 0 = t.val / 9 ∧ win0_2.index t 1 = t.val % 9 :=
  (by decide +kernel : ∀ t : Fin grid0.N, _)

theorem final_out : (dats m 0 c).arrAt 2 cfg0.N = fun i : S8192x10368.Idx => dotNN (A m c) (B m c) (i 0).val (i 1).val := by
  refine (dats m 0 c).arrAt_eq_of_covers 2 _ (by decide +kernel) (fun t hf y => ?_)
  blk_simp
  rw [after0_2, (index2 t).1, (index2 t).2]
  exact tile m c t _

/-- The reference's product, row by row. -/
theorem ref_out (D : S2x4096x1024.Idx → EReal) (W : S1024x10368.Idx → EReal) :
    Cert.Reference13Ideal.Read.val_main_v3 (F := Ideal) D W = fun i : S8192x10368.Idx => dotNN D W (i 0).val (i 1).val := by
  funext i
  rw [Cert.Reference13Ideal.Read.val_main_v3_apply, Cert.Reference13Ideal.Read.val_main_v2_apply]
  unfold dotNN
  have hi0 : (i 0).val < 8192 := (i 0).isLt
  have hi1 : (i 1).val < 10368 := (i 1).isLt
  refine sum_fin _ _ fun k => congr_arg₂ (· * ·) (rowAt_of D _ ?_ rfl) (at2_of W _ rfl ?_)
  · show ((i 0).val * 10368 + (i 1).val) / 42467328 * 4096 + ((i 0).val * 10368 + (i 1).val) / 10368 % 4096 = _
    omega
  · show ((i 0).val * 10368 + (i 1).val) % 10368 = _
    omega

theorem algebraic : Cert.algebraic_Kernel13Ideal_Reference13Ideal := by
  intro m g m' g' _ hm
  refine ⟨_, Cert.Kernel13Ideal.Value.run_blocks m g,
    (θ_run Cert.Reference13Ideal.defs _ _).mono (fun r h c => ?_) (Cert.Reference13Ideal.Value.run (F := Ideal) m' g')⟩
  obtain ⟨h0, hk⟩ := h c
  obtain ⟨e0, e1⟩ := hm c
  refine ⟨h0.trans ?_, hk⟩
  rw [final_out m c, Cert.Reference13Ideal.Read.val_main_v3_eq, e0, e1]
  exact ref_out _ _

end Cert.Proof.Mat13

end
-- ==== Proof.Mat14.lean ====
/- The feed-forward layer's first product: the blocked product is the reference's. -/
module

public import proofs.«01_k».proof.Defs
public import proofs.«01_k».proof.Proof.MatKit
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

namespace Cert.Proof.Mat14

open Cert.Kernel14Ideal Cert.Kernel14Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x1024.Idx → EReal := m ((c : Thread nD τ).loc main_arg0)
abbrev B : S1024x5632.Idx → EReal := m ((c : Thread nD τ).loc main_arg1)

theorem index0 : ∀ t : Fin cfg0.N, win0_0.index t 0 = t.val / 4 ∧ win0_0.index t 1 = 0 :=
  (by decide +kernel : ∀ t : Fin grid0.N, _)

theorem index1 : ∀ t : Fin cfg0.N, win0_1.index t 0 = 0 ∧ win0_1.index t 1 = t.val % 4 :=
  (by decide +kernel : ∀ t : Fin grid0.N, _)

theorem V_in : V m c main_v0 = shapeCast S8192x1024 (A m c) shapeCasts_S2x4096x1024_S8192x1024 := by
  simp only [V, hostOps0]
  after_results
  try rfl

theorem V_row (i : S8192x1024.Idx) : (V m c main_v0 : S8192x1024.Idx → EReal) i = rowAt (A m c) (i 0).val (i 1).val := by
  rw [V_in]
  exact flat_rows _ _ _

theorem a_tile (t : Fin cfg0.N) (x : S2048x1024.Idx) : (iblk m c 0 t : S2048x1024.Idx → EReal) x
    = rowAt (A m c) (t.val / 4 * 2048 + (x 0).val) ((x 1).val) := by
  unfold iblk
  blk_simp [index0]
  refine (V_row m c _).trans ?_
  have h0 : ((win0_0.blk t).view.emb x 0).val = win0_0.index t 0 * 2048 + 1 * (x 0).val := rfl
  have h1 : ((win0_0.blk t).view.emb x 1).val = win0_0.index t 1 * 1024 + 1 * (x 1).val := rfl
  rw [h0, h1, (index0 t).1, (index0 t).2, Nat.one_mul, Nat.one_mul, Nat.zero_mul, Nat.zero_add]

theorem b_tile (t : Fin cfg0.N) (x : S1024x1408.Idx) : (iblk m c 1 t : S1024x1408.Idx → EReal) x
    = at2 (B m c) ((x 0).val) (t.val % 4 * 1408 + (x 1).val) := by
  unfold iblk
  blk_simp [index1]
  rw [V_main_arg1]
  refine at2_of _ _ ?_ ?_
  · show win0_1.index t 0 * 1024 + 1 * (x 0).val = _
    rw [(index1 t).1, Nat.one_mul, Nat.zero_mul, Nat.zero_add]
  · show win0_1.index t 1 * 1408 + 1 * (x 1).val = _
    rw [(index1 t).2, Nat.one_mul]

theorem tile (t : Fin cfg0.N) (y : S2048x1408.Idx) :
    (out0_2 (F := Ideal) (iblk m c 0 t) (iblk m c 1 t) : S2048x1408.Idx → EReal) y
      = dotNN (A m c) (B m c) (t.val / 4 * 2048 + (y 0).val) (t.val % 4 * 1408 + (y 1).val) := by
  obtain ⟨r, j, rfl⟩ : ∃ (r : Fin 2048) (j : Fin 1408), y = ix2 r j := ⟨y 0, y 1, (ix2_eta y).symm⟩
  frame_out
  unfold k0_pay1
  pointwise
  unfold dotNN
  exact sum_fin _ _ fun k => congr_arg₂ (· * ·) (a_tile m c t (ix2 r k)) (b_tile m c t (ix2 k j))

theorem index2 : ∀ t : Fin cfg0.N, win0_2.index t 0 = t.val / 4 ∧ win0_2.index t 1 = t.val % 4 :=
  (by decide +kernel : ∀ t : Fin grid0.N, _)

theorem final_out : (dats m 0 c).arrAt 2 cfg0.N = fun i : S8192x5632.Idx => dotNN (A m c) (B m c) (i 0).val (i 1).val := by
  refine (dats m 0 c).arrAt_eq_of_covers 2 _ (by decide +kernel) (fun t hf y => ?_)
  blk_simp
  rw [after0_2, (index2 t).1, (index2 t).2]
  exact tile m c t _

/-- The reference's product, row by row. -/
theorem ref_out (D : S2x4096x1024.Idx → EReal) (W : S1024x5632.Idx → EReal) :
    Cert.Reference14Ideal.Read.val_main_v3 (F := Ideal) D W = fun i : S8192x5632.Idx => dotNN D W (i 0).val (i 1).val := by
  funext i
  rw [Cert.Reference14Ideal.Read.val_main_v3_apply, Cert.Reference14Ideal.Read.val_main_v2_apply]
  unfold dotNN
  have hi0 : (i 0).val < 8192 := (i 0).isLt
  have hi1 : (i 1).val < 5632 := (i 1).isLt
  refine sum_fin _ _ fun k => congr_arg₂ (· * ·) (rowAt_of D _ ?_ rfl) (at2_of W _ rfl ?_)
  · show ((i 0).val * 5632 + (i 1).val) / 23068672 * 4096 + ((i 0).val * 5632 + (i 1).val) / 5632 % 4096 = _
    omega
  · show ((i 0).val * 5632 + (i 1).val) % 5632 = _
    omega

theorem algebraic : Cert.algebraic_Kernel14Ideal_Reference14Ideal := by
  intro m g m' g' _ hm
  refine ⟨_, Cert.Kernel14Ideal.Value.run_blocks m g,
    (θ_run Cert.Reference14Ideal.defs _ _).mono (fun r h c => ?_) (Cert.Reference14Ideal.Value.run (F := Ideal) m' g')⟩
  obtain ⟨h0, hk⟩ := h c
  obtain ⟨e0, e1⟩ := hm c
  refine ⟨h0.trans ?_, hk⟩
  rw [final_out m c, Cert.Reference14Ideal.Read.val_main_v3_eq, e0, e1]
  exact ref_out _ _

end Cert.Proof.Mat14

end
-- ==== Proof.Mat15.lean ====
/- The feed-forward layer's second product: the blocked product is the reference's. -/
module

public import proofs.«01_k».proof.Defs
public import proofs.«01_k».proof.Proof.MatKit
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit

@[expose] public section

set_option maxRecDepth 16384

noncomputable section

namespace Cert.Proof.Mat15

open Cert.Kernel15Ideal Cert.Kernel15Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x2816.Idx → EReal := m ((c : Thread nD τ).loc main_arg0)
abbrev B : S2816x1024.Idx → EReal := m ((c : Thread nD τ).loc main_arg1)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem V_in : V m c main_v0 = shapeCast S8192x2816 (A m c) shapeCasts_S2x4096x2816_S8192x2816 := by
  simp only [V, hostOps0]
  after_results
  try rfl

theorem V_row (i : S8192x2816.Idx) : (V m c main_v0 : S8192x2816.Idx → EReal) i = rowAt (A m c) (i 0).val (i 1).val := by
  rw [V_in]
  exact flat_rows _ _ _

theorem a_tile (t : Fin cfg0.N) (x : S1024x2816.Idx) : (iblk m c 0 t : S1024x2816.Idx → EReal) x
    = rowAt (A m c) (t.val * 1024 + (x 0).val) ((x 1).val) := by
  unfold iblk
  blk_simp [index0]
  refine (V_row m c _).trans ?_
  have h0 : ((win0_0.blk t).view.emb x 0).val = win0_0.index t 0 * 1024 + 1 * (x 0).val := rfl
  have h1 : ((win0_0.blk t).view.emb x 1).val = win0_0.index t 1 * 2816 + 1 * (x 1).val := rfl
  rw [h0, h1, (index0 t).1, (index0 t).2, Nat.one_mul, Nat.one_mul, Nat.zero_mul, Nat.zero_add]

theorem b_tile (t : Fin cfg0.N) (x : S2816x1024.Idx) : (iblk m c 1 t : S2816x1024.Idx → EReal) x
    = at2 (B m c) ((x 0).val) ((x 1).val) := by
  unfold iblk
  blk_simp [index1]
  rw [V_main_arg1]
  refine at2_of _ _ ?_ ?_
  · show win0_1.index t 0 * 2816 + 1 * (x 0).val = _
    rw [(index1 t).1, Nat.one_mul, Nat.zero_mul, Nat.zero_add]
  · show win0_1.index t 1 * 1024 + 1 * (x 1).val = _
    rw [(index1 t).2, Nat.one_mul, Nat.zero_mul, Nat.zero_add]

theorem tile (t : Fin cfg0.N) (y : S1024x1024.Idx) :
    (out0_2 (F := Ideal) (iblk m c 0 t) (iblk m c 1 t) : S1024x1024.Idx → EReal) y
      = dotNN (A m c) (B m c) (t.val * 1024 + (y 0).val) ((y 1).val) := by
  obtain ⟨r, j, rfl⟩ : ∃ (r : Fin 1024) (j : Fin 1024), y = ix2 r j := ⟨y 0, y 1, (ix2_eta y).symm⟩
  frame_out
  unfold k0_pay1
  pointwise
  unfold dotNN
  exact sum_fin _ _ fun k => congr_arg₂ (· * ·) (a_tile m c t (ix2 r k)) (b_tile m c t (ix2 k j))

theorem index2 : ∀ t : Fin cfg0.N, win0_2.index t 0 = t.val ∧ win0_2.index t 1 = 0 :=
  (by decide +kernel : ∀ t : Fin grid0.N, _)

theorem final_out : (dats m 0 c).arrAt 2 cfg0.N = fun i : S8192x1024.Idx => dotNN (A m c) (B m c) (i 0).val (i 1).val := by
  refine (dats m 0 c).arrAt_eq_of_covers 2 _ (by decide +kernel) (fun t hf y => ?_)
  blk_simp
  rw [after0_2, (index2 t).1, (index2 t).2, Nat.zero_mul, Nat.zero_add]
  exact tile m c t _

/-- The reference's product, row by row. -/
theorem ref_out (D : S2x4096x2816.Idx → EReal) (W : S2816x1024.Idx → EReal) :
    Cert.Reference15Ideal.Read.val_main_v3 (F := Ideal) D W = fun i : S8192x1024.Idx => dotNN D W (i 0).val (i 1).val := by
  funext i
  rw [Cert.Reference15Ideal.Read.val_main_v3_apply, Cert.Reference15Ideal.Read.val_main_v2_apply]
  unfold dotNN
  have hi0 : (i 0).val < 8192 := (i 0).isLt
  have hi1 : (i 1).val < 1024 := (i 1).isLt
  refine sum_fin _ _ fun k => congr_arg₂ (· * ·) (rowAt_of D _ ?_ rfl) (at2_of W _ rfl ?_)
  · show ((i 0).val * 1024 + (i 1).val) / 4194304 * 4096 + ((i 0).val * 1024 + (i 1).val) / 1024 % 4096 = _
    omega
  · show ((i 0).val * 1024 + (i 1).val) % 1024 = _
    omega

theorem algebraic : Cert.algebraic_Kernel15Ideal_Reference15Ideal := by
  intro m g m' g' _ hm
  refine ⟨_, Cert.Kernel15Ideal.Value.run_blocks m g,
    (θ_run Cert.Reference15Ideal.defs _ _).mono (fun r h c => ?_) (Cert.Reference15Ideal.Value.run (F := Ideal) m' g')⟩
  obtain ⟨h0, hk⟩ := h c
  obtain ⟨e0, e1⟩ := hm c
  refine ⟨h0.trans ?_, hk⟩
  rw [final_out m c, Cert.Reference15Ideal.Read.val_main_v3_eq, e0, e1]
  exact ref_out _ _

end Cert.Proof.Mat15

end
-- ==== Proof.Mat16.lean ====
/- The state-space branch's output product: the blocked product is the reference's. -/
module

public import proofs.«01_k».proof.Defs
public import proofs.«01_k».proof.Proof.MatKit
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit

@[expose] public section

set_option maxRecDepth 16384

noncomputable section

namespace Cert.Proof.Mat16

open Cert.Kernel16Ideal Cert.Kernel16Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x2048.Idx → EReal := m ((c : Thread nD τ).loc main_arg0)
abbrev B : S2048x1024.Idx → EReal := m ((c : Thread nD τ).loc main_arg1)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem V_in : V m c main_v0 = shapeCast S8192x2048 (A m c) shapeCasts_S2x4096x2048_S8192x2048 := by
  simp only [V, hostOps0]
  after_results
  try rfl

theorem V_row (i : S8192x2048.Idx) : (V m c main_v0 : S8192x2048.Idx → EReal) i = rowAt (A m c) (i 0).val (i 1).val := by
  rw [V_in]
  exact flat_rows _ _ _

theorem a_tile (t : Fin cfg0.N) (x : S1024x2048.Idx) : (iblk m c 0 t : S1024x2048.Idx → EReal) x
    = rowAt (A m c) (t.val * 1024 + (x 0).val) ((x 1).val) := by
  unfold iblk
  blk_simp [index0]
  refine (V_row m c _).trans ?_
  have h0 : ((win0_0.blk t).view.emb x 0).val = win0_0.index t 0 * 1024 + 1 * (x 0).val := rfl
  have h1 : ((win0_0.blk t).view.emb x 1).val = win0_0.index t 1 * 2048 + 1 * (x 1).val := rfl
  rw [h0, h1, (index0 t).1, (index0 t).2, Nat.one_mul, Nat.one_mul, Nat.zero_mul, Nat.zero_add]

theorem b_tile (t : Fin cfg0.N) (x : S2048x1024.Idx) : (iblk m c 1 t : S2048x1024.Idx → EReal) x
    = at2 (B m c) ((x 0).val) ((x 1).val) := by
  unfold iblk
  blk_simp [index1]
  rw [V_main_arg1]
  refine at2_of _ _ ?_ ?_
  · show win0_1.index t 0 * 2048 + 1 * (x 0).val = _
    rw [(index1 t).1, Nat.one_mul, Nat.zero_mul, Nat.zero_add]
  · show win0_1.index t 1 * 1024 + 1 * (x 1).val = _
    rw [(index1 t).2, Nat.one_mul, Nat.zero_mul, Nat.zero_add]

theorem tile (t : Fin cfg0.N) (y : S1024x1024.Idx) :
    (out0_2 (F := Ideal) (iblk m c 0 t) (iblk m c 1 t) : S1024x1024.Idx → EReal) y
      = dotNN (A m c) (B m c) (t.val * 1024 + (y 0).val) ((y 1).val) := by
  obtain ⟨r, j, rfl⟩ : ∃ (r : Fin 1024) (j : Fin 1024), y = ix2 r j := ⟨y 0, y 1, (ix2_eta y).symm⟩
  frame_out
  unfold k0_pay1
  pointwise
  unfold dotNN
  exact sum_fin _ _ fun k => congr_arg₂ (· * ·) (a_tile m c t (ix2 r k)) (b_tile m c t (ix2 k j))

theorem index2 : ∀ t : Fin cfg0.N, win0_2.index t 0 = t.val ∧ win0_2.index t 1 = 0 :=
  (by decide +kernel : ∀ t : Fin grid0.N, _)

theorem final_out : (dats m 0 c).arrAt 2 cfg0.N = fun i : S8192x1024.Idx => dotNN (A m c) (B m c) (i 0).val (i 1).val := by
  refine (dats m 0 c).arrAt_eq_of_covers 2 _ (by decide +kernel) (fun t hf y => ?_)
  blk_simp
  rw [after0_2, (index2 t).1, (index2 t).2, Nat.zero_mul, Nat.zero_add]
  exact tile m c t _

/-- The reference's product, row by row. -/
theorem ref_out (D : S2x4096x2048.Idx → EReal) (W : S2048x1024.Idx → EReal) :
    Cert.Reference16Ideal.Read.val_main_v3 (F := Ideal) D W = fun i : S8192x1024.Idx => dotNN D W (i 0).val (i 1).val := by
  funext i
  rw [Cert.Reference16Ideal.Read.val_main_v3_apply, Cert.Reference16Ideal.Read.val_main_v2_apply]
  unfold dotNN
  have hi0 : (i 0).val < 8192 := (i 0).isLt
  have hi1 : (i 1).val < 1024 := (i 1).isLt
  refine sum_fin _ _ fun k => congr_arg₂ (· * ·) (rowAt_of D _ ?_ rfl) (at2_of W _ rfl ?_)
  · show ((i 0).val * 1024 + (i 1).val) / 4194304 * 4096 + ((i 0).val * 1024 + (i 1).val) / 1024 % 4096 = _
    omega
  · show ((i 0).val * 1024 + (i 1).val) % 1024 = _
    omega

theorem algebraic : Cert.algebraic_Kernel16Ideal_Reference16Ideal := by
  intro m g m' g' _ hm
  refine ⟨_, Cert.Kernel16Ideal.Value.run_blocks m g,
    (θ_run Cert.Reference16Ideal.defs _ _).mono (fun r h c => ?_) (Cert.Reference16Ideal.Value.run (F := Ideal) m' g')⟩
  obtain ⟨h0, hk⟩ := h c
  obtain ⟨e0, e1⟩ := hm c
  refine ⟨h0.trans ?_, hk⟩
  rw [final_out m c, Cert.Reference16Ideal.Read.val_main_v3_eq, e0, e1]
  exact ref_out _ _

end Cert.Proof.Mat16

end
-- ==== Proof.Mat17.lean ====
/- The mixer's output product: the blocked product is the reference's. -/
module

public import proofs.«01_k».proof.Defs
public import proofs.«01_k».proof.Proof.MatKit
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pipeline.ValueKit

@[expose] public section

set_option maxRecDepth 16384

noncomputable section

namespace Cert.Proof.Mat17

open Cert.Kernel17Ideal Cert.Kernel17Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows, and the weights. -/
abbrev A : S2x4096x1024.Idx → EReal := m ((c : Thread nD τ).loc main_arg0)
abbrev B : S1024x1024.Idx → EReal := m ((c : Thread nD τ).loc main_arg1)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem V_in : V m c main_v0 = shapeCast S8192x1024 (A m c) shapeCasts_S2x4096x1024_S8192x1024 := by
  simp only [V, hostOps0]
  after_results
  try rfl

theorem V_row (i : S8192x1024.Idx) : (V m c main_v0 : S8192x1024.Idx → EReal) i = rowAt (A m c) (i 0).val (i 1).val := by
  rw [V_in]
  exact flat_rows _ _ _

theorem a_tile (t : Fin cfg0.N) (x : S1024x1024.Idx) : (iblk m c 0 t : S1024x1024.Idx → EReal) x
    = rowAt (A m c) (t.val * 1024 + (x 0).val) ((x 1).val) := by
  unfold iblk
  blk_simp [index0]
  refine (V_row m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul, Nat.zero_mul, Nat.zero_add]

theorem b_tile (t : Fin cfg0.N) (x : S1024x1024.Idx) : (iblk m c 1 t : S1024x1024.Idx → EReal) x
    = at2 (B m c) ((x 0).val) ((x 1).val) := by
  unfold iblk
  blk_simp [index1]
  rw [V_main_arg1]
  refine at2_of _ _ ?_ ?_
  · show win0_1.index t 0 * 1024 + 1 * (x 0).val = _
    rw [(index1 t).1, Nat.one_mul, Nat.zero_mul, Nat.zero_add]
  · show win0_1.index t 1 * 1024 + 1 * (x 1).val = _
    rw [(index1 t).2, Nat.one_mul, Nat.zero_mul, Nat.zero_add]

theorem tile (t : Fin cfg0.N) (y : S1024x1024.Idx) :
    (out0_2 (F := Ideal) (iblk m c 0 t) (iblk m c 1 t) : S1024x1024.Idx → EReal) y
      = dotNN (A m c) (B m c) (t.val * 1024 + (y 0).val) ((y 1).val) := by
  obtain ⟨r, j, rfl⟩ : ∃ (r : Fin 1024) (j : Fin 1024), y = ix2 r j := ⟨y 0, y 1, (ix2_eta y).symm⟩
  frame_out
  unfold k0_pay1
  pointwise
  unfold dotNN
  exact sum_fin _ _ fun k => congr_arg₂ (· * ·) (a_tile m c t (ix2 r k)) (b_tile m c t (ix2 k j))

theorem index2 : ∀ t : Fin cfg0.N, win0_2.index t 0 = t.val ∧ win0_2.index t 1 = 0 :=
  (by decide +kernel : ∀ t : Fin grid0.N, _)

theorem final_out : (dats m 0 c).arrAt 2 cfg0.N = fun i : S8192x1024.Idx => dotNN (A m c) (B m c) (i 0).val (i 1).val := by
  refine (dats m 0 c).arrAt_eq_of_covers 2 _ (by decide +kernel) (fun t hf y => ?_)
  blk_simp
  rw [after0_2, (index2 t).1, (index2 t).2, Nat.zero_mul, Nat.zero_add]
  exact tile m c t _

/-- The reference's product, row by row. -/
theorem ref_out (D : S2x4096x1024.Idx → EReal) (W : S1024x1024.Idx → EReal) :
    Cert.Reference17Ideal.Read.val_main_v3 (F := Ideal) D W = fun i : S8192x1024.Idx => dotNN D W (i 0).val (i 1).val := by
  funext i
  rw [Cert.Reference17Ideal.Read.val_main_v3_apply, Cert.Reference17Ideal.Read.val_main_v2_apply]
  unfold dotNN
  have hi0 : (i 0).val < 8192 := (i 0).isLt
  have hi1 : (i 1).val < 1024 := (i 1).isLt
  refine sum_fin _ _ fun k => congr_arg₂ (· * ·) (rowAt_of D _ ?_ rfl) (at2_of W _ rfl ?_)
  · show ((i 0).val * 1024 + (i 1).val) / 4194304 * 4096 + ((i 0).val * 1024 + (i 1).val) / 1024 % 4096 = _
    omega
  · show ((i 0).val * 1024 + (i 1).val) % 1024 = _
    omega

theorem algebraic : Cert.algebraic_Kernel17Ideal_Reference17Ideal := by
  intro m g m' g' _ hm
  refine ⟨_, Cert.Kernel17Ideal.Value.run_blocks m g,
    (θ_run Cert.Reference17Ideal.defs _ _).mono (fun r h c => ?_) (Cert.Reference17Ideal.Value.run (F := Ideal) m' g')⟩
  obtain ⟨h0, hk⟩ := h c
  obtain ⟨e0, e1⟩ := hm c
  refine ⟨h0.trans ?_, hk⟩
  rw [final_out m c, Cert.Reference17Ideal.Read.val_main_v3_eq, e0, e1]
  exact ref_out _ _

end Cert.Proof.Mat17

end
-- ==== Proof.Mat18.lean ====
/- The gradient of the input projection's weights, layer 1's: the blocked product is the reference's. -/
module

public import proofs.«01_k».proof.Defs
public import proofs.«01_k».proof.Proof.MatKit
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit

@[expose] public section

set_option maxRecDepth 16384

noncomputable section

namespace Cert.Proof.Mat18

open Cert.Kernel18Ideal Cert.Kernel18Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, and the gradient flowing in. -/
abbrev A : S2x4096x1024.Idx → EReal := m ((c : Thread nD τ).loc main_arg0)
abbrev B : S2x4096x10368.Idx → EReal := m ((c : Thread nD τ).loc main_arg1)

theorem index0 : ∀ t : Fin cfg0.N, win0_0.index t 0 = t.val % 4 ∧ win0_0.index t 1 = t.val / 4 / 9 :=
  (by decide +kernel : ∀ t : Fin grid0.N, _)

theorem index1 : ∀ t : Fin cfg0.N, win0_1.index t 0 = t.val % 4 ∧ win0_1.index t 1 = t.val / 4 % 9 :=
  (by decide +kernel : ∀ t : Fin grid0.N, _)

theorem index2 : ∀ t : Fin cfg0.N, (win0_2.index t 0 = 1 ∧ win0_2.index t 1 = t.val / 4 / 9) ∧ win0_2.index t 2 = t.val / 4 % 9 :=
  (by decide +kernel : ∀ t : Fin grid0.N, _)

theorem V_in0 : V m c main_v0 = shapeCast S8192x1024 (A m c) shapeCasts_S2x4096x1024_S8192x1024 := by
  simp only [V, V0, hostOps0, List.flatten_cons, List.flatten_nil, List.append_nil]
  after_results
  try rfl

theorem V_in1 : V m c main_v1 = shapeCast S8192x10368 (B m c) shapeCasts_S2x4096x10368_S8192x10368 := by
  simp only [V, V0, hostOps0, List.flatten_cons, List.flatten_nil, List.append_nil]
  after_results
  try rfl

theorem V_row0 (i : S8192x1024.Idx) : (V m c main_v0 : S8192x1024.Idx → EReal) i = rowAt (A m c) (i 0).val (i 1).val := by
  rw [V_in0]
  exact flat_rows _ _ _

theorem V_row1 (i : S8192x10368.Idx) : (V m c main_v1 : S8192x10368.Idx → EReal) i = rowAt (B m c) (i 0).val (i 1).val := by
  rw [V_in1]
  exact flat_rows _ _ _

theorem a_tile (t : Fin cfg0.N) (x : S2048x1024.Idx) : (iblk m c 0 t : S2048x1024.Idx → EReal) x
    = rowAt (A m c) (t.val % 4 * 2048 + (x 0).val) (t.val / 4 / 9 * 1024 + (x 1).val) := by
  unfold iblk
  blk_simp [index0]
  refine (V_row0 m c _).trans ?_
  have h0 : ((win0_0.blk t).view.emb x 0).val = win0_0.index t 0 * 2048 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S2048x1152.Idx) : (iblk m c 1 t : S2048x1152.Idx → EReal) x
    = rowAt (B m c) (t.val % 4 * 2048 + (x 0).val) (t.val / 4 % 9 * 1152 + (x 1).val) := by
  unfold iblk
  blk_simp [index1]
  refine (V_row1 m c _).trans ?_
  have h0 : ((win0_1.blk t).view.emb x 0).val = win0_1.index t 0 * 2048 + 1 * (x 0).val := rfl
  have h1 : ((win0_1.blk t).view.emb x 1).val = win0_1.index t 1 * 1152 + 1 * (x 1).val := rfl
  rw [h0, h1, (index1 t).1, (index1 t).2, Nat.one_mul, Nat.one_mul]

/-- What row `k` adds to entry `y` of tile `q`. -/
def summand (q : ℕ) (y : S1024x1152.Idx) (k : ℕ) : EReal :=
  rowAt (A m c) k (q / 9 * 1024 + (y 0).val) * rowAt (B m c) k (q % 9 * 1152 + (y 1).val)

theorem block_product (t : Fin cfg0.N) (z : S1024x1152.Idx → EReal) (y : S1024x1152.Idx) :
    (k0_pay2 (F := Ideal) z (iblk m c 0 t) (iblk m c 1 t) : S1024x1152.Idx → EReal) y
      = z y + ∑ l : Fin 2048, summand m c (t.val / 4) y (t.val % 4 * 2048 + l.val) := by
  obtain ⟨r, j, rfl⟩ : ∃ (r : Fin 1024) (j : Fin 1152), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 4 = 0) (y : S1024x1152.Idx) : ((outsAt0 m c t.val t.isLt).2 : Vec Ideal S1024x1152 .f32) y
    = ((outsAt0 m c (t.val - 1) (Nat.lt_of_le_of_lt (Nat.sub_le _ _) t.isLt)).2 : Vec Ideal S1024x1152 .f32) y
      + ∑ l : Fin 2048, summand m c (t.val / 4) y (t.val % 4 * 2048 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S1024x1152.Idx) : ((outsAt0 m c t.val t.isLt).2 : Vec Ideal S1024x1152 .f32) y
    = (0 : EReal) + ∑ l : Fin 2048, summand m c (t.val / 4) y (t.val % 4 * 2048 + l.val) := by
  rw [outsAt0_A m c t h (by omega)]
  frame_out
  have hz : (k0_pay1 : FVec Ideal S1024x1152 .f32) y = 0 := by unfold k0_pay1; pointwise
  exact (block_product m c t _ y).trans (congrArg (· + _) hz)

/-- The block written out is the sum, its format changed. -/
theorem out_last (t : Fin cfg0.N) (h : t.val % 4 = 3) (r : Fin 1024) (j : Fin 1152) :
    ((outsAt0 m c t.val t.isLt).1 : S1x1024x1152.Idx → EReal) (ix3 0 r j) = ((outsAt0 m c t.val t.isLt).2 : S1024x1152.Idx → EReal) (ix2 r j) := by
  rw [outsAt0_C m c t (by omega) h]
  frame_out
  generalize k0_pay2 (F := Ideal) _ _ _ = v
  unfold k0_pay3
  pointwise

/-- Layer 1's half of the array made; the other half is not written. -/
theorem final_out : (dats m 0 c).arrAt 2 cfg0.N
    = fun i : S2x1024x10368.Idx => if (i 0).val / 1 = 1 then dotTN (A m c) (B m c) (i 1).val (i 2).val else (dats m 0 c).A 2 i := by
  refine (dats m 0 c).arrAt_eq_of_coversWhere 2 (fun i : S2x1024x10368.Idx => dotTN (A m c) (B m c) (i 1).val (i 2).val)
          (P := fun i : S2x1024x10368.Idx => (i 0).val / 1 = 1) (fun β => β (0 : Fin _) = 1) (by decide +kernel)
          (fun t hf y => ?_) (fun j => Iff.rfl)
  have hm : t.val % 4 = 3 := (flush0_2 t).mp hf
  blk_simp
  rw [after0_2, (index2 t).1.2, (index2 t).2]
  obtain ⟨a, r, j, rfl⟩ : ∃ (a : Fin 1) (r : Fin 1024) (j : Fin 1152), y = ix3 a r j := ⟨_, _, _, (ix3_eta (n0 := 1) (n1 := 1024) (n2 := 1152) y).symm⟩
  obtain rfl : a = 0 := Subsingleton.elim _ _
  refine (out_last m c t hm r j).trans ?_
  exact sum_run (fun n h => ((outsAt0 m c n h).2 : S1024x1152.Idx → EReal)) 4 2048 (summand m c) (acc_reset m c) (acc_step m c)
    (by decide) t hm (ix2 r j)

/-- What @main returns: layer 1's half, cut out of the array. -/
theorem cut_out : Pipeline.afterTail₀ cfgs (dats m) 0 (V0 m) [hostOps1] c main_v4
    = fun i : S1024x10368.Idx => dotTN (A m c) (B m c) (i 0).val (i 1).val := by
  have hw : Pipeline.withArrays cfg0.spec c (V0 m c) (fun w => (dats m 0 c).arrAt w cfg0.N) (Proc.devRef .tc main_v2) = (dats m 0 c).arrAt 2 cfg0.N :=
    Pipeline.withArrays_arr cfg0.spec launch0.win.arr_inj c (V0 m c) _ 2
  have h : Pipeline.afterTail₀ cfgs (dats m) 0 (V0 m) [hostOps1] c main_v4
      = shapeCast S1024x10368 (extractStridedSlice S1x1024x10368 ![1, 0, 0] ((dats m 0 c).arrAt 2 cfg0.N : S2x1024x10368.Idx → EReal) slices_S2x1024x10368_S1x1024x10368_1_0_0)
          shapeCasts_S1x1024x10368_S1024x10368 := by
    rw [← hw]
    unfold Pipeline.afterTail₀
    simp only [hostOps1, List.flatten_cons, List.flatten_nil, List.append_nil]
    after_results
    try rfl
  rw [h, final_out]
  funext i
  obtain ⟨r, j, rfl⟩ : ∃ (r : Fin 1024) (j : Fin 10368), i = ix2 r j := ⟨i 0, i 1, (ix2_eta i).symm⟩
  pointwise

open Cert.Reference18Ideal.Read in
theorem ref_dw (X : S2x4096x1024.Idx → EReal) (D : S2x4096x10368.Idx → EReal) (r : Fin 1024) (j : Fin 10368) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

theorem algebraic : Cert.algebraic_Kernel18Ideal_Reference18Ideal := by
  intro m g m' g' _ hm
  refine ⟨fun c => Pipeline.afterTail₀ cfgs (dats m) 0 (V0 m) [hostOps1] c main_v4,
    (θ_run Cert.Kernel18Ideal.defs _ _).mono (fun r h c => ⟨(h.1 c).2 main_v4 (Pipeline.mem_restRefs_of main_v4 (by decide) (by decide)), h.2 c⟩)
      (θ_run_and (run_main m g) (unchanged m g)),
    (θ_run Cert.Reference18Ideal.defs _ _).mono (fun r h c => ?_) (Cert.Reference18Ideal.Value.run (F := Ideal) m' g')⟩
  obtain ⟨h0, hk⟩ := h c
  obtain ⟨e0, e1⟩ := hm c
  refine ⟨h0.trans (Eq.trans ?_ (cut_out m c).symm), hk⟩
  rw [Cert.Reference18Ideal.Read.val_main_v4_eq, e0, e1]
  funext i
  obtain ⟨r, j, rfl⟩ : ∃ (r : Fin 1024) (j : Fin 10368), i = ix2 r j := ⟨i 0, i 1, (ix2_eta i).symm⟩
  exact ref_dw _ _ _ _

end Cert.Proof.Mat18

end
-- ==== Proof.Mat19.lean ====
/- The gradient of the feed-forward layer's first weights, layer 1's: the blocked product is the reference's. -/
module

public import proofs.«01_k».proof.Defs
public import proofs.«01_k».proof.Proof.MatKit
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import Idealize.ShloMosaic.Lib.Pipeline.ValueKit

@[expose] public section

set_option maxRecDepth 16384

noncomputable section

namespace Cert.Proof.Mat19

open Cert.Kernel19Ideal Cert.Kernel19Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, and the gradient flowing in. -/
abbrev A : S2x4096x1024.Idx → EReal := m ((c : Thread nD τ).loc main_arg0)
abbrev B : S2x4096x5632.Idx → EReal := m ((c : Thread nD τ).loc main_arg1)

theorem index0 : ∀ t : Fin cfg0.N, win0_0.index t 0 = t.val % 4 ∧ win0_0.index t 1 = t.val / 4 / 4 :=
  (by decide +kernel : ∀ t : Fin grid0.N, _)

theorem index1 : ∀ t : Fin cfg0.N, win0_1.index t 0 = t.val % 4 ∧ win0_1.index t 1 = t.val / 4 % 4 :=
  (by decide +kernel : ∀ t : Fin grid0.N, _)

theorem index2 : ∀ t : Fin cfg0.N, (win0_2.index t 0 = 1 ∧ win0_2.index t 1 = t.val / 4 / 4) ∧ win0_2.index t 2 = t.val / 4 % 4 :=
  (by decide +kernel : ∀ t : Fin grid0.N, _)

theorem V_in0 : V m c main_v0 = shapeCast S8192x1024 (A m c) shapeCasts_S2x4096x1024_S8192x1024 := by
  simp only [V, V0, hostOps0, List.flatten_cons, List.flatten_nil, List.append_nil]
  after_results
  try rfl

theorem V_in1 : V m c main_v1 = shapeCast S8192x5632 (B m c) shapeCasts_S2x4096x5632_S8192x5632 := by
  simp only [V, V0, hostOps0, List.flatten_cons, List.flatten_nil, List.append_nil]
  after_results
  try rfl

theorem V_row0 (i : S8192x1024.Idx) : (V m c main_v0 : S8192x1024.Idx → EReal) i = rowAt (A m c) (i 0).val (i 1).val := by
  rw [V_in0]
  exact flat_rows _ _ _

theorem V_row1 (i : S8192x5632.Idx) : (V m c main_v1 : S8192x5632.Idx → EReal) i = rowAt (B m c) (i 0).val (i 1).val := by
  rw [V_in1]
  exact flat_rows _ _ _

theorem a_tile (t : Fin cfg0.N) (x : S2048x1024.Idx) : (iblk m c 0 t : S2048x1024.Idx → EReal) x
    = rowAt (A m c) (t.val % 4 * 2048 + (x 0).val) (t.val / 4 / 4 * 1024 + (x 1).val) := by
  unfold iblk
  blk_simp [index0]
  refine (V_row0 m c _).trans ?_
  have h0 : ((win0_0.blk t).view.emb x 0).val = win0_0.index t 0 * 2048 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S2048x1408.Idx) : (iblk m c 1 t : S2048x1408.Idx → EReal) x
    = rowAt (B m c) (t.val % 4 * 2048 + (x 0).val) (t.val / 4 % 4 * 1408 + (x 1).val) := by
  unfold iblk
  blk_simp [index1]
  refine (V_row1 m c _).trans ?_
  have h0 : ((win0_1.blk t).view.emb x 0).val = win0_1.index t 0 * 2048 + 1 * (x 0).val := rfl
  have h1 : ((win0_1.blk t).view.emb x 1).val = win0_1.index t 1 * 1408 + 1 * (x 1).val := rfl
  rw [h0, h1, (index1 t).1, (index1 t).2, Nat.one_mul, Nat.one_mul]

/-- What row `k` adds to entry `y` of tile `q`. -/
def summand (q : ℕ) (y : S1024x1408.Idx) (k : ℕ) : EReal :=
  rowAt (A m c) k (q / 4 * 1024 + (y 0).val) * rowAt (B m c) k (q % 4 * 1408 + (y 1).val)

theorem block_product (t : Fin cfg0.N) (z : S1024x1408.Idx → EReal) (y : S1024x1408.Idx) :
    (k0_pay2 (F := Ideal) z (iblk m c 0 t) (iblk m c 1 t) : S1024x1408.Idx → EReal) y
      = z y + ∑ l : Fin 2048, summand m c (t.val / 4) y (t.val % 4 * 2048 + l.val) := by
  obtain ⟨r, j, rfl⟩ : ∃ (r : Fin 1024) (j : Fin 1408), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 4 = 0) (y : S1024x1408.Idx) : ((outsAt0 m c t.val t.isLt).2 : Vec Ideal S1024x1408 .f32) y
    = ((outsAt0 m c (t.val - 1) (Nat.lt_of_le_of_lt (Nat.sub_le _ _) t.isLt)).2 : Vec Ideal S1024x1408 .f32) y
      + ∑ l : Fin 2048, summand m c (t.val / 4) y (t.val % 4 * 2048 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S1024x1408.Idx) : ((outsAt0 m c t.val t.isLt).2 : Vec Ideal S1024x1408 .f32) y
    = (0 : EReal) + ∑ l : Fin 2048, summand m c (t.val / 4) y (t.val % 4 * 2048 + l.val) := by
  rw [outsAt0_A m c t h (by omega)]
  frame_out
  have hz : (k0_pay1 : FVec Ideal S1024x1408 .f32) y = 0 := by unfold k0_pay1; pointwise
  exact (block_product m c t _ y).trans (congrArg (· + _) hz)

/-- The block written out is the sum, its format changed. -/
theorem out_last (t : Fin cfg0.N) (h : t.val % 4 = 3) (r : Fin 1024) (j : Fin 1408) :
    ((outsAt0 m c t.val t.isLt).1 : S1x1024x1408.Idx → EReal) (ix3 0 r j) = ((outsAt0 m c t.val t.isLt).2 : S1024x1408.Idx → EReal) (ix2 r j) := by
  rw [outsAt0_C m c t (by omega) h]
  frame_out
  generalize k0_pay2 (F := Ideal) _ _ _ = v
  unfold k0_pay3
  pointwise

/-- Layer 1's half of the array made; the other half is not written. -/
theorem final_out : (dats m 0 c).arrAt 2 cfg0.N
    = fun i : S2x1024x5632.Idx => if (i 0).val / 1 = 1 then dotTN (A m c) (B m c) (i 1).val (i 2).val else (dats m 0 c).A 2 i := by
  refine (dats m 0 c).arrAt_eq_of_coversWhere 2 (fun i : S2x1024x5632.Idx => dotTN (A m c) (B m c) (i 1).val (i 2).val)
          (P := fun i : S2x1024x5632.Idx => (i 0).val / 1 = 1) (fun β => β (0 : Fin _) = 1) (by decide +kernel)
          (fun t hf y => ?_) (fun j => Iff.rfl)
  have hm : t.val % 4 = 3 := (flush0_2 t).mp hf
  blk_simp
  rw [after0_2, (index2 t).1.2, (index2 t).2]
  obtain ⟨a, r, j, rfl⟩ : ∃ (a : Fin 1) (r : Fin 1024) (j : Fin 1408), y = ix3 a r j := ⟨_, _, _, (ix3_eta (n0 := 1) (n1 := 1024) (n2 := 1408) y).symm⟩
  obtain rfl : a = 0 := Subsingleton.elim _ _
  refine (out_last m c t hm r j).trans ?_
  exact sum_run (fun n h => ((outsAt0 m c n h).2 : S1024x1408.Idx → EReal)) 4 2048 (summand m c) (acc_reset m c) (acc_step m c)
    (by decide) t hm (ix2 r j)

/-- What @main returns: layer 1's half, cut out of the array. -/
theorem cut_out : Pipeline.afterTail₀ cfgs (dats m) 0 (V0 m) [hostOps1] c main_v4
    = fun i : S1024x5632.Idx => dotTN (A m c) (B m c) (i 0).val (i 1).val := by
  have hw : Pipeline.withArrays cfg0.spec c (V0 m c) (fun w => (dats m 0 c).arrAt w cfg0.N) (Proc.devRef .tc main_v2) = (dats m 0 c).arrAt 2 cfg0.N :=
    Pipeline.withArrays_arr cfg0.spec launch0.win.arr_inj c (V0 m c) _ 2
  have h : Pipeline.afterTail₀ cfgs (dats m) 0 (V0 m) [hostOps1] c main_v4
      = shapeCast S1024x5632 (extractStridedSlice S1x1024x5632 ![1, 0, 0] ((dats m 0 c).arrAt 2 cfg0.N : S2x1024x5632.Idx → EReal) slices_S2x1024x5632_S1x1024x5632_1_0_0)
          shapeCasts_S1x1024x5632_S1024x5632 := by
    rw [← hw]
    unfold Pipeline.afterTail₀
    simp only [hostOps1, List.flatten_cons, List.flatten_nil, List.append_nil]
    after_results
    try rfl
  rw [h, final_out]
  funext i
  obtain ⟨r, j, rfl⟩ : ∃ (r : Fin 1024) (j : Fin 5632), i = ix2 r j := ⟨i 0, i 1, (ix2_eta i).symm⟩
  pointwise

open Cert.Reference19Ideal.Read in
theorem ref_dw (X : S2x4096x1024.Idx → EReal) (D : S2x4096x5632.Idx → EReal) (r : Fin 1024) (j : Fin 5632) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

theorem algebraic : Cert.algebraic_Kernel19Ideal_Reference19Ideal := by
  intro m g m' g' _ hm
  refine ⟨fun c => Pipeline.afterTail₀ cfgs (dats m) 0 (V0 m) [hostOps1] c main_v4,
    (θ_run Cert.Kernel19Ideal.defs _ _).mono (fun r h c => ⟨(h.1 c).2 main_v4 (Pipeline.mem_restRefs_of main_v4 (by decide) (by decide)), h.2 c⟩)
      (θ_run_and (run_main m g) (unchanged m g)),
    (θ_run Cert.Reference19Ideal.defs _ _).mono (fun r h c => ?_) (Cert.Reference19Ideal.Value.run (F := Ideal) m' g')⟩
  obtain ⟨h0, hk⟩ := h c
  obtain ⟨e0, e1⟩ := hm c
  refine ⟨h0.trans (Eq.trans ?_ (cut_out m c).symm), hk⟩
  rw [Cert.Reference19Ideal.Read.val_main_v4_eq, e0, e1]
  funext i
  obtain ⟨r, j, rfl⟩ : ∃ (r : Fin 1024) (j : Fin 5632), i = ix2 r j := ⟨i 0, i 1, (ix2_eta i).symm⟩
  exact ref_dw _ _ _ _

end Cert.Proof.Mat19

end
-- ==== Proof.Mat20.lean ====
/- The gradient of the feed-forward layer's second weights, layer 1's: the blocked product is the reference's. -/
module

public import proofs.«01_k».proof.Defs
public import proofs.«01_k».proof.Proof.MatKit
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import Idealize.ShloMosaic.Lib.Pipeline.ValueKit

@[expose] public section

set_option maxRecDepth 16384

noncomputable section

namespace Cert.Proof.Mat20

open Cert.Kernel20Ideal Cert.Kernel20Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, and the gradient flowing in. -/
abbrev A : S2x4096x2816.Idx → EReal := m ((c : Thread nD τ).loc main_arg0)
abbrev B : S2x4096x1024.Idx → EReal := m ((c : Thread nD τ).loc main_arg1)

theorem index0 : ∀ t : Fin cfg0.N, win0_0.index t 0 = t.val % 4 ∧ win0_0.index t 1 = t.val / 4 / 1 :=
  (by decide +kernel : ∀ t : Fin grid0.N, _)

theorem index1 : ∀ t : Fin cfg0.N, win0_1.index t 0 = t.val % 4 ∧ win0_1.index t 1 = t.val / 4 % 1 :=
  (by decide +kernel : ∀ t : Fin grid0.N, _)

theorem index2 : ∀ t : Fin cfg0.N, (win0_2.index t 0 = 1 ∧ win0_2.index t 1 = t.val / 4 / 1) ∧ win0_2.index t 2 = t.val / 4 % 1 :=
  (by decide +kernel : ∀ t : Fin grid0.N, _)

theorem V_in0 : V m c main_v0 = shapeCast S8192x2816 (A m c) shapeCasts_S2x4096x2816_S8192x2816 := by
  simp only [V, V0, hostOps0, List.flatten_cons, List.flatten_nil, List.append_nil]
  after_results
  try rfl

theorem V_in1 : V m c main_v1 = shapeCast S8192x1024 (B m c) shapeCasts_S2x4096x1024_S8192x1024 := by
  simp only [V, V0, hostOps0, List.flatten_cons, List.flatten_nil, List.append_nil]
  after_results
  try rfl

theorem V_row0 (i : S8192x2816.Idx) : (V m c main_v0 : S8192x2816.Idx → EReal) i = rowAt (A m c) (i 0).val (i 1).val := by
  rw [V_in0]
  exact flat_rows _ _ _

theorem V_row1 (i : S8192x1024.Idx) : (V m c main_v1 : S8192x1024.Idx → EReal) i = rowAt (B m c) (i 0).val (i 1).val := by
  rw [V_in1]
  exact flat_rows _ _ _

theorem a_tile (t : Fin cfg0.N) (x : S2048x1408.Idx) : (iblk m c 0 t : S2048x1408.Idx → EReal) x
    = rowAt (A m c) (t.val % 4 * 2048 + (x 0).val) (t.val / 4 / 1 * 1408 + (x 1).val) := by
  unfold iblk
  blk_simp [index0]
  refine (V_row0 m c _).trans ?_
  have h0 : ((win0_0.blk t).view.emb x 0).val = win0_0.index t 0 * 2048 + 1 * (x 0).val := rfl
  have h1 : ((win0_0.blk t).view.emb x 1).val = win0_0.index t 1 * 1408 + 1 * (x 1).val := rfl
  rw [h0, h1, (index0 t).1, (index0 t).2, Nat.one_mul, Nat.one_mul]

theorem b_tile (t : Fin cfg0.N) (x : S2048x1024.Idx) : (iblk m c 1 t : S2048x1024.Idx → EReal) x
    = rowAt (B m c) (t.val % 4 * 2048 + (x 0).val) (t.val / 4 % 1 * 1024 + (x 1).val) := by
  unfold iblk
  blk_simp [index1]
  refine (V_row1 m c _).trans ?_
  have h0 : ((win0_1.blk t).view.emb x 0).val = win0_1.index t 0 * 2048 + 1 * (x 0).val := rfl
  have h1 : ((win0_1.blk t).view.emb x 1).val = win0_1.index t 1 * 1024 + 1 * (x 1).val := rfl
  rw [h0, h1, (index1 t).1, (index1 t).2, Nat.one_mul, Nat.one_mul]

/-- What row `k` adds to entry `y` of tile `q`. -/
def summand (q : ℕ) (y : S1408x1024.Idx) (k : ℕ) : EReal :=
  rowAt (A m c) k (q / 1 * 1408 + (y 0).val) * rowAt (B m c) k (q % 1 * 1024 + (y 1).val)

theorem block_product (t : Fin cfg0.N) (z : S1408x1024.Idx → EReal) (y : S1408x1024.Idx) :
    (k0_pay2 (F := Ideal) z (iblk m c 0 t) (iblk m c 1 t) : S1408x1024.Idx → EReal) y
      = z y + ∑ l : Fin 2048, summand m c (t.val / 4) y (t.val % 4 * 2048 + l.val) := by
  obtain ⟨r, j, rfl⟩ : ∃ (r : Fin 1408) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 4 = 0) (y : S1408x1024.Idx) : ((outsAt0 m c t.val t.isLt).2 : Vec Ideal S1408x1024 .f32) y
    = ((outsAt0 m c (t.val - 1) (Nat.lt_of_le_of_lt (Nat.sub_le _ _) t.isLt)).2 : Vec Ideal S1408x1024 .f32) y
      + ∑ l : Fin 2048, summand m c (t.val / 4) y (t.val % 4 * 2048 + l.val) := by
  by_cases h1 : t.val % 4 = 3
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 4 = 0) (y : S1408x1024.Idx) : ((outsAt0 m c t.val t.isLt).2 : Vec Ideal S1408x1024 .f32) y
    = (0 : EReal) + ∑ l : Fin 2048, summand m c (t.val / 4) y (t.val % 4 * 2048 + l.val) := by
  rw [outsAt0_A m c t h (by omega)]
  frame_out
  have hz : (k0_pay1 : FVec Ideal S1408x1024 .f32) y = 0 := by unfold k0_pay1; pointwise
  exact (block_product m c t _ y).trans (congrArg (· + _) hz)

/-- The block written out is the sum, its format changed. -/
theorem out_last (t : Fin cfg0.N) (h : t.val % 4 = 3) (r : Fin 1408) (j : Fin 1024) :
    ((outsAt0 m c t.val t.isLt).1 : S1x1408x1024.Idx → EReal) (ix3 0 r j) = ((outsAt0 m c t.val t.isLt).2 : S1408x1024.Idx → EReal) (ix2 r j) := by
  rw [outsAt0_C m c t (by omega) h]
  frame_out
  generalize k0_pay2 (F := Ideal) _ _ _ = v
  unfold k0_pay3
  pointwise

/-- Layer 1's half of the array made; the other half is not written. -/
theorem final_out : (dats m 0 c).arrAt 2 cfg0.N
    = fun i : S2x2816x1024.Idx => if (i 0).val / 1 = 1 then dotTN (A m c) (B m c) (i 1).val (i 2).val else (dats m 0 c).A 2 i := by
  refine (dats m 0 c).arrAt_eq_of_coversWhere 2 (fun i : S2x2816x1024.Idx => dotTN (A m c) (B m c) (i 1).val (i 2).val)
          (P := fun i : S2x2816x1024.Idx => (i 0).val / 1 = 1) (fun β => β (0 : Fin _) = 1) (by decide +kernel)
          (fun t hf y => ?_) (fun j => Iff.rfl)
  have hm : t.val % 4 = 3 := (flush0_2 t).mp hf
  blk_simp
  rw [after0_2, (index2 t).1.2, (index2 t).2]
  obtain ⟨a, r, j, rfl⟩ : ∃ (a : Fin 1) (r : Fin 1408) (j : Fin 1024), y = ix3 a r j := ⟨_, _, _, (ix3_eta (n0 := 1) (n1 := 1408) (n2 := 1024) y).symm⟩
  obtain rfl : a = 0 := Subsingleton.elim _ _
  refine (out_last m c t hm r j).trans ?_
  exact sum_run (fun n h => ((outsAt0 m c n h).2 : S1408x1024.Idx → EReal)) 4 2048 (summand m c) (acc_reset m c) (acc_step m c)
    (by decide) t hm (ix2 r j)

/-- What @main returns: layer 1's half, cut out of the array. -/
theorem cut_out : Pipeline.afterTail₀ cfgs (dats m) 0 (V0 m) [hostOps1] c main_v4
    = fun i : S2816x1024.Idx => dotTN (A m c) (B m c) (i 0).val (i 1).val := by
  have hw : Pipeline.withArrays cfg0.spec c (V0 m c) (fun w => (dats m 0 c).arrAt w cfg0.N) (Proc.devRef .tc main_v2) = (dats m 0 c).arrAt 2 cfg0.N :=
    Pipeline.withArrays_arr cfg0.spec launch0.win.arr_inj c (V0 m c) _ 2
  have h : Pipeline.afterTail₀ cfgs (dats m) 0 (V0 m) [hostOps1] c main_v4
      = shapeCast S2816x1024 (extractStridedSlice S1x2816x1024 ![1, 0, 0] ((dats m 0 c).arrAt 2 cfg0.N : S2x2816x1024.Idx → EReal) slices_S2x2816x1024_S1x2816x1024_1_0_0)
          shapeCasts_S1x2816x1024_S2816x1024 := by
    rw [← hw]
    unfold Pipeline.afterTail₀
    simp only [hostOps1, List.flatten_cons, List.flatten_nil, List.append_nil]
    after_results
    try rfl
  rw [h, final_out]
  funext i
  obtain ⟨r, j, rfl⟩ : ∃ (r : Fin 2816) (j : Fin 1024), i = ix2 r j := ⟨i 0, i 1, (ix2_eta i).symm⟩
  pointwise

open Cert.Reference20Ideal.Read in
theorem ref_dw (X : S2x4096x2816.Idx → EReal) (D : S2x4096x1024.Idx → EReal) (r : Fin 2816) (j : Fin 1024) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

theorem algebraic : Cert.algebraic_Kernel20Ideal_Reference20Ideal := by
  intro m g m' g' _ hm
  refine ⟨fun c => Pipeline.afterTail₀ cfgs (dats m) 0 (V0 m) [hostOps1] c main_v4,
    (θ_run Cert.Kernel20Ideal.defs _ _).mono (fun r h c => ⟨(h.1 c).2 main_v4 (Pipeline.mem_restRefs_of main_v4 (by decide) (by decide)), h.2 c⟩)
      (θ_run_and (run_main m g) (unchanged m g)),
    (θ_run Cert.Reference20Ideal.defs _ _).mono (fun r h c => ?_) (Cert.Reference20Ideal.Value.run (F := Ideal) m' g')⟩
  obtain ⟨h0, hk⟩ := h c
  obtain ⟨e0, e1⟩ := hm c
  refine ⟨h0.trans (Eq.trans ?_ (cut_out m c).symm), hk⟩
  rw [Cert.Reference20Ideal.Read.val_main_v4_eq, e0, e1]
  funext i
  obtain ⟨r, j, rfl⟩ : ∃ (r : Fin 2816) (j : Fin 1024), i = ix2 r j := ⟨i 0, i 1, (ix2_eta i).symm⟩
  exact ref_dw _ _ _ _

end Cert.Proof.Mat20

end
-- ==== Proof.Mat21.lean ====
/- The gradient of the state-space branch's output weights, layer 1's: the blocked product is the reference's. -/
module

public import proofs.«01_k».proof.Defs
public import proofs.«01_k».proof.Proof.MatKit
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import Idealize.ShloMosaic.Lib.Pipeline.ValueKit

@[expose] public section

set_option maxRecDepth 16384

noncomputable section

namespace Cert.Proof.Mat21

open Cert.Kernel21Ideal Cert.Kernel21Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, and the gradient flowing in. -/
abbrev A : S2x4096x2048.Idx → EReal := m ((c : Thread nD τ).loc main_arg0)
abbrev B : S2x4096x1024.Idx → EReal := m ((c : Thread nD τ).loc main_arg1)

theorem index0 : ∀ t : Fin cfg0.N, win0_0.index t 0 = t.val % 8 ∧ win0_0.index t 1 = t.val / 8 / 1 :=
  (by decide +kernel : ∀ t : Fin grid0.N, _)

theorem index1 : ∀ t : Fin cfg0.N, win0_1.index t 0 = t.val % 8 ∧ win0_1.index t 1 = t.val / 8 % 1 :=
  (by decide +kernel : ∀ t : Fin grid0.N, _)

theorem index2 : ∀ t : Fin cfg0.N, (win0_2.index t 0 = 1 ∧ win0_2.index t 1 = t.val / 8 / 1) ∧ win0_2.index t 2 = t.val / 8 % 1 :=
  (by decide +kernel : ∀ t : Fin grid0.N, _)

theorem V_in0 : V m c main_v0 = shapeCast S8192x2048 (A m c) shapeCasts_S2x4096x2048_S8192x2048 := by
  simp only [V, V0, hostOps0, List.flatten_cons, List.flatten_nil, List.append_nil]
  after_results
  try rfl

theorem V_in1 : V m c main_v1 = shapeCast S8192x1024 (B m c) shapeCasts_S2x4096x1024_S8192x1024 := by
  simp only [V, V0, hostOps0, List.flatten_cons, List.flatten_nil, List.append_nil]
  after_results
  try rfl

theorem V_row0 (i : S8192x2048.Idx) : (V m c main_v0 : S8192x2048.Idx → EReal) i = rowAt (A m c) (i 0).val (i 1).val := by
  rw [V_in0]
  exact flat_rows _ _ _

theorem V_row1 (i : S8192x1024.Idx) : (V m c main_v1 : S8192x1024.Idx → EReal) i = rowAt (B m c) (i 0).val (i 1).val := by
  rw [V_in1]
  exact flat_rows _ _ _

theorem a_tile (t : Fin cfg0.N) (x : S1024x1024.Idx) : (iblk m c 0 t : S1024x1024.Idx → EReal) x
    = rowAt (A m c) (t.val % 8 * 1024 + (x 0).val) (t.val / 8 / 1 * 1024 + (x 1).val) := by
  unfold iblk
  blk_simp [index0]
  refine (V_row0 m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S1024x1024.Idx) : (iblk m c 1 t : S1024x1024.Idx → EReal) x
    = rowAt (B m c) (t.val % 8 * 1024 + (x 0).val) (t.val / 8 % 1 * 1024 + (x 1).val) := by
  unfold iblk
  blk_simp [index1]
  refine (V_row1 m c _).trans ?_
  have h0 : ((win0_1.blk t).view.emb x 0).val = win0_1.index t 0 * 1024 + 1 * (x 0).val := rfl
  have h1 : ((win0_1.blk t).view.emb x 1).val = win0_1.index t 1 * 1024 + 1 * (x 1).val := rfl
  rw [h0, h1, (index1 t).1, (index1 t).2, Nat.one_mul, Nat.one_mul]

/-- What row `k` adds to entry `y` of tile `q`. -/
def summand (q : ℕ) (y : S1024x1024.Idx) (k : ℕ) : EReal :=
  rowAt (A m c) k (q / 1 * 1024 + (y 0).val) * rowAt (B m c) k (q % 1 * 1024 + (y 1).val)

theorem block_product (t : Fin cfg0.N) (z : S1024x1024.Idx → EReal) (y : S1024x1024.Idx) :
    (k0_pay2 (F := Ideal) z (iblk m c 0 t) (iblk m c 1 t) : S1024x1024.Idx → EReal) y
      = z y + ∑ l : Fin 1024, summand m c (t.val / 8) y (t.val % 8 * 1024 + l.val) := by
  obtain ⟨r, j, rfl⟩ : ∃ (r : Fin 1024) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 8 = 0) (y : S1024x1024.Idx) : ((outsAt0 m c t.val t.isLt).2 : Vec Ideal S1024x1024 .f32) y
    = ((outsAt0 m c (t.val - 1) (Nat.lt_of_le_of_lt (Nat.sub_le _ _) t.isLt)).2 : Vec Ideal S1024x1024 .f32) y
      + ∑ l : Fin 1024, summand m c (t.val / 8) y (t.val % 8 * 1024 + l.val) := by
  by_cases h1 : t.val % 8 = 7
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 8 = 0) (y : S1024x1024.Idx) : ((outsAt0 m c t.val t.isLt).2 : Vec Ideal S1024x1024 .f32) y
    = (0 : EReal) + ∑ l : Fin 1024, summand m c (t.val / 8) y (t.val % 8 * 1024 + l.val) := by
  rw [outsAt0_A m c t h (by omega)]
  frame_out
  have hz : (k0_pay1 : FVec Ideal S1024x1024 .f32) y = 0 := by unfold k0_pay1; pointwise
  exact (block_product m c t _ y).trans (congrArg (· + _) hz)

/-- The block written out is the sum, its format changed. -/
theorem out_last (t : Fin cfg0.N) (h : t.val % 8 = 7) (r : Fin 1024) (j : Fin 1024) :
    ((outsAt0 m c t.val t.isLt).1 : S1x1024x1024.Idx → EReal) (ix3 0 r j) = ((outsAt0 m c t.val t.isLt).2 : S1024x1024.Idx → EReal) (ix2 r j) := by
  rw [outsAt0_C m c t (by omega) h]
  frame_out
  generalize k0_pay2 (F := Ideal) _ _ _ = v
  unfold k0_pay3
  pointwise

/-- Layer 1's half of the array made; the other half is not written. -/
theorem final_out : (dats m 0 c).arrAt 2 cfg0.N
    = fun i : S2x2048x1024.Idx => if (i 0).val / 1 = 1 then dotTN (A m c) (B m c) (i 1).val (i 2).val else (dats m 0 c).A 2 i := by
  refine (dats m 0 c).arrAt_eq_of_coversWhere 2 (fun i : S2x2048x1024.Idx => dotTN (A m c) (B m c) (i 1).val (i 2).val)
          (P := fun i : S2x2048x1024.Idx => (i 0).val / 1 = 1) (fun β => β (0 : Fin _) = 1) (by decide +kernel)
          (fun t hf y => ?_) (fun j => Iff.rfl)
  have hm : t.val % 8 = 7 := (flush0_2 t).mp hf
  blk_simp
  rw [after0_2, (index2 t).1.2, (index2 t).2]
  obtain ⟨a, r, j, rfl⟩ : ∃ (a : Fin 1) (r : Fin 1024) (j : Fin 1024), y = ix3 a r j := ⟨_, _, _, (ix3_eta (n0 := 1) (n1 := 1024) (n2 := 1024) y).symm⟩
  obtain rfl : a = 0 := Subsingleton.elim _ _
  refine (out_last m c t hm r j).trans ?_
  exact sum_run (fun n h => ((outsAt0 m c n h).2 : S1024x1024.Idx → EReal)) 8 1024 (summand m c) (acc_reset m c) (acc_step m c)
    (by decide) t hm (ix2 r j)

/-- What @main returns: layer 1's half, cut out of the array. -/
theorem cut_out : Pipeline.afterTail₀ cfgs (dats m) 0 (V0 m) [hostOps1] c main_v4
    = fun i : S2048x1024.Idx => dotTN (A m c) (B m c) (i 0).val (i 1).val := by
  have hw : Pipeline.withArrays cfg0.spec c (V0 m c) (fun w => (dats m 0 c).arrAt w cfg0.N) (Proc.devRef .tc main_v2) = (dats m 0 c).arrAt 2 cfg0.N :=
    Pipeline.withArrays_arr cfg0.spec launch0.win.arr_inj c (V0 m c) _ 2
  have h : Pipeline.afterTail₀ cfgs (dats m) 0 (V0 m) [hostOps1] c main_v4
      = shapeCast S2048x1024 (extractStridedSlice S1x2048x1024 ![1, 0, 0] ((dats m 0 c).arrAt 2 cfg0.N : S2x2048x1024.Idx → EReal) slices_S2x2048x1024_S1x2048x1024_1_0_0)
          shapeCasts_S1x2048x1024_S2048x1024 := by
    rw [← hw]
    unfold Pipeline.afterTail₀
    simp only [hostOps1, List.flatten_cons, List.flatten_nil, List.append_nil]
    after_results
    try rfl
  rw [h, final_out]
  funext i
  obtain ⟨r, j, rfl⟩ : ∃ (r : Fin 2048) (j : Fin 1024), i = ix2 r j := ⟨i 0, i 1, (ix2_eta i).symm⟩
  pointwise

open Cert.Reference21Ideal.Read in
theorem ref_dw (X : S2x4096x2048.Idx → EReal) (D : S2x4096x1024.Idx → EReal) (r : Fin 2048) (j : Fin 1024) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

theorem algebraic : Cert.algebraic_Kernel21Ideal_Reference21Ideal := by
  intro m g m' g' _ hm
  refine ⟨fun c => Pipeline.afterTail₀ cfgs (dats m) 0 (V0 m) [hostOps1] c main_v4,
    (θ_run Cert.Kernel21Ideal.defs _ _).mono (fun r h c => ⟨(h.1 c).2 main_v4 (Pipeline.mem_restRefs_of main_v4 (by decide) (by decide)), h.2 c⟩)
      (θ_run_and (run_main m g) (unchanged m g)),
    (θ_run Cert.Reference21Ideal.defs _ _).mono (fun r h c => ?_) (Cert.Reference21Ideal.Value.run (F := Ideal) m' g')⟩
  obtain ⟨h0, hk⟩ := h c
  obtain ⟨e0, e1⟩ := hm c
  refine ⟨h0.trans (Eq.trans ?_ (cut_out m c).symm), hk⟩
  rw [Cert.Reference21Ideal.Read.val_main_v4_eq, e0, e1]
  funext i
  obtain ⟨r, j, rfl⟩ : ∃ (r : Fin 2048) (j : Fin 1024), i = ix2 r j := ⟨i 0, i 1, (ix2_eta i).symm⟩
  exact ref_dw _ _ _ _

end Cert.Proof.Mat21

end
-- ==== Proof.Mat22.lean ====
/- The gradient of the mixer's output weights, layer 1's: the blocked product is the reference's. -/
module

public import proofs.«01_k».proof.Defs
public import proofs.«01_k».proof.Proof.MatKit
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import Idealize.ShloMosaic.Lib.Pipeline.ValueKit

@[expose] public section

set_option maxRecDepth 16384

noncomputable section

namespace Cert.Proof.Mat22

open Cert.Kernel22Ideal Cert.Kernel22Ideal.Gen Idealize.ShloMosaic Idealize.ShloMosaic.TcCoe Idealize.SL.Sem
open Idealize.ShloMosaic.Pipeline

variable (m : (ℓ : Loc nD τ sig) → Buf (Elt Ideal) ℓ) (c : Dev nD)

/-- The rows multiplied, and the gradient flowing in. -/
abbrev A : S2x4096x1024.Idx → EReal := m ((c : Thread nD τ).loc main_arg0)
abbrev B : S2x4096x1024.Idx → EReal := m ((c : Thread nD τ).loc main_arg1)

theorem index0 : ∀ t : Fin cfg0.N, win0_0.index t 0 = t.val % 8 ∧ win0_0.index t 1 = t.val / 8 / 1 :=
  (by decide +kernel : ∀ t : Fin grid0.N, _)

theorem index1 : ∀ t : Fin cfg0.N, win0_1.index t 0 = t.val % 8 ∧ win0_1.index t 1 = t.val / 8 % 1 :=
  (by decide +kernel : ∀ t : Fin grid0.N, _)

theorem index2 : ∀ t : Fin cfg0.N, (win0_2.index t 0 = 1 ∧ win0_2.index t 1 = t.val / 8 / 1) ∧ win0_2.index t 2 = t.val / 8 % 1 :=
  (by decide +kernel : ∀ t : Fin grid0.N, _)

theorem V_in0 : V m c main_v0 = shapeCast S8192x1024 (A m c) shapeCasts_S2x4096x1024_S8192x1024 := by
  simp only [V, V0, hostOps0, List.flatten_cons, List.flatten_nil, List.append_nil]
  after_results
  try rfl

theorem V_in1 : V m c main_v1 = shapeCast S8192x1024 (B m c) shapeCasts_S2x4096x1024_S8192x1024 := by
  simp only [V, V0, hostOps0, List.flatten_cons, List.flatten_nil, List.append_nil]
  after_results
  try rfl

theorem V_row0 (i : S8192x1024.Idx) : (V m c main_v0 : S8192x1024.Idx → EReal) i = rowAt (A m c) (i 0).val (i 1).val := by
  rw [V_in0]
  exact flat_rows _ _ _

theorem V_row1 (i : S8192x1024.Idx) : (V m c main_v1 : S8192x1024.Idx → EReal) i = rowAt (B m c) (i 0).val (i 1).val := by
  rw [V_in1]
  exact flat_rows _ _ _

theorem a_tile (t : Fin cfg0.N) (x : S1024x1024.Idx) : (iblk m c 0 t : S1024x1024.Idx → EReal) x
    = rowAt (A m c) (t.val % 8 * 1024 + (x 0).val) (t.val / 8 / 1 * 1024 + (x 1).val) := by
  unfold iblk
  blk_simp [index0]
  refine (V_row0 m c _).trans ?_
  have h0 : ((win0_0.blk t).view.emb x 0).val = win0_0.index t 0 * 1024 + 1 * (x 0).val := rfl
  have h1 : ((win0_0.blk t).view.emb x 1).val = win0_0.index t 1 * 1024 + 1 * (x 1).val := rfl
  rw [h0, h1, (index0 t).1, (index0 t).2, Nat.one_mul, Nat.one_mul]

theorem b_tile (t : Fin cfg0.N) (x : S1024x1024.Idx) : (iblk m c 1 t : S1024x1024.Idx → EReal) x
    = rowAt (B m c) (t.val % 8 * 1024 + (x 0).val) (t.val / 8 % 1 * 1024 + (x 1).val) := by
  unfold iblk
  blk_simp [index1]
  refine (V_row1 m c _).trans ?_
  have h0 : ((win0_1.blk t).view.emb x 0).val = win0_1.index t 0 * 1024 + 1 * (x 0).val := rfl
  have h1 : ((win0_1.blk t).view.emb x 1).val = win0_1.index t 1 * 1024 + 1 * (x 1).val := rfl
  rw [h0, h1, (index1 t).1, (index1 t).2, Nat.one_mul, Nat.one_mul]

/-- What row `k` adds to entry `y` of tile `q`. -/
def summand (q : ℕ) (y : S1024x1024.Idx) (k : ℕ) : EReal :=
  rowAt (A m c) k (q / 1 * 1024 + (y 0).val) * rowAt (B m c) k (q % 1 * 1024 + (y 1).val)

theorem block_product (t : Fin cfg0.N) (z : S1024x1024.Idx → EReal) (y : S1024x1024.Idx) :
    (k0_pay2 (F := Ideal) z (iblk m c 0 t) (iblk m c 1 t) : S1024x1024.Idx → EReal) y
      = z y + ∑ l : Fin 1024, summand m c (t.val / 8) y (t.val % 8 * 1024 + l.val) := by
  obtain ⟨r, j, rfl⟩ : ∃ (r : Fin 1024) (j : Fin 1024), y = ix2 r j := ⟨y 0, y 1, (ix2_eta y).symm⟩
  unfold k0_pay2
  pointwise
  refine congrArg (z (ix2 r j) + ·) (Finset.sum_congr rfl fun k _ => ?_)
  exact congr_arg₂ (· * ·) (a_tile m c t (ix2 k r)) (b_tile m c t (ix2 k j))

theorem acc_step (t : Fin cfg0.N) (h : ¬ t.val % 8 = 0) (y : S1024x1024.Idx) : ((outsAt0 m c t.val t.isLt).2 : Vec Ideal S1024x1024 .f32) y
    = ((outsAt0 m c (t.val - 1) (Nat.lt_of_le_of_lt (Nat.sub_le _ _) t.isLt)).2 : Vec Ideal S1024x1024 .f32) y
      + ∑ l : Fin 1024, summand m c (t.val / 8) y (t.val % 8 * 1024 + l.val) := by
  by_cases h1 : t.val % 8 = 7
  · rw [outsAt0_C m c t h h1]
    frame_out
    exact (block_product m c t _ y).trans (congrArg (· + _) (congrFun (Memref.IsWhole.read_unread _ _) _))
  · rw [outsAt0_B m c t h h1]
    frame_out
    exact (block_product m c t _ y).trans (congrArg (· + _) (congrFun (Memref.IsWhole.read_unread _ _) _))

theorem acc_reset (t : Fin cfg0.N) (h : t.val % 8 = 0) (y : S1024x1024.Idx) : ((outsAt0 m c t.val t.isLt).2 : Vec Ideal S1024x1024 .f32) y
    = (0 : EReal) + ∑ l : Fin 1024, summand m c (t.val / 8) y (t.val % 8 * 1024 + l.val) := by
  rw [outsAt0_A m c t h (by omega)]
  frame_out
  have hz : (k0_pay1 : FVec Ideal S1024x1024 .f32) y = 0 := by unfold k0_pay1; pointwise
  exact (block_product m c t _ y).trans (congrArg (· + _) hz)

/-- The block written out is the sum, its format changed. -/
theorem out_last (t : Fin cfg0.N) (h : t.val % 8 = 7) (r : Fin 1024) (j : Fin 1024) :
    ((outsAt0 m c t.val t.isLt).1 : S1x1024x1024.Idx → EReal) (ix3 0 r j) = ((outsAt0 m c t.val t.isLt).2 : S1024x1024.Idx → EReal) (ix2 r j) := by
  rw [outsAt0_C m c t (by omega) h]
  frame_out
  generalize k0_pay2 (F := Ideal) _ _ _ = v
  unfold k0_pay3
  pointwise

/-- Layer 1's half of the array made; the other half is not written. -/
theorem final_out : (dats m 0 c).arrAt 2 cfg0.N
    = fun i : S2x1024x1024.Idx => if (i 0).val / 1 = 1 then dotTN (A m c) (B m c) (i 1).val (i 2).val else (dats m 0 c).A 2 i := by
  refine (dats m 0 c).arrAt_eq_of_coversWhere 2 (fun i : S2x1024x1024.Idx => dotTN (A m c) (B m c) (i 1).val (i 2).val)
          (P := fun i : S2x1024x1024.Idx => (i 0).val / 1 = 1) (fun β => β (0 : Fin _) = 1) (by decide +kernel)
          (fun t hf y => ?_) (fun j => Iff.rfl)
  have hm : t.val % 8 = 7 := (flush0_2 t).mp hf
  blk_simp
  rw [after0_2, (index2 t).1.2, (index2 t).2]
  obtain ⟨a, r, j, rfl⟩ : ∃ (a : Fin 1) (r : Fin 1024) (j : Fin 1024), y = ix3 a r j := ⟨_, _, _, (ix3_eta (n0 := 1) (n1 := 1024) (n2 := 1024) y).symm⟩
  obtain rfl : a = 0 := Subsingleton.elim _ _
  refine (out_last m c t hm r j).trans ?_
  exact sum_run (fun n h => ((outsAt0 m c n h).2 : S1024x1024.Idx → EReal)) 8 1024 (summand m c) (acc_reset m c) (acc_step m c)
    (by decide) t hm (ix2 r j)

/-- What @main returns: layer 1's half, cut out of the array. -/
theorem cut_out : Pipeline.afterTail₀ cfgs (dats m) 0 (V0 m) [hostOps1] c main_v4
    = fun i : S1024x1024.Idx => dotTN (A m c) (B m c) (i 0).val (i 1).val := by
  have hw : Pipeline.withArrays cfg0.spec c (V0 m c) (fun w => (dats m 0 c).arrAt w cfg0.N) (Proc.devRef .tc main_v2) = (dats m 0 c).arrAt 2 cfg0.N :=
    Pipeline.withArrays_arr cfg0.spec launch0.win.arr_inj c (V0 m c) _ 2
  have h : Pipeline.afterTail₀ cfgs (dats m) 0 (V0 m) [hostOps1] c main_v4
      = shapeCast S1024x1024 (extractStridedSlice S1x1024x1024 ![1, 0, 0] ((dats m 0 c).arrAt 2 cfg0.N : S2x1024x1024.Idx → EReal) slices_S2x1024x1024_S1x1024x1024_1_0_0)
          shapeCasts_S1x1024x1024_S1024x1024 := by
    rw [← hw]
    unfold Pipeline.afterTail₀
    simp only [hostOps1, List.flatten_cons, List.flatten_nil, List.append_nil]
    after_results
    try rfl
  rw [h, final_out]
  funext i
  obtain ⟨r, j, rfl⟩ : ∃ (r : Fin 1024) (j : Fin 1024), i = ix2 r j := ⟨i 0, i 1, (ix2_eta i).symm⟩
  pointwise

open Cert.Reference22Ideal.Read in
theorem ref_dw (X : S2x4096x1024.Idx → EReal) (D : S2x4096x1024.Idx → EReal) (r : Fin 1024) (j : Fin 1024) :
    val_main_v4 (F := Ideal) X D (ix2 r j) = dotTN X D r j := by
  rw [val_main_v4_apply]
  show val_main_v3 (F := Ideal) X D (ix2 r j) = _
  rw [val_main_v3_apply]
  unfold val_main_v2 dotTN
  refine Eq.trans ?_ (sum_rows fun k => rowAt X k r * rowAt D k j)
  have h0 : ∀ z, val_main_v0 (F := Ideal) X z = X z := fun _ => rfl
  have h1 : ∀ z, val_main_v1 (F := Ideal) D z = D z := fun _ => rfl
  generalize val_main_v0 (F := Ideal) X = x0 at h0 ⊢
  generalize val_main_v1 (F := Ideal) D = x1 at h1 ⊢
  pointwise
  refine Finset.sum_congr rfl fun a _ => Finset.sum_congr rfl fun b _ => ?_
  rw [h0, h1]
  exact (mul_comm _ _).trans (congr_arg₂ (· * ·) (rowAt_of X _ rfl rfl) (rowAt_of D _ rfl rfl))

theorem algebraic : Cert.algebraic_Kernel22Ideal_Reference22Ideal := by
  intro m g m' g' _ hm
  refine ⟨fun c => Pipeline.afterTail₀ cfgs (dats m) 0 (V0 m) [hostOps1] c main_v4,
    (θ_run Cert.Kernel22Ideal.defs _ _).mono (fun r h c => ⟨(h.1 c).2 main_v4 (Pipeline.mem_restRefs_of main_v4 (by decide) (by decide)), h.2 c⟩)
      (θ_run_and (run_main m g) (unchanged m g)),
    (θ_run Cert.Reference22Ideal.defs _ _).mono (fun r h c => ?_) (Cert.Reference22Ideal.Value.run (F := Ideal) m' g')⟩
  obtain ⟨h0, hk⟩ := h c
  obtain ⟨e0, e1⟩ := hm c
  refine ⟨h0.trans (Eq.trans ?_ (cut_out m c).symm), hk⟩
  rw [Cert.Reference22Ideal.Read.val_main_v4_eq, e0, e1]
  funext i
  obtain ⟨r, j, rfl⟩ : ∃ (r : Fin 1024) (j : Fin 1024), i = ix2 r j := ⟨i 0, i 1, (ix2_eta i).symm⟩
  exact ref_dw _ _ _ _

end Cert.Proof.Mat22

end
-- ==== Proof.Merge.lean ====
/- The gradient of the merge of the two branches by their gates: the kernel's three results are the reference's. -/
module

public import proofs.«01_k».proof.Defs
public import proofs.«01_k».proof.Proof.Entries
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import Idealize.ShloMosaic.Lib.Pipeline.ValueKit

@[expose] public section

set_option maxRecDepth 16384

noncomputable section

namespace Cert.Proof.Merge

open Cert.Kernel23Ideal Cert.Kernel23Ideal.Gen Idealize.ShloMosaic Idealize.ShloMosaic.TcCoe Idealize.SL.Sem
open Idealize.ShloMosaic.Pipeline

variable (m : (ℓ : Loc nD τ sig) → Buf (Elt Ideal) ℓ) (c : Dev nD)

/-- The gradient flowing in, the projected columns, and the two branches. -/
abbrev D : S2x4096x1024.Idx → EReal := m ((c : Thread nD τ).loc main_arg0)
abbrev P : S2x4096x10368.Idx → EReal := m ((c : Thread nD τ).loc main_arg1)
abbrev Y : S2x4096x1024.Idx → EReal := m ((c : Thread nD τ).loc main_arg2)
abbrev Z : S2x4096x1024.Idx → EReal := m ((c : Thread nD τ).loc main_arg3)

/-- The gate at column `k` of the two branches' gates side by side, and the gradient of its argument. -/
def gate (P : S2x4096x10368.Idx → EReal) (b s k : ℕ) : EReal := Ideal.div 1 (1 + Ideal.exp (0 - at3 P b s (8192 + k)))

def dgate (D : S2x4096x1024.Idx → EReal) (P : S2x4096x10368.Idx → EReal) (Y Z : S2x4096x1024.Idx → EReal) (b s k : ℕ) : EReal :=
  (if k < 1024 then at3 D b s k * at3 Y b s k else at3 D b s (k - 1024) * at3 Z b s (k - 1024))
    * (gate P b s k * (1 - gate P b s k))

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 8] := (by decide +kernel : ∀ t : Fin grid0.N, _)
theorem index2 : ∀ t : Fin cfg0.N, win0_2.index t = ![t.val / 8, t.val % 8, 9] := (by decide +kernel : ∀ t : Fin grid0.N, _)
theorem index3 : ∀ t : Fin cfg0.N, win0_3.index t = ![t.val / 8, t.val % 8, 0] := (by decide +kernel : ∀ t : Fin grid0.N, _)
theorem index4 : ∀ t : Fin cfg0.N, win0_4.index t = ![t.val / 8, t.val % 8, 0] := (by decide +kernel : ∀ t : Fin grid0.N, _)
theorem index5 : ∀ t : Fin cfg0.N, (win0_5.index t 0 = t.val / 8 ∧ win0_5.index t 1 = t.val % 8) ∧ win0_5.index t 2 = 0 :=
  (by decide +kernel : ∀ t : Fin grid0.N, _)
theorem index6 : ∀ t : Fin cfg0.N, (win0_6.index t 0 = t.val / 8 ∧ win0_6.index t 1 = t.val % 8) ∧ win0_6.index t 2 = 0 :=
  (by decide +kernel : ∀ t : Fin grid0.N, _)
theorem index7 : ∀ t : Fin cfg0.N, (win0_7.index t 0 = t.val / 8 ∧ win0_7.index t 1 = t.val % 8) ∧ win0_7.index t 2 = 4 :=
  (by decide +kernel : ∀ t : Fin grid0.N, _)

variable (t : Fin cfg0.N)

theorem d_tile (r : Fin 512) (j : Fin 1024) :
    (iblk m c 0 t : Vec Ideal S1x512x1024 .f32) (ix3 0 r j) = at3 (D m c) (t.val / 8) (t.val % 8 * 512 + r) j := by
  refine at3_of (D m c) _ ?_ ?_ ?_ <;> blk_simp [index0] <;> simp [win0_0]

theorem y_tile (r : Fin 512) (j : Fin 1024) :
    (iblk m c 3 t : Vec Ideal S1x512x1024 .f32) (ix3 0 r j) = at3 (Y m c) (t.val / 8) (t.val % 8 * 512 + r) j := by
  refine at3_of (Y m c) _ ?_ ?_ ?_ <;> blk_simp [index3] <;> simp [win0_3]

theorem z_tile (r : Fin 512) (j : Fin 1024) :
    (iblk m c 4 t : Vec Ideal S1x512x1024 .f32) (ix3 0 r j) = at3 (Z m c) (t.val / 8) (t.val % 8 * 512 + r) j := by
  refine at3_of (Z m c) _ ?_ ?_ ?_ <;> blk_simp [index4] <;> simp [win0_4]

/-- A block of the first branch's gate, and of the second's. -/
theorem p_tile (r : Fin 512) (j : Fin 1024) :
    (X0_1 m c t : Vec Ideal S1x512x1024 .f32) (ix3 0 r j) = at3 (P m c) (t.val / 8) (t.val % 8 * 512 + r) (8192 + j) := by
  unfold X0_1 Window.fill; rw [dif_pos (moved0_1 t _)]; unfold iblk
  refine at3_of (P m c) _ ?_ ?_ ?_ <;> blk_simp [index1] <;> simp [win0_1]

theorem q_tile (r : Fin 512) (j : Fin 1024) :
    (X0_2 m c t : Vec Ideal S1x512x1024 .f32) (ix3 0 r j) = at3 (P m c) (t.val / 8) (t.val % 8 * 512 + r) (8192 + (1024 + j)) := by
  unfold X0_2 Window.fill; rw [dif_pos (moved0_2 t _)]; unfold iblk
  refine at3_of (P m c) _ ?_ ?_ ?_ <;> blk_simp [index2] <;> simp [win0_2, ← Nat.add_assoc]

theorem out5 (r : Fin 512) (j : Fin 1024) : ((outsAt0 m c t).1 : S1x512x1024.Idx → EReal) (ix3 0 r j)
    = at3 (D m c) (t.val / 8) (t.val % 8 * 512 + r) j * gate (P m c) (t.val / 8) (t.val % 8 * 512 + r) j := by
  unfold outsAt0
  frame_out
  unfold k0_pay6 k0_pay3 k0_pay4
  pointwise
  rw [d_tile, p_tile]
  rfl

theorem out6 (r : Fin 512) (j : Fin 1024) : ((outsAt0 m c t).2.1 : S1x512x1024.Idx → EReal) (ix3 0 r j)
    = at3 (D m c) (t.val / 8) (t.val % 8 * 512 + r) j * gate (P m c) (t.val / 8) (t.val % 8 * 512 + r) (1024 + j) := by
  unfold outsAt0
  frame_out
  unfold k0_pay7 k0_pay3 k0_pay5
  pointwise
  rw [d_tile, q_tile]
  rfl

theorem block_a (r : Fin 512) (j : Fin 1024) :
    (k0_pay1 (F := Ideal) (k0_pay3 (iblk m c 0 t)) (k0_pay4 (X0_1 m c t)) (k0_pay8 (iblk m c 3 t)) : S1x512x1024.Idx → EReal) (ix3 0 r j)
      = dgate (D m c) (P m c) (Y m c) (Z m c) (t.val / 8) (t.val % 8 * 512 + r) j := by
  unfold k0_pay1 k0_pay3 k0_pay4 k0_pay8 dgate
  rw [if_pos j.isLt]
  pointwise
  rw [d_tile, p_tile, y_tile]
  rfl

theorem block_b (r : Fin 512) (j : Fin 1024) :
    (k0_pay2 (F := Ideal) (k0_pay3 (iblk m c 0 t)) (k0_pay5 (X0_2 m c t)) (iblk m c 4 t) : S1x512x1024.Idx → EReal) (ix3 0 r j)
      = dgate (D m c) (P m c) (Y m c) (Z m c) (t.val / 8) (t.val % 8 * 512 + r) (1024 + j) := by
  unfold k0_pay2 k0_pay3 k0_pay5 dgate
  rw [if_neg (by omega), Nat.add_sub_cancel_left]
  pointwise
  rw [d_tile, q_tile, z_tile]
  rfl

theorem out7 (y : S1x512x2048.Idx) : ((outsAt0 m c t).2.2 : S1x512x2048.Idx → EReal) y
    = dgate (D m c) (P m c) (Y m c) (Z m c) (t.val / 8) (t.val % 8 * 512 + (y 1).val) (y 2).val := by
  unfold outsAt0
  frame_out
  canon_tiles x hx
  all_goals
    rw [hx1, hx2]
    obtain ⟨a, r, j, rfl⟩ : ∃ (a : Fin 1) (r : Fin 512) (j : Fin 1024), x = ix3 a r j := ⟨x 0, x 1, x 2, (ix3_eta x).symm⟩
    obtain rfl : a = 0 := Subsingleton.elim _ _
  · exact block_b m c t r j
  · exact block_a m c t r j

/-- The two branches' gradients. -/
theorem final_a : (dats m 0 c).arrAt 5 cfg0.N
    = fun i : S2x4096x1024.Idx => at3 (D m c) (i 0).val (i 1).val (i 2).val * gate (P m c) (i 0).val (i 1).val (i 2).val := by
  refine (dats m 0 c).arrAt_eq_of_covers 5 _ (by decide +kernel) (fun t _ y => ?_)
  blk_simp
  rw [after0_5, (index5 t).1.1, (index5 t).1.2, (index5 t).2]
  obtain ⟨a, r, j, rfl⟩ : ∃ (a : Fin 1) (r : Fin 512) (j : Fin 1024), y = ix3 a r j := ⟨_, _, _, (ix3_eta (n0 := 1) (n1 := 512) (n2 := 1024) y).symm⟩
  obtain rfl : a = 0 := Subsingleton.elim _ _
  refine (out5 m c t r j).trans ?_
  rw [Nat.zero_mul, Nat.zero_add]
  rfl

theorem final_b : (dats m 0 c).arrAt 6 cfg0.N
    = fun i : S2x4096x1024.Idx => at3 (D m c) (i 0).val (i 1).val (i 2).val * gate (P m c) (i 0).val (i 1).val (1024 + (i 2).val) := by
  refine (dats m 0 c).arrAt_eq_of_covers 6 _ (by decide +kernel) (fun t _ y => ?_)
  blk_simp
  rw [after0_6, (index6 t).1.1, (index6 t).1.2, (index6 t).2]
  obtain ⟨a, r, j, rfl⟩ : ∃ (a : Fin 1) (r : Fin 512) (j : Fin 1024), y = ix3 a r j := ⟨_, _, _, (ix3_eta (n0 := 1) (n1 := 512) (n2 := 1024) y).symm⟩
  obtain rfl : a = 0 := Subsingleton.elim _ _
  refine (out6 m c t r j).trans ?_
  rw [Nat.zero_mul, Nat.zero_add]
  rfl

/-- The gates' columns of the array the call makes; the other columns are not written. -/
theorem final_g : (dats m 0 c).arrAt 7 cfg0.N
    = fun i : S2x4096x10368.Idx => if (i 2).val / 2048 = 4
        then dgate (D m c) (P m c) (Y m c) (Z m c) (i 0).val (i 1).val ((i 2).val - 8192) else (dats m 0 c).A 7 i := by
  refine (dats m 0 c).arrAt_eq_of_coversWhere 7
          (fun i : S2x4096x10368.Idx => dgate (D m c) (P m c) (Y m c) (Z m c) (i 0).val (i 1).val ((i 2).val - 8192))
          (P := fun i : S2x4096x10368.Idx => (i 2).val / 2048 = 4) (fun β => β (2 : Fin _) = 4) (by decide +kernel)
          (fun t hf y => ?_) (fun j => Iff.rfl)
  blk_simp
  rw [after0_7, (index7 t).1.1, (index7 t).1.2, (index7 t).2]
  refine (out7 m c t _).trans ?_
  have h0 : ((cfg0.win 7).xinj (cfg0.grid.coords t) y 1).val = (y 1).val := rfl
  have h1 : ((cfg0.win 7).xinj (cfg0.grid.coords t) y 2).val = (y 2).val := rfl
  have h2 : ((cfg0.win 7).xinj (cfg0.grid.coords t) y 0).val < 1 := ((cfg0.win 7).xinj (cfg0.grid.coords t) y 0).isLt
  replace h2 : (y 0).val = 0 := Nat.lt_one_iff.mp h2
  rw [h0, h1, h2, Nat.add_zero, show 4 * 2048 + (y 2).val - 8192 = (y 2).val by omega]

/-- What @main returns of it: the gates' columns, cut out. -/
theorem cut_g : Pipeline.afterTail₀ cfgs (dats m) 0 (V0 m) [hostOps1] c main_v1
    = fun i : S2x4096x2048.Idx => dgate (D m c) (P m c) (Y m c) (Z m c) (i 0).val (i 1).val (i 2).val := by
  have hw : Pipeline.withArrays cfg0.spec c (V0 m c) (fun w => (dats m 0 c).arrAt w cfg0.N) (Proc.devRef .tc main_v0_2) = (dats m 0 c).arrAt 7 cfg0.N :=
    (dats m 0 c).withArrays_arrAt sharedIn0 (V0 m c) (A_eq m c) 7
  have h : Pipeline.afterTail₀ cfgs (dats m) 0 (V0 m) [hostOps1] c main_v1
      = extractStridedSlice S2x4096x2048 ![0, 0, 8192] ((dats m 0 c).arrAt 7 cfg0.N : S2x4096x10368.Idx → EReal)
          slices_S2x4096x10368_S2x4096x2048_0_0_8192 := by
    rw [← hw]
    unfold Pipeline.afterTail₀
    simp only [hostOps1, List.flatten_cons, List.flatten_nil, List.append_nil]
    after_results
    try rfl
  rw [h, final_g]
  funext i
  obtain ⟨b, s, k, rfl⟩ : ∃ (b : Fin 2) (s : Fin 4096) (k : Fin 2048), i = ix3 b s k := ⟨i 0, i 1, i 2, (ix3_eta i).symm⟩
  pointwise
  exact if_pos (by omega)

section Ref

open Cert.Reference23Ideal.Read

variable (D : S2x4096x1024.Idx → EReal) (P : S2x4096x10368.Idx → EReal) (Y Z : S2x4096x1024.Idx → EReal)

theorem r_gate (i : S2x4096x2048.Idx) : val_main_v6 (F := Ideal) P i = gate P (i 0).val (i 1).val (i 2).val := by
  obtain ⟨b, s, k, rfl⟩ : ∃ (b : Fin 2) (s : Fin 4096) (k : Fin 2048), i = ix3 b s k := ⟨i 0, i 1, i 2, (ix3_eta i).symm⟩
  unfold val_main_v6 val_main_v5 val_main_v4 val_main_v3 val_main_v2 val_main_v1 val_main_v0 val_main_cst val_main_cst_0 gate
  pointwise
  rw [zero_sub]
  exact congrArg (fun z => Ideal.div 1 (1 + Ideal.exp (-z))) (at3_of P _ rfl rfl rfl)

theorem r_d (i : S2x4096x1024.Idx) : val_main_v15 (F := Ideal) D i = D i := by
  obtain ⟨b, s, k, rfl⟩ : ∃ (b : Fin 2) (s : Fin 4096) (k : Fin 1024), i = ix3 b s k := ⟨i 0, i 1, i 2, (ix3_eta i).symm⟩
  unfold val_main_v15
  pointwise

theorem r_a (b : Fin 2) (s : Fin 4096) (k : Fin 1024) : val_main_v23 (F := Ideal) D P (ix3 b s k) = at3 D b s k * gate P b s k := by
  rw [val_main_v23_apply]
  show val_main_v19 (F := Ideal) D P (ix3 b s k) = _
  rw [val_main_v19_apply, val_main_v10_apply, r_d, at3_ix D]
  refine (mul_comm _ _).trans (congrArg (_ * ·) ?_)
  exact r_gate P _

theorem r_b (b : Fin 2) (s : Fin 4096) (k : Fin 1024) : val_main_v24 (F := Ideal) D P (ix3 b s k) = at3 D b s k * gate P b s (1024 + k) := by
  rw [val_main_v24_apply]
  show val_main_v17 (F := Ideal) D P (ix3 b s k) = _
  rw [val_main_v17_apply, val_main_v11_apply, show val_main_v16 (F := Ideal) D = val_main_v15 (F := Ideal) D from rfl, r_d, at3_ix D]
  refine (mul_comm _ _).trans (congrArg (_ * ·) ?_)
  exact r_gate P _

theorem r_g (b : Fin 2) (s : Fin 4096) (k : Fin 2048) : val_main_v25 (F := Ideal) D P Y Z (ix3 b s k) = dgate D P Y Z b s k := by
  rw [val_main_v25_apply]
  show val_main_v22 (F := Ideal) D P Y Z (ix3 b s k) = _
  rw [val_main_v22_apply, val_main_v9_apply, val_main_v8_apply, r_gate]
  unfold val_main_v21 dgate
  have h0 : ∀ i, val_main_v20 (F := Ideal) D Y i = D i * Y i := fun i => by rw [val_main_v20_apply, r_d]; rfl
  have h1 : ∀ i, val_main_v18 (F := Ideal) D Z i = D i * Z i := fun i => by
    rw [val_main_v18_apply, show val_main_v16 (F := Ideal) D = val_main_v15 (F := Ideal) D from rfl, r_d]; rfl
  generalize val_main_v20 (F := Ideal) D Y = u at h0 ⊢
  generalize val_main_v18 (F := Ideal) D Z = v at h1 ⊢
  refine congr_arg₂ (· * ·) ?_ ?_
  · pointwise
    by_cases h : k.val < 1024
    · rw [if_pos h]
      refine (dif_pos h).trans ((h0 _).trans ?_)
      exact congr_arg₂ (· * ·) (at3_of D _ rfl rfl rfl) (at3_of Y _ rfl rfl rfl)
    · rw [if_neg h]
      refine (dif_neg h).trans ((h1 _).trans ?_)
      exact congr_arg₂ (· * ·) (at3_of D _ rfl rfl rfl) (at3_of Z _ rfl rfl rfl)
  · unfold val_main_v7 val_main_cst_1
    pointwise

end Ref

theorem algebraic : Cert.algebraic_Kernel23Ideal_Reference23Ideal := by
  intro m g m' g' _ hm
  refine ⟨fun c => (dats m 0 c).arrAt 5 cfg0.N, fun c => (dats m 0 c).arrAt 6 cfg0.N,
    fun c => Pipeline.afterTail₀ cfgs (dats m) 0 (V0 m) [hostOps1] c main_v1,
    (θ_run Cert.Kernel23Ideal.defs _ _).mono (fun r h c => ⟨(h.1 c).1 5, (h.1 c).1 6,
      (h.1 c).2 main_v1 (Pipeline.mem_restRefs_of main_v1 (by decide) (by decide)), h.2 c⟩)
      (θ_run_and (run_main m g) (unchanged m g)),
    (θ_run Cert.Reference23Ideal.defs _ _).mono (fun r h c => ?_) (Cert.Reference23Ideal.Value.run (F := Ideal) m' g')⟩
  obtain ⟨h0, h1, h2, hk⟩ := h c
  obtain ⟨e0, e1, e2, e3⟩ := hm c
  refine ⟨h0.trans (Eq.trans ?_ (final_a m c).symm), h1.trans (Eq.trans ?_ (final_b m c).symm),
    h2.trans (Eq.trans ?_ (cut_g m c).symm), hk⟩
  · rw [Cert.Reference23Ideal.Read.val_main_v23_eq, e0, e1]
    funext i
    obtain ⟨b, s, k, rfl⟩ : ∃ (b : Fin 2) (s : Fin 4096) (k : Fin 1024), i = ix3 b s k := ⟨i 0, i 1, i 2, (ix3_eta i).symm⟩
    exact r_a _ _ b s k
  · rw [Cert.Reference23Ideal.Read.val_main_v24_eq, e0, e1]
    funext i
    obtain ⟨b, s, k, rfl⟩ : ∃ (b : Fin 2) (s : Fin 4096) (k : Fin 1024), i = ix3 b s k := ⟨i 0, i 1, i 2, (ix3_eta i).symm⟩
    exact r_b _ _ b s k
  · rw [Cert.Reference23Ideal.Read.val_main_v25_eq, e0, e1, e2, e3]
    funext i
    obtain ⟨b, s, k, rfl⟩ : ∃ (b : Fin 2) (s : Fin 4096) (k : Fin 2048), i = ix3 b s k := ⟨i 0, i 1, i 2, (ix3_eta i).symm⟩
    exact r_g _ _ _ _ b s k

end Cert.Proof.Merge

end
-- ==== Proof.NormMath.lean ====
/- The RMS norm of one row: the kernel's own order of the gradient's operations and the order of the derivative of the plain
   formula agree at every extended real. Where the row is real they differ by the order of products and by one common factor
   taken out of a sum; where it is infinite the inverse root is zero and so are both gradients. -/
module

public import proofs.«01_k».proof.Proof.GatedMath

@[expose] public section

noncomputable section

namespace Cert.Proof.PreNorm

open Idealize.ShloMosaic Cert.Proof.GatedNorm

/-- The number of lanes. -/
abbrev cN : EReal := Ideal.ofBits .f32 0x44800000#32

section Row

variable (w u : Fin 1024 → EReal)

/-- The mean of the row's squares plus epsilon, the inverse root of that, and the row so scaled. -/
def ms : EReal := Ideal.div (∑ l, w l * w l) cN + ceps
def ir : EReal := Ideal.rsqrt (ms w)
def xn (l : Fin 1024) : EReal := w l * ir w

/-- The gradient of the row, in the kernel's order, and in the derivative's. -/
def dx (l : Fin 1024) : EReal := ir w * (u l - xn w l * Ideal.div (∑ i, u i * xn w i) cN)

def slp : EReal := Ideal.div ((∑ i, w i * u i) * (chalf * Ideal.div (ir w) (ms w))) cN

end Row

theorem cN_eq : cN = ((1024 : ℝ) : EReal) := by
  simp [Ideal.ofBits, Ideal.ieee]
  norm_num
  rw [← EReal.coe_mul]
  exact congrArg _ (by norm_num)

theorem div_real (a : EReal) {b : ℝ} (h : b ≠ 0) : Ideal.div a (b : EReal) = a * ((b⁻¹ : ℝ) : EReal) := by
  unfold Ideal.div
  rw [if_neg (fun e => h (EReal.coe_eq_zero.mp e)), ← EReal.coe_inv]

theorem two_terms (x : EReal) : x + x = x * ((2 : ℝ) : EReal) := by
  rw [show ((2 : ℝ) : EReal) = 1 + 1 from by rw [← EReal.coe_one, ← EReal.coe_add]; exact congrArg _ (by norm_num), mul_comm,
    EReal.right_distrib_of_nonneg zero_le_one zero_le_one, one_mul]

/-- A nonnegative real factor comes out of a sum. -/
theorem sum_mul_real {ι : Type} (s : Finset ι) (f : ι → EReal) {q : ℝ} (hq : 0 ≤ q) :
    ∑ i ∈ s, f i * (q : EReal) = (∑ i ∈ s, f i) * (q : EReal) := by
  classical
  refine s.induction_on (by simp) fun a s ha ih => ?_
  rw [Finset.sum_insert ha, Finset.sum_insert ha, ih, mul_comm (f a + _), EReal.left_distrib_of_nonneg_of_ne_top
    (EReal.coe_nonneg.mpr hq) (EReal.coe_ne_top q), mul_comm (q : EReal), mul_comm (q : EReal)]

/-- The two orders over one lane: the sum `M` and the incoming gradient `u` are any extended reals. -/
theorem lane_eq (M u : EReal) (a : ℝ) {q : ℝ} (hq : 0 < q) :
    ((q⁻¹ : ℝ) : EReal) * (u - (a : EReal) * ((q⁻¹ : ℝ) : EReal) * (M * ((q⁻¹ : ℝ) : EReal) * ((1024⁻¹ : ℝ) : EReal)))
      = u * ((q⁻¹ : ℝ) : EReal) + ((a : EReal) * (M * (((-1 / 2) * (q⁻¹ / (q * q)) : ℝ) : EReal) * ((1024⁻¹ : ℝ) : EReal))
        + M * (((-1 / 2) * (q⁻¹ / (q * q)) : ℝ) : EReal) * ((1024⁻¹ : ℝ) : EReal) * (a : EReal)) := by
  have h1 : (a : EReal) * ((q⁻¹ : ℝ) : EReal) * (M * ((q⁻¹ : ℝ) : EReal) * ((1024⁻¹ : ℝ) : EReal))
      = M * ((a * q⁻¹ * (q⁻¹ * 1024⁻¹) : ℝ) : EReal) := by
    simp only [EReal.coe_mul]; ac_rfl
  have h2 : M * (((-1 / 2) * (q⁻¹ / (q * q)) : ℝ) : EReal) * ((1024⁻¹ : ℝ) : EReal) * (a : EReal)
      = M * (((-1 / 2) * (q⁻¹ / (q * q)) * 1024⁻¹ * a : ℝ) : EReal) := by
    simp only [EReal.coe_mul]; ac_rfl
  rw [h1, mul_comm (a : EReal) (M * _ * _), h2, two_terms, mul_assoc M, ← EReal.coe_mul, sub_eq_add_neg,
    EReal.left_distrib_of_nonneg_of_ne_top (EReal.coe_nonneg.mpr (inv_nonneg.mpr hq.le)) (EReal.coe_ne_top _), mul_comm u, ← mul_neg,
    ← EReal.coe_neg, mul_left_comm, ← EReal.coe_mul]
  refine congrArg (fun z : ℝ => _ + M * (z : EReal)) ?_
  field_simp

section Both

variable (w u : Fin 1024 → EReal)

theorem dx_real (v : Fin 1024 → ℝ) (hw : ∀ l, w l = ((v l : ℝ) : EReal)) (l : Fin 1024) :
    dx w u l = u l * ir w + (w l * slp w u + slp w u * w l) := by
  obtain ⟨e, he0, he⟩ := ceps_eq
  have h0 : 0 ≤ ∑ l, v l * v l := Finset.sum_nonneg fun l _ => mul_self_nonneg _
  have hp : 0 < (∑ l, v l * v l) / 1024 + e := by positivity
  have hm : ms w = (((∑ l, v l * v l) / 1024 + e : ℝ) : EReal) := by
    unfold ms
    simp only [hw, ← EReal.coe_mul]
    rw [← coe_sum, cN_eq, he, div_coe _ _ (by norm_num), ← EReal.coe_add]
  generalize (∑ l, v l * v l) / 1024 + e = p at hp hm
  have hs : Real.sqrt p * Real.sqrt p = p := Real.mul_self_sqrt hp.le
  have hq : 0 < Real.sqrt p := Real.sqrt_pos.mpr hp
  have hr : ir w = (((Real.sqrt p)⁻¹ : ℝ) : EReal) := by unfold ir; rw [hm, rsqrt_coe _ hp]
  generalize Real.sqrt p = q at hs hq hr
  subst hs
  have hM : ∑ i, u i * (w i * ((q⁻¹ : ℝ) : EReal)) = (∑ i, w i * u i) * ((q⁻¹ : ℝ) : EReal) := by
    rw [← sum_mul_real _ _ (inv_nonneg.mpr hq.le)]
    exact Finset.sum_congr rfl fun i _ => by rw [mul_left_comm, mul_assoc]
  unfold dx slp xn
  rw [hr, hm, hM, chalf_eq, cN_eq, div_coe _ _ hp.ne', div_real _ (by norm_num), div_real _ (by norm_num), ← EReal.coe_mul, hw l]
  exact lane_eq _ _ _ hq

theorem dx_inf {j : Fin 1024} (hj : w j * w j = ⊤) (l : Fin 1024) :
    dx w u l = u l * ir w + (w l * slp w u + slp w u * w l) := by
  obtain ⟨e, he0, he⟩ := ceps_eq
  have hs : ∑ l, w l * w l = ⊤ :=
    top_le_iff.mp (hj ▸ Finset.single_le_sum (f := fun l => w l * w l) (fun i _ => sq_nonneg' _) (Finset.mem_univ j))
  have hm : ms w = ⊤ := by
    unfold ms
    rw [hs, cN_eq, he, div_real _ (by norm_num), EReal.top_mul_coe_of_pos (by norm_num)]
    rfl
  have hr : ir w = 0 := by unfold ir; rw [hm]; rfl
  have h0 : Ideal.div 0 (ms w) = 0 := by rw [hm]; unfold Ideal.div; simp
  have h1 : slp w u = 0 := by
    unfold slp
    rw [hr, h0, mul_zero, mul_zero, cN_eq, div_real _ (by norm_num), zero_mul]
  unfold dx
  rw [h1, hr]
  simp

/-- The two orders agree at every row and every incoming gradient. -/
theorem dx_eq (l : Fin 1024) : dx w u l = u l * ir w + (w l * slp w u + slp w u * w l) := by
  by_cases h : ∃ j, w j * w j = ⊤
  · obtain ⟨j, hj⟩ := h
    exact dx_inf w u hj l
  · have hw : ∀ l, ∃ a : ℝ, w l = a := fun l => real_or.resolve_right fun e => h ⟨l, e⟩
    choose v hv using hw
    exact dx_real w u v hv l

end Both

end Cert.Proof.PreNorm

end
-- ==== Proof.PreNormTile.lean ====
/- What one grid point of the pre-norm's backward call computes: the gradient of its 512 rows, and what the rows add to the
   gradients of the shift, of the scale and of the gain. -/
module

public import proofs.«01_k».proof.Proof.NormMath
public import proofs.«01_k».proof.Proof.Entries
public import proofs.«01_k».proof.Proof.Gen.Kernel24Ideal
public import proofs.«01_k».proof.Proof.Gen.Kernel24Ideal.Frame
public import Idealize.ShloMosaic.Lib.Pipeline.ValueKit
public import Idealize.ShloMosaic.Lib.WritesUnit

@[expose] public section

set_option maxRecDepth 16384

noncomputable section

namespace Cert.Proof.PreNorm

open Cert.Kernel24Ideal Cert.Kernel24Ideal.Gen Idealize.ShloMosaic Idealize.ShloMosaic.TcCoe Idealize.SL.Sem
open Idealize.ShloMosaic.Pipeline

section Pay

variable (xb hb db : S1x512x1024.Idx → EReal) (gn sc : S1x1024.Idx → EReal) (old : S1x1x1024.Idx → EReal)
  (old2 : S1x1024.Idx → EReal) (r : Fin 512) (l : Fin 1024)

/-- Row `r` of the block of inputs, and of the gradient times the scale and the gain. -/
abbrev xr (l : Fin 1024) : EReal := xb (ix3 0 r l)
abbrev ur (l : Fin 1024) : EReal := hb (ix3 0 r l) * sc (ix2 0 l) * gn (ix2 0 l)

theorem pay_ir : k0_pay9 (F := Ideal) xb (ix2 r 0) = ir (xr xb r) := by
  unfold k0_pay9 k0_pay5
  pointwise
  rfl

theorem pay_xn : k0_pay10 (F := Ideal) xb (ix2 r l) = xn (xr xb r) l := by
  have h := pay_ir xb r
  unfold k0_pay10 k0_pay5
  generalize k0_pay9 (F := Ideal) xb = v at h ⊢
  pointwise
  rw [h]; rfl

theorem pay_u : k0_pay14 (F := Ideal) (k0_pay6 hb) gn sc (ix2 r l) = ur hb gn sc r l := by
  unfold k0_pay14 k0_pay6
  pointwise

theorem pay_c : k0_pay15 (F := Ideal) (k0_pay6 hb) gn sc (k0_pay10 xb) (ix2 r l)
    = xn (xr xb r) l * Ideal.div (∑ i, ur hb gn sc r i * xn (xr xb r) i) cN := by
  have h := fun l => pay_xn xb r l
  have h' := fun l => pay_u hb gn sc r l
  unfold k0_pay15
  generalize k0_pay10 (F := Ideal) xb = v at h ⊢
  generalize k0_pay14 (F := Ideal) _ _ _ = w at h' ⊢
  pointwise
  simp only [h, h']

theorem pay_dx : k0_pay1 (F := Ideal) (k0_pay4 db) (k0_pay9 xb) (k0_pay14 (k0_pay6 hb) gn sc)
    (k0_pay15 (k0_pay6 hb) gn sc (k0_pay10 xb)) (ix3 0 r l) = db (ix3 0 r l) + dx (xr xb r) (ur hb gn sc r) l := by
  have h := pay_c xb hb gn sc r l
  have h' := pay_u hb gn sc r l
  have h1 := pay_ir xb r
  generalize k0_pay15 (F := Ideal) _ _ _ _ = v at h ⊢
  generalize k0_pay14 (F := Ideal) _ _ _ = w at h' ⊢
  generalize k0_pay9 (F := Ideal) xb = w' at h1 ⊢
  unfold k0_pay1 k0_pay4
  pointwise
  rw [h, h', h1]; rfl

/-- The rows added to the shift's gradient, to the scale's and to the gain's. -/
theorem pay_sh : k0_pay11 (F := Ideal) (k0_pay6 hb) old (ix3 0 0 l) = old (ix3 0 0 l) + ∑ r : Fin 512, hb (ix3 0 r l) := by
  unfold k0_pay11 k0_pay6
  pointwise

theorem pay_sc : k0_pay12 (F := Ideal) (k0_pay6 hb) gn (k0_pay10 xb) old (ix3 0 0 l)
    = old (ix3 0 0 l) + ∑ r : Fin 512, hb (ix3 0 r l) * (xn (xr xb r) l * gn (ix2 0 l)) := by
  have h := fun r => pay_xn xb r l
  generalize k0_pay10 (F := Ideal) xb = v at h ⊢
  unfold k0_pay12 k0_pay6
  pointwise
  simp only [h]

theorem pay_g : k0_pay13 (F := Ideal) (k0_pay6 hb) sc (k0_pay10 xb) old2 (ix2 0 l)
    = old2 (ix2 0 l) + ∑ r : Fin 512, hb (ix3 0 r l) * sc (ix2 0 l) * xn (xr xb r) l := by
  have h := fun r => pay_xn xb r l
  generalize k0_pay10 (F := Ideal) xb = v at h ⊢
  unfold k0_pay13 k0_pay6
  pointwise
  simp only [h]

end Pay

variable (m : (ℓ : Loc nD τ sig) → Buf (Elt Ideal) ℓ) (c : Dev nD)

/-- The arguments: the gradients of the input and of the modulated norm, the input, the gain, the modulation. -/
abbrev DX : S2x4096x1024.Idx → EReal := m ((c : Thread nD τ).loc main_arg0)
abbrev DH : S2x4096x1024.Idx → EReal := m ((c : Thread nD τ).loc main_arg1)
abbrev X : S2x4096x1024.Idx → EReal := m ((c : Thread nD τ).loc main_arg2)
abbrev G : S1024.Idx → EReal := m ((c : Thread nD τ).loc main_arg3)
abbrev Mo : S2x6144.Idx → EReal := m ((c : Thread nD τ).loc main_arg4)

def gain (G : S1024.Idx → EReal) : S1x1024.Idx → EReal := fun i => G (ix1 (i 1))

theorem V_gain : V m c main_v2 = gain (G m c) := by
  simp only [V, V0, hostOps0, hostOps0_1, hostOps0_2, List.flatten_cons, List.flatten_nil, List.append_nil, List.cons_append, List.nil_append]
  after_results
  funext i
  obtain ⟨b, k, rfl⟩ : ∃ (b : Fin 1) (k : Fin 1024), i = ix2 b k := ⟨i 0, i 1, (ix2_eta i).symm⟩
  unfold gain
  pointwise

/-- The scale's row of the padded modulation. -/
theorem V_scale (b : Fin 2) (l : Fin 1024) : (V m c main_v1 : S2x8x1024.Idx → EReal) (ix3 b 1 l) = at2 (Mo m c) b (1024 + l) := by
  simp only [V, V0, hostOps0, hostOps0_1, hostOps0_2, List.flatten_cons, List.flatten_nil, List.append_nil, List.cons_append, List.nil_append]
  after_results
  pointwise
  have hb : b.val < 2 := b.isLt
  have hl : l.val < 1024 := l.isLt
  have hin : ∀ a : Fin 3, (![0, 0, 0] : Fin 3 → ℕ) a ≤ ((ix3 b (1 : Fin 8) l : S2x8x1024.Idx) a).val
      ∧ (((ix3 b (1 : Fin 8) l : S2x8x1024.Idx) a).val - (![0, 0, 0] : Fin 3 → ℕ) a) % ((![0, 0, 0] : Fin 3 → ℕ) a + 1) = 0
      ∧ (((ix3 b (1 : Fin 8) l : S2x8x1024.Idx) a).val - (![0, 0, 0] : Fin 3 → ℕ) a) / ((![0, 0, 0] : Fin 3 → ℕ) a + 1) < S2x6x1024.size a := by
    intro a
    match a with
    | ⟨0, _⟩ => exact ⟨Nat.zero_le _, Nat.mod_one _, (Nat.div_one _).trans_lt hb⟩
    | ⟨1, _⟩ => exact ⟨Nat.zero_le _, Nat.mod_one _, show (1 - 0) / (0 + 1) < 6 by decide⟩
    | ⟨2, _⟩ => exact ⟨Nat.zero_le _, Nat.mod_one _, (Nat.div_one _).trans_lt hl⟩
  refine (dif_pos hin).trans ?_
  repeat (first
    | rw [StableHlo.reshape_result]
    | (rw [StableHlo.reshape_result_ne]; rotate_left; decide)
    | (rw [StableHlo.nullary_result_ne]; rotate_left; decide)
    | (rw [StableHlo.binary_result_ne]; rotate_left; decide)
    | (rw [StableHlo.unary_result_ne]; rotate_left; decide))
  pointwise
  refine at2_of (Mo m c) _ ?_ ?_
  · show (b.val - 0) / (0 + 1) = b.val
    omega
  · show (1 - 0) / (0 + 1) * 1024 + (l.val - 0) / (0 + 1) = 1024 + l.val
    omega

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![t.val / 8, t.val % 8, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 8, 0, 0] := (by decide +kernel : ∀ t : Fin grid0.N, _)
theorem index5 : ∀ t : Fin cfg0.N, (win0_5.index t 0 = t.val / 8 ∧ win0_5.index t 1 = t.val % 8) ∧ win0_5.index t 2 = 0 :=
  (by decide +kernel : ∀ t : Fin grid0.N, _)
theorem index6 : ∀ t : Fin cfg0.N, (win0_6.index t 0 = t.val / 8 ∧ win0_6.index t 1 = 0) ∧ win0_6.index t 2 = 0 :=
  (by decide +kernel : ∀ t : Fin grid0.N, _)

/-! ## A row: batch row `b`, position `s` -/

def xrow (X : S2x4096x1024.Idx → EReal) (b s : ℕ) (l : Fin 1024) : EReal := at3 X b s l
def scl (Mo : S2x6144.Idx → EReal) (b : ℕ) (l : Fin 1024) : EReal := 1 + at2 Mo b (1024 + l)
def urow (H : S2x4096x1024.Idx → EReal) (G : S1024.Idx → EReal) (Mo : S2x6144.Idx → EReal) (b s : ℕ) (l : Fin 1024) : EReal :=
  at3 H b s l * scl Mo b l * G (ix1 l)

variable (t : Fin cfg0.N) (r : Fin 512) (l : Fin 1024)

/-- The position of row `r` of the point's blocks. -/
abbrev pos (t r : ℕ) : ℕ := t % 8 * 512 + r

theorem d_tile : iblk m c 0 t (ix3 0 r l : S1x512x1024.Idx) = at3 (DX m c) (t.val / 8) (pos t r) l := by
  unfold DX; rw [← V_main_arg0 m c]
  refine at3_of (V m c main_arg0) _ ?_ ?_ ?_ <;> blk_simp [index0] <;> simp [win0_0]
theorem h_tile : iblk m c 1 t (ix3 0 r l : S1x512x1024.Idx) = at3 (DH m c) (t.val / 8) (pos t r) l := by
  unfold DH; rw [← V_main_arg1 m c]
  refine at3_of (V m c main_arg1) _ ?_ ?_ ?_ <;> blk_simp [index1] <;> simp [win0_1]
theorem x_tile : xr (iblk m c 2 t) r = xrow (X m c) (t.val / 8) (pos t r) := by
  funext l
  unfold xr xrow X; rw [← V_main_arg2 m c]
  refine at3_of (V m c main_arg2) _ ?_ ?_ ?_ <;> blk_simp [index2] <;> simp [win0_2]

theorem g_tile : k0_pay7 (F := Ideal) (iblk m c 3 t) (ix2 0 l) = G m c (ix1 l) := by
  unfold k0_pay7
  pointwise
  have h : G m c (ix1 l) = at2 (V m c main_v2 : S1x1024.Idx → EReal) 0 l := by
    rw [V_gain]
    exact at2_ix (gain (G m c)) (0 : Fin 1) l
  rw [h]
  refine at2_of (V m c main_v2) _ ?_ ?_ <;> blk_simp [index3] <;> simp [win0_3]

/-- One plus the scale: the second row of the modulation's block. -/
abbrev sct : S1x1024.Idx → EReal :=
  k0_pay8 (F := Ideal) (View.ld (iblk m c 4 t) (Rect.unit (s := S1x8x1024) ![0, 1, 0] ![1, 1, 1024] inb_S1x8x1024_S1x1x1024_0_1_0))
theorem s_tile : sct m c t (ix2 0 l) = scl (Mo m c) (t.val / 8) l := by
  have ht : t.val < 16 := t.isLt
  have h : at2 (Mo m c) (t.val / 8) (1024 + l) = at3 (V m c main_v1 : S2x8x1024.Idx → EReal) (t.val / 8) 1 l :=
    (V_scale m c ⟨t.val / 8, by omega⟩ l).symm.trans (at3_of (V m c main_v1) _ rfl rfl rfl)
  unfold sct k0_pay8 scl
  pointwise
  rw [h]
  refine congrArg (1 + ·) ?_
  refine at3_of (V m c main_v1) _ ?_ ?_ ?_ <;> blk_simp [index4] <;> simp [win0_4]

theorem u_tile : ur (iblk m c 1 t) (k0_pay7 (F := Ideal) (iblk m c 3 t)) (sct m c t) r
    = urow (DH m c) (G m c) (Mo m c) (t.val / 8) (pos t r) := by
  funext l
  unfold ur urow
  rw [h_tile, s_tile, g_tile]

/-- The gradient of the input at batch row `b`, position `s`, column `k`. -/
def gradX (D H X : S2x4096x1024.Idx → EReal) (G : S1024.Idx → EReal) (Mo : S2x6144.Idx → EReal) (b s : ℕ) (l : Fin 1024) : EReal :=
  at3 D b s l + dx (xrow X b s) (urow H G Mo b s) l

theorem tile_dx : ((outsAt0 m c t.val t.isLt).1 : Vec Ideal S1x512x1024 .f32) (ix3 0 r l)
    = gradX (DX m c) (DH m c) (X m c) (G m c) (Mo m c) (t.val / 8) (pos t r) l := by
  have h := pay_dx (iblk m c 2 t) (iblk m c 1 t) (iblk m c 0 t) (k0_pay7 (F := Ideal) (iblk m c 3 t)) (sct m c t) r l
  rw [x_tile, u_tile, d_tile] at h
  unfold gradX
  rw [← h]
  by_cases h0 : t.val % 8 = 0
  · by_cases h1 : t.val % 16 = 0
    · rw [outsAt0_A m c t h0 h1]; frame_out; rfl
    · rw [outsAt0_C m c t h0 h1]; frame_out; rfl
  · rw [outsAt0_B m c t h0 (by omega)]; frame_out; rfl

theorem final_dx : (dats m 0 c).arrAt 5 cfg0.N
    = fun i : S2x4096x1024.Idx => gradX (DX m c) (DH m c) (X m c) (G m c) (Mo m c) (i 0).val (i 1).val (i 2) := by
  refine (dats m 0 c).arrAt_eq_of_covers 5 _ (by decide +kernel) (fun t hf y => ?_)
  obtain ⟨a, r, l, rfl⟩ : ∃ (a : Fin 1) (r : Fin 512) (l : Fin 1024), y = ix3 a r l := ⟨y 0, y 1, y 2, (ix3_eta y).symm⟩
  obtain rfl : a = 0 := Subsingleton.elim _ _
  have h := tile_dx m c t r l
  blk_simp
  rw [after0_5, (index5 t).1.1, (index5 t).1.2]
  refine h.trans (congrArg (gradX _ _ _ _ _ _ _) (Fin.ext ?_))
  blk_simp
  rw [(index5 t).2]
  exact (Nat.zero_add _).symm

/-- What a grid point adds to row `k` of its batch row's block of sums, and to row `k` of the block summed over the batch. -/
def tileP (H X : S2x4096x1024.Idx → EReal) (G : S1024.Idx → EReal) (t k : ℕ) (l : Fin 1024) : EReal :=
  if k = 0 then ∑ r : Fin 512, at3 H (t / 8) (pos t r) l
  else if k = 1 then ∑ r : Fin 512, at3 H (t / 8) (pos t r) l * (xn (xrow X (t / 8) (pos t r)) l * G (ix1 l))
  else 0
def tileG (H X : S2x4096x1024.Idx → EReal) (Mo : S2x6144.Idx → EReal) (t k : ℕ) (l : Fin 1024) : EReal :=
  if k = 0 then ∑ r : Fin 512, at3 H (t / 8) (pos t r) l * scl Mo (t / 8) l * xn (xrow X (t / 8) (pos t r)) l
  else 0

theorem add_sh (old : S1x1x1024.Idx → EReal) : k0_pay11 (F := Ideal) (k0_pay6 (iblk m c 1 t)) old (ix3 0 0 l)
    = old (ix3 0 0 l) + tileP (DH m c) (X m c) (G m c) t 0 l := by
  refine (pay_sh _ old l).trans (congrArg (old (ix3 0 0 l) + ·) ?_)
  unfold tileP
  rw [if_pos rfl]
  exact Finset.sum_congr rfl fun r _ => h_tile m c t r l

theorem add_sc (old : S1x1x1024.Idx → EReal) :
    k0_pay12 (F := Ideal) (k0_pay6 (iblk m c 1 t)) (k0_pay7 (iblk m c 3 t)) (k0_pay10 (iblk m c 2 t)) old (ix3 0 0 l)
    = old (ix3 0 0 l) + tileP (DH m c) (X m c) (G m c) t 1 l := by
  refine (pay_sc _ _ _ old l).trans (congrArg (old (ix3 0 0 l) + ·) ?_)
  unfold tileP
  rw [if_neg (by decide), if_pos rfl]
  exact Finset.sum_congr rfl fun r _ => by rw [h_tile, x_tile, g_tile]

theorem add_g (old : S1x1024.Idx → EReal) :
    k0_pay13 (F := Ideal) (k0_pay6 (iblk m c 1 t)) (sct m c t) (k0_pay10 (iblk m c 2 t)) old (ix2 0 l)
    = old (ix2 0 l) + tileG (DH m c) (X m c) (Mo m c) t 0 l := by
  refine (pay_g _ _ _ old l).trans (congrArg (old (ix2 0 l) + ·) ?_)
  unfold tileG
  rw [if_pos rfl]
  exact Finset.sum_congr rfl fun r _ => by rw [h_tile, x_tile, s_tile]

end Cert.Proof.PreNorm

end
-- ==== Proof.PreNormRun.lean ====
/- The sums of the pre-norm's backward call after its run: the shift's and the scale's gradient in the first two of a batch
   row's eight rows, the gain's in the first of eight. -/
module

public import proofs.«01_k».proof.Proof.PreNormTile

@[expose] public section

set_option maxRecDepth 16384

noncomputable section

namespace Cert.Proof.PreNorm

open Cert.Kernel24Ideal Cert.Kernel24Ideal.Gen Idealize.ShloMosaic Idealize.ShloMosaic.TcCoe Idealize.SL.Sem
open Idealize.ShloMosaic.Pipeline

section Rows

variable (v : View sig .tc .vmem S1x8x1024 .f32) (f : v.ty.Contents (Elt Ideal)) (L : List (View.Piece (Elt Ideal) S1x8x1024 .f32))

theorem row_hit {o : ℕ} (inb) (w : S1x1x1024.Idx → EReal) (k : Fin 8) (j : Fin 1024) (h : k.val = o) :
    v.read (Elt Ideal) (v.writes (Elt Ideal) f (⟨Rect.unit ![0, o, 0] ![1, 1, 1024] inb, w⟩ :: L)) (ix3 0 k j) = w (ix3 0 0 j) :=
  View.read_writes_cons_unit_of_mem v f inb w L (ix3 0 k j) (ix3 0 0 j) rfl (fun a => match a with
    | ⟨0, _⟩ => rfl
    | ⟨1, _⟩ => h
    | ⟨2, _⟩ => (Nat.zero_add _).symm)

theorem row_miss {o : ℕ} (inb) (w : S1x1x1024.Idx → EReal) (k : Fin 8) (j : Fin 1024) (h : k.val ≠ o) :
    v.read (Elt Ideal) (v.writes (Elt Ideal) f (⟨Rect.unit ![0, o, 0] ![1, 1, 1024] inb, w⟩ :: L)) (ix3 0 k j)
      = v.read (Elt Ideal) (v.writes (Elt Ideal) f L) (ix3 0 k j) :=
  View.read_writes_cons_unit_of_not_mem v f inb w L (ix3 0 k j) rfl 1 (by
    show k.val < o ∨ o + 1 ≤ k.val
    omega)

theorem block_hit (inb) (w : S1x8x1024.Idx → EReal) (k : Fin 8) (j : Fin 1024) :
    v.read (Elt Ideal) (v.writes (Elt Ideal) f (⟨Rect.unit ![0, 0, 0] ![1, 8, 1024] inb, w⟩ :: L)) (ix3 0 k j) = w (ix3 0 k j) :=
  View.read_writes_cons_unit_of_mem v f inb w L (ix3 0 k j) (ix3 0 k j) rfl (fun a => match a with
    | ⟨0, _⟩ => rfl
    | ⟨1, _⟩ => (Nat.zero_add _).symm
    | ⟨2, _⟩ => (Nat.zero_add _).symm)

theorem row_load {o : ℕ} (inb : ∀ a, (![0, o, 0] : Fin 3 → ℕ) a + (![1, 1, 1024] : Fin 3 → ℕ) a ≤ S1x8x1024.size a) (k : Fin 8)
    (j : Fin 1024) (h : k.val = o) :
    v.readCov L (Rect.unit (s := S1x8x1024) ![0, o, 0] ![1, 1, 1024] inb).toLoadRect (ix3 (0 : Fin 1) (0 : Fin 1) j : S1x1x1024.Idx)
      = v.read (Elt Ideal) (v.writes (Elt Ideal) v.junk L) (ix3 0 k j) := by
  subst h
  show v.read (Elt Ideal) (v.writes (Elt Ideal) v.junk L) _ = _
  refine congrArg _ (funext fun a => Fin.ext ?_)
  match a with
  | ⟨0, _⟩ => rfl
  | ⟨1, _⟩ => show k.val + 1 * 0 = k.val; omega
  | ⟨2, _⟩ => show 0 + 1 * j.val = j.val; omega

variable (v2 : View sig .tc .vmem S8x1024 .f32) (f2 : v2.ty.Contents (Elt Ideal)) (L2 : List (View.Piece (Elt Ideal) S8x1024 .f32))

theorem row_hit2 (inb) (w : S1x1024.Idx → EReal) (j : Fin 1024) :
    v2.read (Elt Ideal) (v2.writes (Elt Ideal) f2 (⟨Rect.unit ![0, 0] ![1, 1024] inb, w⟩ :: L2)) (ix2 0 j) = w (ix2 0 j) :=
  View.read_writes_cons_unit_of_mem v2 f2 inb w L2 (ix2 0 j) (ix2 0 j) rfl
    (Fin.forall_fin_two.mpr ⟨rfl, (Nat.zero_add _).symm⟩)

theorem row_miss2 (inb) (w : S1x1024.Idx → EReal) (k : Fin 8) (j : Fin 1024) (h : k.val ≠ 0) :
    v2.read (Elt Ideal) (v2.writes (Elt Ideal) f2 (⟨Rect.unit ![0, 0] ![1, 1024] inb, w⟩ :: L2)) (ix2 k j)
      = v2.read (Elt Ideal) (v2.writes (Elt Ideal) f2 L2) (ix2 k j) :=
  View.read_writes_cons_unit_of_not_mem v2 f2 inb w L2 (ix2 k j) rfl 0 (by
    show k.val < 0 ∨ 0 + 1 ≤ k.val
    omega)

theorem block_hit2 (inb) (w : S8x1024.Idx → EReal) (k : Fin 8) (j : Fin 1024) :
    v2.read (Elt Ideal) (v2.writes (Elt Ideal) f2 (⟨Rect.unit ![0, 0] ![8, 1024] inb, w⟩ :: L2)) (ix2 k j) = w (ix2 k j) :=
  View.read_writes_cons_unit_of_mem v2 f2 inb w L2 (ix2 k j) (ix2 k j) rfl
    (Fin.forall_fin_two.mpr ⟨(Nat.zero_add _).symm, (Nat.zero_add _).symm⟩)

theorem row_load2 (inb : ∀ a, (![0, 0] : Fin 2 → ℕ) a + (![1, 1024] : Fin 2 → ℕ) a ≤ S8x1024.size a) (j : Fin 1024) :
    v2.readCov L2 (Rect.unit (s := S8x1024) ![0, 0] ![1, 1024] inb).toLoadRect (ix2 (0 : Fin 1) j : S1x1024.Idx)
      = v2.read (Elt Ideal) (v2.writes (Elt Ideal) v2.junk L2) (ix2 0 j) := by
  show v2.read (Elt Ideal) (v2.writes (Elt Ideal) v2.junk L2) _ = _
  refine congrArg _ (funext fun a => Fin.ext ?_)
  match a with
  | ⟨0, _⟩ => rfl
  | ⟨1, _⟩ => show 0 + 1 * j.val = j.val; omega

end Rows

variable (m : (ℓ : Loc nD τ sig) → Buf (Elt Ideal) ℓ) (c : Dev nD)

theorem p_step (t : Fin cfg0.N) (h : ¬ t.val % 8 = 0) (y : S1x8x1024.Idx) : ((outsAt0 m c t.val t.isLt).2.1 : Vec Ideal S1x8x1024 .f32) y
    = ((outsAt0 m c (t.val - 1) (Nat.lt_of_le_of_lt (Nat.sub_le _ _) t.isLt)).2.1 : Vec Ideal S1x8x1024 .f32) y
      + tileP (DH m c) (X m c) (G m c) t (y 1).val (y 2) := by
  obtain ⟨a, k, j, rfl⟩ : ∃ (a : Fin 1) (k : Fin 8) (j : Fin 1024), y = ix3 a k j := ⟨y 0, y 1, y 2, (ix3_eta y).symm⟩
  obtain rfl : a = 0 := Subsingleton.elim _ _
  rw [outsAt0_B m c t h (by omega)]
  frame_out
  generalize (outsAt0 m c (t.val - 1) _).2.1 = acc
  show _ = (acc : S1x8x1024.Idx → EReal) (ix3 0 k j) + tileP (DH m c) (X m c) (G m c) t k.val j
  by_cases h1 : k.val = 1
  · obtain rfl : k = 1 := Fin.ext h1
    rw [row_hit _ _ _ _ _ _ _ h1, add_sc]
    pointwise
  rw [row_miss _ _ _ _ _ _ _ h1]
  by_cases h0 : k.val = 0
  · obtain rfl : k = 0 := Fin.ext h0
    rw [row_hit _ _ _ _ _ _ _ h0, add_sh]
    pointwise
  rw [row_miss _ _ _ _ _ _ _ h0]
  unfold tileP
  rw [if_neg h0, if_neg h1, add_zero]
  exact congrFun (Memref.IsWhole.read_unread _ _) _

theorem z6 (k : Fin 8) (j : Fin 1024) : (k0_pay2 : FVec Ideal S1x8x1024 .f32) (ix3 0 k j) = 0 := by
  unfold k0_pay2; pointwise
theorem z7 (k : Fin 8) (j : Fin 1024) : (k0_pay3 : FVec Ideal S8x1024 .f32) (ix2 k j) = 0 := by
  unfold k0_pay3; pointwise

theorem p_reset (t : Fin cfg0.N) (h : t.val % 8 = 0) (y : S1x8x1024.Idx) : ((outsAt0 m c t.val t.isLt).2.1 : Vec Ideal S1x8x1024 .f32) y
    = (0 : EReal) + tileP (DH m c) (X m c) (G m c) t (y 1).val (y 2) := by
  obtain ⟨a, k, j, rfl⟩ : ∃ (a : Fin 1) (k : Fin 8) (j : Fin 1024), y = ix3 a k j := ⟨y 0, y 1, y 2, (ix3_eta y).symm⟩
  obtain rfl : a = 0 := Subsingleton.elim _ _
  show _ = (0 : EReal) + tileP (DH m c) (X m c) (G m c) t k.val j
  have hz := z6
  by_cases h16 : t.val % 16 = 0 <;>
  ( first | rw [outsAt0_A m c t h h16] | rw [outsAt0_C m c t h h16]
    frame_out
    rw [← View.read_writes_junk_apply_eq_canon (ms0_6 t).view]
    generalize (k0_pay2 : FVec Ideal S1x8x1024 .f32) = z at hz ⊢
    by_cases h1 : k.val = 1
    · obtain rfl : k = 1 := Fin.ext h1
      rw [row_hit _ _ _ _ _ _ _ h1, add_sc, row_load (o := 1) _ _ _ 1 j rfl, row_miss _ _ _ _ _ _ _ (by decide), block_hit, hz]
      rfl
    rw [row_miss _ _ _ _ _ _ _ h1]
    by_cases h0 : k.val = 0
    · obtain rfl : k = 0 := Fin.ext h0
      rw [row_hit _ _ _ _ _ _ _ h0, add_sh, row_load (o := 0) _ _ _ 0 j rfl, block_hit, hz]
      rfl
    rw [row_miss _ _ _ _ _ _ _ h0, block_hit, hz]
    unfold tileP
    rw [if_neg h0, if_neg h1, add_zero] )

theorem g_step (t : Fin cfg0.N) (h : ¬ t.val % 16 = 0) (y : S8x1024.Idx) : ((outsAt0 m c t.val t.isLt).2.2 : Vec Ideal S8x1024 .f32) y
    = ((outsAt0 m c (t.val - 1) (Nat.lt_of_le_of_lt (Nat.sub_le _ _) t.isLt)).2.2 : Vec Ideal S8x1024 .f32) y
      + tileG (DH m c) (X m c) (Mo m c) t (y 0).val (y 1) := by
  obtain ⟨k, j, rfl⟩ : ∃ (k : Fin 8) (j : Fin 1024), y = ix2 k j := ⟨y 0, y 1, (ix2_eta y).symm⟩
  have hg := add_g m c t j
  by_cases h8 : t.val % 8 = 0 <;>
  ( first | rw [outsAt0_C m c t h8 h] | rw [outsAt0_B m c t h8 h]
    frame_out
    generalize (outsAt0 m c (t.val - 1) _).2.2 = acc
    show _ = (acc : S8x1024.Idx → EReal) (ix2 k j) + tileG (DH m c) (X m c) (Mo m c) t k.val j
    by_cases h0 : k.val = 0
    · obtain rfl : k = 0 := Fin.ext h0
      rw [row_hit2]
      refine (hg _).trans ?_
      pointwise
    rw [row_miss2 _ _ _ _ _ _ _ h0]
    unfold tileG
    rw [if_neg h0, add_zero]
    exact congrFun (Memref.IsWhole.read_unread _ _) _ )

theorem g_reset (t : Fin cfg0.N) (h : t.val % 16 = 0) (y : S8x1024.Idx) : ((outsAt0 m c t.val t.isLt).2.2 : Vec Ideal S8x1024 .f32) y
    = (0 : EReal) + tileG (DH m c) (X m c) (Mo m c) t (y 0).val (y 1) := by
  obtain ⟨k, j, rfl⟩ : ∃ (k : Fin 8) (j : Fin 1024), y = ix2 k j := ⟨y 0, y 1, (ix2_eta y).symm⟩
  have hg := add_g m c t j
  have hz := z7
  rw [outsAt0_A m c t (by omega) h]
  frame_out
  show _ = (0 : EReal) + tileG (DH m c) (X m c) (Mo m c) t k.val j
  rw [← View.read_writes_junk_apply_eq_canon (ms0_7 t).view]
  generalize (k0_pay3 : FVec Ideal S8x1024 .f32) = z at hz ⊢
  by_cases h0 : k.val = 0
  · obtain rfl : k = 0 := Fin.ext h0
    rw [row_hit2]
    refine (hg _).trans ?_
    rw [row_load2, block_hit2, hz]
    rfl
  rw [row_miss2 _ _ _ _ _ _ _ h0, block_hit2, hz]
  unfold tileG
  rw [if_neg h0, add_zero]

/-- The shift's and the scale's gradient, per batch row, in the first two of its eight rows. -/
theorem final_p : (dats m 0 c).arrAt 6 cfg0.N = fun i : S2x8x1024.Idx =>
    ∑ k ∈ Finset.range 8, tileP (DH m c) (X m c) (G m c) (8 * (i 0).val + k) (i 1).val (i 2) := by
  refine (dats m 0 c).arrAt_eq_of_covers 6 _ (by decide +kernel) (fun t hf y => ?_)
  have ht := (flush0_6 t).mp hf
  obtain ⟨a, k, j, rfl⟩ : ∃ (a : Fin 1) (k : Fin 8) (j : Fin 1024), y = ix3 a k j := ⟨y 0, y 1, y 2, (ix3_eta y).symm⟩
  obtain rfl : a = 0 := Subsingleton.elim _ _
  have h := eq_sum_of_reset_step_apply (fun n h => ((outsAt0 m c n h).2.1 : S1x8x1024.Idx → EReal)) 8 (fun _ => (0 : EReal))
    (fun t y => tileP (DH m c) (X m c) (G m c) t (y 1).val (y 2)) (p_reset m c) (p_step m c) t (ix3 0 k j)
  rw [zero_add, ht] at h
  blk_simp
  rw [after0_6, (index6 t).1.1, (index6 t).1.2]
  refine h.trans (Finset.sum_congr rfl fun n _ => ?_)
  refine (congrArg (tileP _ _ _ _ k.val) (Fin.ext ?_)).trans (congrArg (tileP _ _ _ _ · _) (Nat.zero_mul 8 ▸ Nat.zero_add k.val).symm)
  blk_simp
  rw [(index6 t).2]
  exact (Nat.zero_add _).symm

/-- The last grid point. -/
def tLast : Fin cfg0.N := ⟨15, by decide⟩

/-- The gain's gradient, in the first of the eight rows of its array. -/
theorem final_g : (dats m 0 c).arrAt 7 cfg0.N
    = fun i : S8x1024.Idx => ∑ t ∈ Finset.range 16, tileG (DH m c) (X m c) (Mo m c) t (i 0).val (i 1) := by
  refine (dats m 0 c).arrAt_eq_of_after_last 7 tLast (by decide +kernel) _ fun j => ?_
  blk_simp
  rw [after0_7]
  have h := eq_sum_of_reset_step_apply (fun n h => ((outsAt0 m c n h).2.2 : S8x1024.Idx → EReal)) 16 (fun _ => (0 : EReal))
    (fun t y => tileG (DH m c) (X m c) (Mo m c) t (y 0).val (y 1)) (g_reset m c) (g_step m c) tLast j
  refine h.trans ?_
  rw [zero_add]
  refine Finset.sum_congr rfl fun k _ => ?_
  show tileG _ _ _ (16 * (15 / 16) + k) _ _ = _
  rw [show 16 * (15 / 16) + k = k by omega]

end Cert.Proof.PreNorm

end
-- ==== Proof.PreNorm.lean ====
/- The pre-norm's backward call against the derivative of the plain formula: the input's gradient row by row, and the gradients
   of the shift, of the scale and of the gain as sums of the tiles' sums. -/
module

public import proofs.«01_k».proof.Proof.PreNormRun
public import proofs.«01_k».proof.Proof.Gen.Reference24Ideal.Run
public import proofs.«01_k».proof.Proof.Gen.Reference24Ideal.Read
public import proofs.«01_k».proof.Defs

@[expose] public section

set_option maxRecDepth 16384

noncomputable section

namespace Cert.Proof.PreNorm

open Idealize.ShloMosaic Idealize.ShloMosaic.TcCoe Idealize.SL.Sem Idealize.ShloMosaic.Pipeline Cert.Proof.GatedNorm

section Sums

/-- A batch row's eight tiles of rows, row by row. -/
theorem sum_tiles (g : ℕ → ℕ → EReal) (b : ℕ) :
    ∑ k ∈ Finset.range 8, ∑ r : Fin 512, g ((8 * b + k) / 8) (pos (8 * b + k) r) = ∑ s : Fin 4096, g b s := by
  rw [Fin.sum_univ_eq_sum_range (g b) 4096, show 4096 = 8 * 512 from rfl, Finset.sum_range_mul_split]
  refine Finset.sum_congr rfl fun k hk => ?_
  have hk' := Finset.mem_range.mp hk
  unfold pos
  rw [show (8 * b + k) / 8 = b by omega, show (8 * b + k) % 8 = k by omega]
  exact Fin.sum_univ_eq_sum_range (fun r => g b (k * 512 + r)) 512

/-- Both batch rows' tiles. -/
theorem sum_all (g : ℕ → ℕ → EReal) :
    ∑ t ∈ Finset.range 16, ∑ r : Fin 512, g (t / 8) (pos t r) = ∑ b : Fin 2, ∑ s : Fin 4096, g b s := by
  rw [Fin.sum_univ_eq_sum_range (fun b => ∑ s : Fin 4096, g b s) 2, show 16 = 2 * 8 from rfl, Finset.sum_range_mul_split]
  refine Finset.sum_congr rfl fun b _ => ?_
  rw [← sum_tiles]
  exact Finset.sum_congr rfl fun k _ => by rw [mul_comm b 8]

end Sums

section Kernel

open Cert.Kernel24Ideal Cert.Kernel24Ideal.Gen

variable (m : (ℓ : Loc nD τ sig) → Buf (Elt Ideal) ℓ) (c : Dev nD)

/-- What @main returns of the sums: the shift's row and the scale's row of each batch row, and the gain's row. -/
theorem cut_sh : Pipeline.afterTail₀ cfgs (dats m) 0 (V0 m) [hostOps1] c main_v4 = fun i : S2x1x1024.Idx =>
    ∑ s : Fin 4096, at3 (DH m c) (i 0).val s (i 2).val := by
  have hw : Pipeline.withArrays cfg0.spec c (V0 m c) (fun w => (dats m 0 c).arrAt w cfg0.N) (Proc.devRef .tc main_v3_1) = (dats m 0 c).arrAt 6 cfg0.N :=
    Pipeline.withArrays_arr spec0 winFacts0.arr_inj c (V0 m c) (fun w => (dats m 0 c).arrAt w cfg0.N) 6
  have h : Pipeline.afterTail₀ cfgs (dats m) 0 (V0 m) [hostOps1] c main_v4
      = extractStridedSlice S2x1x1024 ![0, 0, 0] ((dats m 0 c).arrAt 6 cfg0.N : S2x8x1024.Idx → EReal) slices_S2x8x1024_S2x1x1024_0_0_0 := by
    rw [← hw]
    unfold Pipeline.afterTail₀
    simp only [hostOps1, List.flatten_cons, List.flatten_nil, List.append_nil]
    after_results
    try rfl
  rw [h, final_p]
  funext i
  obtain ⟨b, a, l, rfl⟩ : ∃ (b : Fin 2) (a : Fin 1) (l : Fin 1024), i = ix3 b a l := ⟨i 0, i 1, i 2, (ix3_eta i).symm⟩
  obtain rfl : a = 0 := Subsingleton.elim _ _
  pointwise
  show (∑ k ∈ Finset.range 8, tileP (DH m c) (X m c) (G m c) (8 * b.val + k) 0 l : EReal) = _
  refine Eq.trans ?_ (sum_tiles (fun b s => at3 (DH m c) b s l) b)
  exact Finset.sum_congr rfl fun k _ => if_pos rfl

theorem cut_sc : Pipeline.afterTail₀ cfgs (dats m) 0 (V0 m) [hostOps1] c main_v5 = fun i : S2x1x1024.Idx =>
    ∑ s : Fin 4096, at3 (DH m c) (i 0).val s (i 2).val * (xn (xrow (X m c) (i 0).val s) (i 2) * G m c (ix1 (i 2))) := by
  have hw : Pipeline.withArrays cfg0.spec c (V0 m c) (fun w => (dats m 0 c).arrAt w cfg0.N) (Proc.devRef .tc main_v3_1) = (dats m 0 c).arrAt 6 cfg0.N :=
    Pipeline.withArrays_arr spec0 winFacts0.arr_inj c (V0 m c) (fun w => (dats m 0 c).arrAt w cfg0.N) 6
  have h : Pipeline.afterTail₀ cfgs (dats m) 0 (V0 m) [hostOps1] c main_v5
      = extractStridedSlice S2x1x1024 ![0, 1, 0] ((dats m 0 c).arrAt 6 cfg0.N : S2x8x1024.Idx → EReal) slices_S2x8x1024_S2x1x1024_0_1_0 := by
    rw [← hw]
    unfold Pipeline.afterTail₀
    simp only [hostOps1, List.flatten_cons, List.flatten_nil, List.append_nil]
    after_results
    try rfl
  rw [h, final_p]
  funext i
  obtain ⟨b, a, l, rfl⟩ : ∃ (b : Fin 2) (a : Fin 1) (l : Fin 1024), i = ix3 b a l := ⟨i 0, i 1, i 2, (ix3_eta i).symm⟩
  obtain rfl : a = 0 := Subsingleton.elim _ _
  pointwise
  show (∑ k ∈ Finset.range 8, tileP (DH m c) (X m c) (G m c) (8 * b.val + k) 1 l : EReal) = _
  refine Eq.trans ?_ (sum_tiles (fun b s => at3 (DH m c) b s l * (xn (xrow (X m c) b s) l * G m c (ix1 l))) b)
  exact Finset.sum_congr rfl fun k _ => (if_neg (by decide)).trans (if_pos rfl)

theorem cut_g : Pipeline.afterTail₀ cfgs (dats m) 0 (V0 m) [hostOps1] c main_v6 = fun i : S1x1024.Idx =>
    ∑ b : Fin 2, ∑ s : Fin 4096, at3 (DH m c) b s (i 1).val * scl (Mo m c) b (i 1) * xn (xrow (X m c) b s) (i 1) := by
  have hw : Pipeline.withArrays cfg0.spec c (V0 m c) (fun w => (dats m 0 c).arrAt w cfg0.N) (Proc.devRef .tc main_v3_2) = (dats m 0 c).arrAt 7 cfg0.N :=
    Pipeline.withArrays_arr spec0 winFacts0.arr_inj c (V0 m c) (fun w => (dats m 0 c).arrAt w cfg0.N) 7
  have h : Pipeline.afterTail₀ cfgs (dats m) 0 (V0 m) [hostOps1] c main_v6
      = extractStridedSlice S1x1024 ![0, 0] ((dats m 0 c).arrAt 7 cfg0.N : S8x1024.Idx → EReal) slices_S8x1024_S1x1024_0_0 := by
    rw [← hw]
    unfold Pipeline.afterTail₀
    simp only [hostOps1, List.flatten_cons, List.flatten_nil, List.append_nil]
    after_results
    try rfl
  rw [h, final_g]
  funext i
  obtain ⟨a, l, rfl⟩ : ∃ (a : Fin 1) (l : Fin 1024), i = ix2 a l := ⟨i 0, i 1, (ix2_eta i).symm⟩
  obtain rfl : a = 0 := Subsingleton.elim _ _
  pointwise
  show (∑ t ∈ Finset.range 16, tileG (DH m c) (X m c) (Mo m c) t 0 l : EReal) = _
  refine Eq.trans ?_ (sum_all (fun b s => at3 (DH m c) b s l * scl (Mo m c) b l * xn (xrow (X m c) b s) l))
  exact Finset.sum_congr rfl fun k _ => if_pos rfl

end Kernel

section Ref

open Cert.Reference24Ideal Cert.Reference24Ideal.Gen Cert.Reference24Ideal.Read

variable (D H X : S2x4096x1024.Idx → EReal) (G : S1024.Idx → EReal) (Mo : S2x6144.Idx → EReal) (b : Fin 2) (s : Fin 4096) (l : Fin 1024)

theorem r_ms : val_main_v10 (F := Ideal) X (ix3 b s 0) = ms (xrow X b s) := by
  have h : val_main_v5 (F := Ideal) X (ix2 b s) = 0 + ∑ l, xrow X b s l * xrow X b s l := by
    rw [val_main_v5_apply]
    refine congrArg₂ (· + ·) ?_ (Finset.sum_congr rfl fun l _ => ?_)
    · unfold val_main_cst; pointwise
    · rw [val_main_v4_apply, show idx_main_v5 (ix2 b s) l = ix3 b s l from (ix3_eta (n0 := 2) (n1 := 4096) (n2 := 1024) _).symm, at3_ix X]
      rfl
  unfold val_main_v10 val_main_v9 val_main_v8 val_main_v7 val_main_v6 val_main_cst_0 val_main_cst_1
  generalize val_main_v5 (F := Ideal) X = v at h ⊢
  pointwise
  rw [h, zero_add]; rfl

theorem r_ir : val_main_v11 (F := Ideal) X (ix3 b s 0) = ir (xrow X b s) := by
  rw [val_main_v11_apply, r_ms]; rfl

theorem r_xn : val_main_v16 (F := Ideal) X (ix3 b s l) = xn (xrow X b s) l := by
  have h := r_ir X b s
  unfold val_main_v16 val_main_v15
  generalize val_main_v11 (F := Ideal) X = v at h ⊢
  pointwise
  rw [h, at3_ix X]; rfl

theorem r_h : val_main_v26 (F := Ideal) H (ix3 b s l) = at3 H b s l := by
  unfold val_main_v26
  pointwise
  exact at3_ix H b s l

/-- The incoming gradient times one plus the scale, and that times the gain. -/
theorem r_hs : val_main_v33 (F := Ideal) H Mo (ix3 b s l) = at3 H b s l * scl Mo b l := by
  rw [val_main_v33_apply, r_h]
  refine congrArg (at3 H b s l * ·) ?_
  unfold val_main_v32 val_main_v21 val_main_v20 val_main_v3 val_main_v2 val_main_cst_3 scl
  pointwise
  exact congrArg (1 + ·) (at2_of Mo _ rfl rfl)

theorem r_u : val_main_v38 (F := Ideal) H G Mo (ix3 b s l) = urow H G Mo b s l := by
  rw [val_main_v38_apply, r_hs]
  refine congrArg (at3 H b s l * scl Mo b l * ·) ?_
  unfold val_main_v37 val_main_v17
  pointwise

theorem r_slope : val_main_v50 (F := Ideal) H X G Mo (ix3 b s l) = slp (xrow X b s) (urow H G Mo b s) := by
  have h : val_main_v41 (F := Ideal) H X G Mo (ix2 b s) = 0 + ∑ l, xrow X b s l * urow H G Mo b s l := by
    rw [val_main_v41_apply]
    refine congrArg₂ (· + ·) ?_ (Finset.sum_congr rfl fun l _ => ?_)
    · unfold val_main_cst_8; pointwise
    · rw [val_main_v40_apply, show idx_main_v41 (ix2 b s) l = ix3 b s l from (ix3_eta (n0 := 2) (n1 := 4096) (n2 := 1024) _).symm, r_u, at3_ix X]
      rfl
  have h1 : val_main_v48 (F := Ideal) H X G Mo (ix3 b s 0) = slp (xrow X b s) (urow H G Mo b s) := by
    have h2 := r_ms X b s
    have h3 := r_ir X b s
    unfold val_main_v48 val_main_v47 val_main_v46 val_main_v42 val_main_v14 val_main_v13 val_main_v12 val_main_cst_2 val_main_cst_9
    generalize val_main_v41 (F := Ideal) H X G Mo = v at h ⊢
    generalize val_main_v10 (F := Ideal) X = w at h2 ⊢
    generalize val_main_v11 (F := Ideal) X = w' at h3 ⊢
    pointwise
    rw [h, h2, h3, zero_add]; rfl
  have h4 : val_main_v49 (F := Ideal) H X G Mo (ix2 b s) = slp (xrow X b s) (urow H G Mo b s) := by
    rw [val_main_v49_apply, Fin.sum_univ_one, show idx_main_v49 (ix2 b s) 0 = ix3 b s 0 from
      (ix3_eta (n0 := 2) (n1 := 4096) (n2 := 1) _).symm, h1]
    refine (congrArg (· + _) ?_).trans (zero_add _)
    unfold val_main_cst_10; pointwise
  unfold val_main_v50
  generalize val_main_v49 (F := Ideal) H X G Mo = v at h4 ⊢
  pointwise
  exact h4

theorem r_dx : val_main_v54 (F := Ideal) D H X G Mo (ix3 b s l) = gradX D H X G Mo b s l := by
  have h1 : val_main_v43 (F := Ideal) X (ix3 b s l) = ir (xrow X b s) := by
    have h := r_ir X b s
    unfold val_main_v43
    generalize val_main_v11 (F := Ideal) X = v at h ⊢
    pointwise
    exact h
  unfold gradX
  rw [dx_eq, val_main_v54_apply, val_main_v52_apply, val_main_v53_apply, val_main_v51_apply, val_main_v45_apply, val_main_v44_apply,
    r_slope, r_u, h1, at3_ix D, at3_ix X]
  show at3 D b s l + urow H G Mo b s l * ir (xrow X b s) + at3 X b s l * slp (xrow X b s) (urow H G Mo b s)
    + slp (xrow X b s) (urow H G Mo b s) * at3 X b s l = _
  rw [add_assoc, add_assoc]
  rfl

theorem r_sh : val_main_v28 (F := Ideal) H (ix3 b 0 l) = ∑ s : Fin 4096, at3 H b s l := by
  have h : val_main_v27 (F := Ideal) H (ix2 b l) = 0 + ∑ s : Fin 4096, at3 H b s l := by
    rw [val_main_v27_apply]
    refine congrArg₂ (· + ·) ?_ (Finset.sum_congr rfl fun s _ => ?_)
    · unfold val_main_cst_4; pointwise
    · exact at3_of H _ rfl rfl rfl
  unfold val_main_v28
  generalize val_main_v27 (F := Ideal) H = v at h ⊢
  pointwise
  rw [h, zero_add]

theorem r_sc : val_main_v31 (F := Ideal) H X G (ix3 b 0 l)
    = ∑ s : Fin 4096, at3 H b s l * (xn (xrow X b s) l * G (ix1 l)) := by
  have h : val_main_v30 (F := Ideal) H X G (ix2 b l) = 0 + ∑ s : Fin 4096, at3 H b s l * (xn (xrow X b s) l * G (ix1 l)) := by
    rw [val_main_v30_apply]
    refine congrArg₂ (· + ·) ?_ (Finset.sum_congr rfl fun s _ => ?_)
    · unfold val_main_cst_5; pointwise
    · have hg : val_main_v18 (F := Ideal) G (ix3 b s l) = G (ix1 l) := by
        unfold val_main_v18 val_main_v17
        pointwise
      rw [show idx_main_v30 (ix2 b l) s = ix3 b s l from (ix3_eta (n0 := 2) (n1 := 4096) (n2 := 1024) _).symm, val_main_v29_apply,
        val_main_v19_apply, r_h, r_xn, hg]
      exact mul_comm _ _
  unfold val_main_v31
  generalize val_main_v30 (F := Ideal) H X G = v at h ⊢
  pointwise
  rw [h, zero_add]

theorem sum01_1024 {n0 n1 : ℕ} (h : (⟨3, ![n0, n1, 1024]⟩ : Shape).ReducesTo [0, 1] S1024)
    (v : (⟨3, ![n0, n1, 1024]⟩ : Shape).Idx → EReal) (j : Fin 1024) :
    (Host.reduceAdd (F := Ideal) (φ := .f32) v (constant S_ .f32 0x00000000#32) h h_S_ : S1024.Idx → EReal) (ix1 j)
      = ∑ a : Fin n0, ∑ b : Fin n1, v (ix3 a b j) := by
  refine (hostSum01 h v _ j).trans ?_
  refine (congrArg (· + _) ?_).trans (zero_add _)
  pointwise

theorem r_g : val_main_v55 (F := Ideal) H X Mo (ix2 0 l)
    = ∑ b : Fin 2, ∑ s : Fin 4096, at3 H b s l * scl Mo b l * xn (xrow X b s) l := by
  have h35 : val_main_v35 (F := Ideal) H X Mo (ix1 l) = ∑ b : Fin 2, ∑ s : Fin 4096, val_main_v34 (F := Ideal) H X Mo (ix3 b s l) := by
    unfold val_main_v35 val_main_cst_6
    exact sum01_1024 _ _ l
  have h39 : val_main_v39 (F := Ideal) H X Mo (ix1 l) = val_main_v35 (F := Ideal) H X Mo (ix1 l) := by
    unfold val_main_v39 val_main_cst_7
    refine (sum01_1024 _ _ l).trans ?_
    rw [Fin.sum_univ_one, Fin.sum_univ_one]
    unfold val_main_v36
    generalize val_main_v35 (F := Ideal) H X Mo = v
    pointwise
  have h55 : val_main_v55 (F := Ideal) H X Mo (ix2 0 l) = val_main_v39 (F := Ideal) H X Mo (ix1 l) := by
    unfold val_main_v55
    generalize val_main_v39 (F := Ideal) H X Mo = v
    pointwise
  refine h55.trans (h39.trans (h35.trans (Finset.sum_congr rfl fun b _ => Finset.sum_congr rfl fun s _ => ?_)))
  rw [val_main_v34_apply, r_xn, r_hs]
  exact mul_comm _ _

end Ref

open Cert.Kernel24Ideal Cert.Kernel24Ideal.Gen

theorem algebraic : Cert.algebraic_Kernel24Ideal_Reference24Ideal := by
  intro m g m' g' _ hm
  refine ⟨fun c => (dats m 0 c).arrAt 5 cfg0.N, fun c => Pipeline.afterTail₀ cfgs (dats m) 0 (V0 m) [hostOps1] c main_v4,
    fun c => Pipeline.afterTail₀ cfgs (dats m) 0 (V0 m) [hostOps1] c main_v5,
    fun c => Pipeline.afterTail₀ cfgs (dats m) 0 (V0 m) [hostOps1] c main_v6,
    (θ_run Cert.Kernel24Ideal.defs _ _).mono (fun r h c => ⟨(h.1 c).1 5,
      (h.1 c).2 main_v4 (Pipeline.mem_restRefs_of main_v4 (by decide) (by decide)),
      (h.1 c).2 main_v5 (Pipeline.mem_restRefs_of main_v5 (by decide) (by decide)),
      (h.1 c).2 main_v6 (Pipeline.mem_restRefs_of main_v6 (by decide) (by decide)), h.2 c⟩)
      (θ_run_and (run_main m g) (unchanged m g)),
    (θ_run Cert.Reference24Ideal.defs _ _).mono (fun r h c => ?_) (Cert.Reference24Ideal.Value.run (F := Ideal) m' g')⟩
  obtain ⟨h0, h1, h2, h3, hk⟩ := h c
  obtain ⟨e0, e1, e2, e3, e4⟩ := hm c
  refine ⟨h0.trans (Eq.trans ?_ (final_dx m c).symm), h1.trans (Eq.trans ?_ (cut_sh m c).symm),
    h2.trans (Eq.trans ?_ (cut_sc m c).symm), h3.trans (Eq.trans ?_ (cut_g m c).symm), hk⟩
  · rw [Cert.Reference24Ideal.Read.val_main_v54_eq, e0, e1, e2, e3, e4]
    funext i
    obtain ⟨b, s, l, rfl⟩ : ∃ (b : Fin 2) (s : Fin 4096) (l : Fin 1024), i = ix3 b s l := ⟨i 0, i 1, i 2, (ix3_eta i).symm⟩
    exact r_dx _ _ _ _ _ b s l
  · refine (Cert.Reference24Ideal.Read.val_main_v28_eq _).trans ?_
    rw [e1]
    funext i
    obtain ⟨b, a, l, rfl⟩ : ∃ (b : Fin 2) (a : Fin 1) (l : Fin 1024), i = ix3 b a l := ⟨i 0, i 1, i 2, (ix3_eta i).symm⟩
    obtain rfl : a = 0 := Subsingleton.elim _ _
    exact r_sh _ b l
  · refine (Cert.Reference24Ideal.Read.val_main_v31_eq _ _ _).trans ?_
    rw [e1, e2, e3]
    funext i
    obtain ⟨b, a, l, rfl⟩ : ∃ (b : Fin 2) (a : Fin 1) (l : Fin 1024), i = ix3 b a l := ⟨i 0, i 1, i 2, (ix3_eta i).symm⟩
    obtain rfl : a = 0 := Subsingleton.elim _ _
    exact r_sc _ _ _ b l
  · refine (Cert.Reference24Ideal.Read.val_main_v55_eq _ _ _).trans ?_
    rw [e1, e2, e4]
    funext i
    obtain ⟨a, l, rfl⟩ : ∃ (a : Fin 1) (l : Fin 1024), i = ix2 a l := ⟨i 0, i 1, (ix2_eta i).symm⟩
    obtain rfl : a = 0 := Subsingleton.elim _ _
    exact r_g _ _ _ l

end Cert.Proof.PreNorm

end
-- ==== Proof.Loss.lean ====
/- The loss's call: half the sum of the tokens' mean squares, added up tile by tile, and its gradient, against the value and
   the derivative of the plain formula. -/
module

public import proofs.«01_k».proof.Proof.PreNorm
public import proofs.«01_k».proof.Proof.Gen.Kernel25Ideal
public import proofs.«01_k».proof.Proof.Gen.Kernel25Ideal.Frame
public import proofs.«01_k».proof.Proof.Gen.Reference25Ideal.Run
public import proofs.«01_k».proof.Proof.Gen.Reference25Ideal.Read

@[expose] public section

set_option maxRecDepth 16384

noncomputable section

namespace Cert.Proof.Loss

open Idealize.ShloMosaic Idealize.ShloMosaic.TcCoe Idealize.SL.Sem Idealize.ShloMosaic.Pipeline
open Cert.Proof.GatedNorm (div_coe)
open Cert.Proof.PreNorm (cN cN_eq pos sum_all sum_mul_real)

/-- One half, and the inverse of the number of lanes. -/
abbrev cH : EReal := Ideal.ofBits .f32 0x3F000000#32
abbrev cI : EReal := Ideal.ofBits .f32 0x3A800000#32

theorem cH_eq : cH = ((1 / 2 : ℝ) : EReal) := by
  simp [Ideal.ofBits, Ideal.ieee]
  norm_num
  rw [← EReal.coe_mul]
  exact congrArg _ (by norm_num)

theorem cI_eq : cI = ((1 / 1024 : ℝ) : EReal) := by
  simp [Ideal.ofBits, Ideal.ieee]
  norm_num
  rw [← EReal.coe_mul]
  exact congrArg _ (by norm_num)

theorem two_eq : Ideal.ofBits .f32 0x40000000#32 = ((2 : ℝ) : EReal) := by
  simp [Ideal.ofBits, Ideal.ieee]
  norm_num
  rw [← EReal.coe_mul]
  exact congrArg _ (by norm_num)

/-- The error of one lane, and the mean of a token's squared errors. -/
def er (Y T : (⟨3, ![2, 4096, 1024]⟩ : Shape).Idx → EReal) (b s l : ℕ) : EReal := at3 Y b s l - at3 T b s l
def tok (Y T : (⟨3, ![2, 4096, 1024]⟩ : Shape).Idx → EReal) (b s : ℕ) : EReal :=
  Ideal.div (∑ l : Fin 1024, er Y T b s l * er Y T b s l) cN

section Kernel

open Cert.Kernel25Ideal Cert.Kernel25Ideal.Gen

section Pay

variable (yb tb : S1x512x1024.Idx → EReal) (old : S8x128.Idx → EReal) (r : Fin 512) (l : Fin 1024)

theorem pay_e : k0_pay2 (F := Ideal) yb tb (ix2 r l) = yb (ix3 0 r l) - tb (ix3 0 r l) := by
  unfold k0_pay2
  pointwise

theorem pay_dy : k0_pay3 (F := Ideal) yb tb (ix3 0 r l) = (yb (ix3 0 r l) - tb (ix3 0 r l)) * cI := by
  have h := pay_e yb tb r l
  unfold k0_pay3
  generalize k0_pay2 (F := Ideal) yb tb = v at h ⊢
  pointwise
  rw [h]

theorem pay_l (k : Fin 8) (j : Fin 128) : k0_pay4 (F := Ideal) yb tb old (ix2 k j) = old (ix2 k j)
    + cH * ∑ r : Fin 512, Ideal.div (∑ l : Fin 1024, (yb (ix3 0 r l) - tb (ix3 0 r l)) * (yb (ix3 0 r l) - tb (ix3 0 r l))) cN := by
  have h := pay_e yb tb
  unfold k0_pay4
  generalize k0_pay2 (F := Ideal) yb tb = v at h ⊢
  pointwise
  simp only [h]

end Pay

variable (m : (ℓ : Loc nD τ sig) → Buf (Elt Ideal) ℓ) (c : Dev nD)

/-- The arguments: the last layer's output and the target. -/
abbrev Y : S2x4096x1024.Idx → EReal := m ((c : Thread nD τ).loc main_arg0)
abbrev T : S2x4096x1024.Idx → EReal := m ((c : Thread nD τ).loc main_arg1)

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, (win0_2.index t 0 = t.val / 8 ∧ win0_2.index t 1 = t.val % 8) ∧ win0_2.index t 2 = 0 :=
  (by decide +kernel : ∀ t : Fin grid0.N, _)

variable (t : Fin cfg0.N) (r : Fin 512) (l : Fin 1024)

theorem y_tile : iblk m c 0 t (ix3 0 r l : S1x512x1024.Idx) = at3 (Y m c) (t.val / 8) (pos t r) l := by
  unfold Y; rw [← V_main_arg0 m c]
  refine at3_of (V m c main_arg0) _ ?_ ?_ ?_ <;> blk_simp [index0] <;> simp [win0_0]
theorem t_tile : iblk m c 1 t (ix3 0 r l : S1x512x1024.Idx) = at3 (T m c) (t.val / 8) (pos t r) l := by
  unfold T; rw [← V_main_arg1 m c]
  refine at3_of (V m c main_arg1) _ ?_ ?_ ?_ <;> blk_simp [index1] <;> simp [win0_1]

theorem tile_dy : ((outsAt0 m c t.val t.isLt).1 : Vec Ideal S1x512x1024 .f32) (ix3 0 r l)
    = er (Y m c) (T m c) (t.val / 8) (pos t r) l * cI := by
  have h := pay_dy (iblk m c 0 t) (iblk m c 1 t) r l
  rw [y_tile, t_tile] at h
  unfold er
  rw [← h]
  by_cases h0 : t.val % 16 = 0
  · rw [outsAt0_A m c t h0]; frame_out
  · rw [outsAt0_B m c t h0]; frame_out

/-- The gradient, a multiple of the error. -/
theorem final_dy : (dats m 0 c).arrAt 2 cfg0.N
    = fun i : S2x4096x1024.Idx => er (Y m c) (T m c) (i 0).val (i 1).val (i 2).val * cI := by
  refine (dats m 0 c).arrAt_eq_of_covers 2 _ (by decide +kernel) (fun t hf y => ?_)
  obtain ⟨a, r, l, rfl⟩ : ∃ (a : Fin 1) (r : Fin 512) (l : Fin 1024), y = ix3 a r l := ⟨y 0, y 1, y 2, (ix3_eta y).symm⟩
  obtain rfl : a = 0 := Subsingleton.elim _ _
  have h := tile_dy m c t r l
  blk_simp
  rw [after0_2, (index2 t).1.1, (index2 t).1.2, (index2 t).2]
  refine h.trans (congrArg (fun k => er (Y m c) (T m c) (t.val / 8) (pos t r) k * cI) ?_)
  exact ((congrArg (· + l.val) (Nat.zero_mul 1024)).trans (Nat.zero_add _)).symm

/-- What a grid point adds to every entry of the block that holds the loss. -/
def tileL (Y T : S2x4096x1024.Idx → EReal) (t : ℕ) : EReal := cH * ∑ r : Fin 512, tok Y T (t / 8) (pos t r)

theorem add_l (old : S8x128.Idx → EReal) (y : S8x128.Idx) : k0_pay4 (F := Ideal) (iblk m c 0 t) (iblk m c 1 t) old y
    = old y + tileL (Y m c) (T m c) t := by
  obtain ⟨k, j, rfl⟩ : ∃ (k : Fin 8) (j : Fin 128), y = ix2 k j := ⟨y 0, y 1, (ix2_eta y).symm⟩
  refine (pay_l _ _ old k j).trans (congrArg (fun z => old (ix2 k j) + cH * z) (Finset.sum_congr rfl fun r _ => ?_))
  unfold tok er
  refine congrArg (Ideal.div · cN) (Finset.sum_congr rfl fun l _ => ?_)
  rw [y_tile, t_tile]

theorem l_step (t : Fin cfg0.N) (h : ¬ t.val % 16 = 0) (y : S8x128.Idx) : ((outsAt0 m c t.val t.isLt).2 : Vec Ideal S8x128 .f32) y
    = ((outsAt0 m c (t.val - 1) (Nat.lt_of_le_of_lt (Nat.sub_le _ _) t.isLt)).2 : Vec Ideal S8x128 .f32) y
      + tileL (Y m c) (T m c) t := by
  rw [outsAt0_B m c t h]
  frame_out
  exact add_l m c t _ y

theorem l_reset (t : Fin cfg0.N) (h : t.val % 16 = 0) (y : S8x128.Idx) : ((outsAt0 m c t.val t.isLt).2 : Vec Ideal S8x128 .f32) y
    = (0 : EReal) + tileL (Y m c) (T m c) t := by
  rw [outsAt0_A m c t h]
  frame_out
  have hz : (k0_pay1 : FVec Ideal S8x128 .f32) y = 0 := by unfold k0_pay1; pointwise
  exact (add_l m c t _ y).trans (congrArg (· + _) hz)

/-- The last grid point. -/
def tLast : Fin cfg0.N := ⟨15, by decide⟩

/-- The loss, in every entry of its block. -/
theorem final_l : (dats m 0 c).arrAt 3 cfg0.N = fun _ : S8x128.Idx => ∑ t ∈ Finset.range 16, tileL (Y m c) (T m c) t := by
  refine (dats m 0 c).arrAt_eq_of_after_last 3 tLast (by decide +kernel) _ fun j => ?_
  blk_simp
  rw [after0_3]
  have h := eq_sum_of_reset_step_apply (fun n h => ((outsAt0 m c n h).2 : S8x128.Idx → EReal)) 16 (fun _ => (0 : EReal))
    (fun t _ => tileL (Y m c) (T m c) t) (l_reset m c) (l_step m c) tLast j
  refine h.trans ?_
  rw [zero_add]
  refine Finset.sum_congr rfl fun k _ => ?_
  show tileL _ _ (16 * (15 / 16) + k) = _
  rw [show 16 * (15 / 16) + k = k by omega]

/-- Half the sum over the tokens: the half comes out of the sum of the tiles. -/
theorem sum_l (Y T : S2x4096x1024.Idx → EReal) :
    ∑ t ∈ Finset.range 16, tileL Y T t = cH * ∑ b : Fin 2, ∑ s : Fin 4096, tok Y T b s := by
  unfold tileL
  rw [← sum_all (tok Y T), cH_eq, mul_comm, ← sum_mul_real _ _ (by norm_num)]
  exact Finset.sum_congr rfl fun t _ => mul_comm _ _

theorem cut_l : Pipeline.afterTail₀ cfgs (dats m) 0 (V0 m) [hostOps1] c main_v1 = fun _ : S1x1.Idx =>
    cH * ∑ b : Fin 2, ∑ s : Fin 4096, tok (Y m c) (T m c) b s := by
  have hw : Pipeline.withArrays cfg0.spec c (V0 m c) (fun w => (dats m 0 c).arrAt w cfg0.N) (Proc.devRef .tc main_v0_1) = (dats m 0 c).arrAt 3 cfg0.N :=
    Pipeline.withArrays_arr spec0 winFacts0.arr_inj c (V0 m c) (fun w => (dats m 0 c).arrAt w cfg0.N) 3
  have h : Pipeline.afterTail₀ cfgs (dats m) 0 (V0 m) [hostOps1] c main_v1
      = extractStridedSlice S1x1 ![0, 0] ((dats m 0 c).arrAt 3 cfg0.N : S8x128.Idx → EReal) slices_S8x128_S1x1_0_0 := by
    rw [← hw]
    unfold Pipeline.afterTail₀
    simp only [hostOps1, List.flatten_cons, List.flatten_nil, List.append_nil]
    after_results
    try rfl
  rw [h, final_l]
  funext i
  exact sum_l (Y m c) (T m c)

end Kernel

section Ref

open Cert.Reference25Ideal Cert.Reference25Ideal.Gen Cert.Reference25Ideal.Read

variable (Y T : S2x4096x1024.Idx → EReal) (b : Fin 2) (s : Fin 4096) (l : Fin 1024)

theorem r_e : val_main_v0 (F := Ideal) Y T (ix3 b s l) = er Y T b s l := by
  rw [val_main_v0_apply, at3_ix Y, at3_ix T]; rfl

theorem r_dy : val_main_v14 (F := Ideal) Y T (ix3 b s l) = er Y T b s l * cI := by
  have h := r_e Y T b s l
  unfold val_main_v14 val_main_v13 val_main_v12 val_main_v11 val_main_v10 val_main_v9 val_main_v3 val_main_v2 val_main_cst val_main_cst_4
    val_main_cst_5 val_main_cst_6
  generalize val_main_v0 (F := Ideal) Y T = v at h ⊢
  pointwise
  rw [h]
  show Ideal.div cH cN * (Ideal.ofBits .f32 0x40000000#32 * er Y T b s l) = _
  rw [cH_eq, cN_eq, two_eq, cI_eq, div_coe _ _ (by norm_num), ← mul_assoc, ← EReal.coe_mul, mul_comm]
  exact congrArg (fun z : ℝ => er Y T b s l * (z : EReal)) (by norm_num)

theorem r_tok : val_main_v6 (F := Ideal) Y T (ix2 b s) = tok Y T b s := by
  have h : val_main_v4 (F := Ideal) Y T (ix2 b s) = 0 + ∑ l : Fin 1024, er Y T b s l * er Y T b s l := by
    rw [val_main_v4_apply]
    refine congrArg₂ (· + ·) ?_ (Finset.sum_congr rfl fun l _ => ?_)
    · unfold val_main_cst_0; pointwise
    · rw [val_main_v1_apply, show idx_main_v4 (ix2 b s) l = ix3 b s l from (ix3_eta (n0 := 2) (n1 := 4096) (n2 := 1024) _).symm, r_e]
      rfl
  unfold val_main_v6 val_main_v5 val_main_cst_1
  generalize val_main_v4 (F := Ideal) Y T = v at h ⊢
  pointwise
  rw [h, zero_add]; rfl

theorem r_loss : val_main_v15 (F := Ideal) Y T (ix2 0 0) = cH * ∑ b : Fin 2, ∑ s : Fin 4096, tok Y T b s := by
  have h : ∀ i, val_main_v7 (F := Ideal) Y T i = ∑ b : Fin 2, ∑ s : Fin 4096, tok Y T b s := by
    intro i
    rw [val_main_v7_apply]
    refine (congrArg (· + _) (?_ : _ = (0 : EReal))).trans ((zero_add _).trans ((sum_idx2 _).trans ?_))
    · unfold val_main_cst_2; pointwise
    · exact Finset.sum_congr rfl fun b _ => Finset.sum_congr rfl fun s _ => r_tok Y T b s
  unfold val_main_v15 val_main_v8 val_main_cst_3
  generalize val_main_v7 (F := Ideal) Y T = v at h ⊢
  pointwise
  rw [h]

end Ref

open Cert.Kernel25Ideal Cert.Kernel25Ideal.Gen

theorem algebraic : Cert.algebraic_Kernel25Ideal_Reference25Ideal := by
  intro m g m' g' _ hm
  refine ⟨fun c => (dats m 0 c).arrAt 2 cfg0.N, fun c => Pipeline.afterTail₀ cfgs (dats m) 0 (V0 m) [hostOps1] c main_v1,
    (θ_run Cert.Kernel25Ideal.defs _ _).mono (fun r h c => ⟨(h.1 c).1 2,
      (h.1 c).2 main_v1 (Pipeline.mem_restRefs_of main_v1 (by decide) (by decide)), h.2 c⟩)
      (θ_run_and (run_main m g) (unchanged m g)),
    (θ_run Cert.Reference25Ideal.defs _ _).mono (fun r h c => ?_) (Cert.Reference25Ideal.Value.run (F := Ideal) m' g')⟩
  obtain ⟨h0, h1, hk⟩ := h c
  obtain ⟨e0, e1⟩ := hm c
  refine ⟨h0.trans (Eq.trans ?_ (final_dy m c).symm), h1.trans (Eq.trans ?_ (cut_l m c).symm), hk⟩
  · refine (Cert.Reference25Ideal.Read.val_main_v14_eq _ _).trans ?_
    rw [e0, e1]
    funext i
    obtain ⟨b, s, l, rfl⟩ : ∃ (b : Fin 2) (s : Fin 4096) (l : Fin 1024), i = ix3 b s l := ⟨i 0, i 1, i 2, (ix3_eta i).symm⟩
    exact r_dy _ _ b s l
  · refine (Cert.Reference25Ideal.Read.val_main_v15_eq _ _).trans ?_
    rw [e0, e1]
    funext i
    obtain ⟨a, k, rfl⟩ : ∃ (a k : Fin 1), i = ix2 a k := ⟨i 0, i 1, (ix2_eta i).symm⟩
    obtain rfl : a = 0 := Subsingleton.elim _ _
    obtain rfl : k = 0 := Subsingleton.elim _ _
    exact r_loss _ _

end Cert.Proof.Loss

end
-- ==== Proof.Adam.lean ====
/- The optimiser's step on the small weights: one entry's step, and the tiled call against the whole arrays. -/
module

public import proofs.«01_k».proof.Proof.PreNorm
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read

@[expose] public section

set_option maxRecDepth 16384

noncomputable section

namespace Cert.Proof.Adam

open Idealize.ShloMosaic Idealize.ShloMosaic.TcCoe Idealize.SL.Sem Idealize.ShloMosaic.Pipeline

/-- The step's constants, by their float words. -/
abbrev k (b : BitVec 32) : EReal := Ideal.ofBits .f32 b

/-- The new first and second moments of one entry, and what is added to its weight. -/
def newM (m g : EReal) : EReal := k 0x3F666666#32 * m + k 0x3DCCCCCD#32 * g
def newV (v g : EReal) : EReal := k 0x3F7FBE77#32 * v + k 0x3A83126F#32 * (g * g)
def delta (w m v g : EReal) : EReal := k 0xBA83126F#32
  * (Ideal.div (Ideal.div (newM m g) (k 0x3F26BD02#32)) (Ideal.sqrt (Ideal.div (newV v g) (k 0x3C231ACC#32)) + k 0x322BCC77#32)
    + k 0x3C23D70A#32 * w)

section Kernel

open Cert.Kernel26Ideal Cert.Kernel26Ideal.Gen

section Pay

variable (w m v g : S24x128.Idx → EReal) (y : S24x128.Idx)

theorem pay_m : k0_pay1 (F := Ideal) g m y = newM (m y) (g y) := rfl
theorem pay_v : k0_pay2 (F := Ideal) g v y = newV (v y) (g y) := rfl
theorem pay_d : k0_pay3 (F := Ideal) g w m v y = delta (w y) (m y) (v y) (g y) := rfl

end Pay

variable (m : (ℓ : Loc nD τ sig) → Buf (Elt Ideal) ℓ) (c : Dev nD)

/-- The arguments: weights, moments and gradients, packed. -/
abbrev W : S456x128.Idx → EReal := m ((c : Thread nD τ).loc main_arg0)
abbrev M : S456x128.Idx → EReal := m ((c : Thread nD τ).loc main_arg1)
abbrev V2 : S456x128.Idx → EReal := m ((c : Thread nD τ).loc main_arg2)
abbrev G : S456x128.Idx → EReal := m ((c : Thread nD τ).loc main_arg3)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

variable (t : Fin cfg0.N) (y : S24x128.Idx)

theorem w_tile : (iblk m c 0 t : S24x128.Idx → EReal) y = at2 (W m c) (t.val * 24 + (y 0).val) (y 1).val := by
  unfold W; rw [← V_main_arg0 m c]
  refine at2_of (V m c main_arg0) _ ?_ ?_ <;> blk_simp [index0] <;> simp [win0_0]
theorem m_tile : (iblk m c 1 t : S24x128.Idx → EReal) y = at2 (M m c) (t.val * 24 + (y 0).val) (y 1).val := by
  unfold M; rw [← V_main_arg1 m c]
  refine at2_of (V m c main_arg1) _ ?_ ?_ <;> blk_simp [index1] <;> simp [win0_1]
theorem v_tile : (iblk m c 2 t : S24x128.Idx → EReal) y = at2 (V2 m c) (t.val * 24 + (y 0).val) (y 1).val := by
  unfold V2; rw [← V_main_arg2 m c]
  refine at2_of (V m c main_arg2) _ ?_ ?_ <;> blk_simp [index2] <;> simp [win0_2]
theorem g_tile : (iblk m c 3 t : S24x128.Idx → EReal) y = at2 (G m c) (t.val * 24 + (y 0).val) (y 1).val := by
  unfold G; rw [← V_main_arg3 m c]
  refine at2_of (V m c main_arg3) _ ?_ ?_ <;> blk_simp [index3] <;> simp [win0_3]

theorem tile_g : (out0_4 (F := Ideal) (iblk m c 0 t) (iblk m c 1 t) (iblk m c 2 t) (iblk m c 3 t) : S24x128.Idx → EReal) y
    = at2 (G m c) (t.val * 24 + (y 0).val) (y 1).val := by
  refine Eq.trans ?_ (g_tile m c t y)
  frame_out
theorem tile_d : (out0_5 (F := Ideal) (iblk m c 0 t) (iblk m c 1 t) (iblk m c 2 t) (iblk m c 3 t) : S24x128.Idx → EReal) y
    = delta (at2 (W m c) (t.val * 24 + (y 0).val) (y 1).val) (at2 (M m c) (t.val * 24 + (y 0).val) (y 1).val)
        (at2 (V2 m c) (t.val * 24 + (y 0).val) (y 1).val) (at2 (G m c) (t.val * 24 + (y 0).val) (y 1).val) := by
  frame_out
  rw [pay_d, w_tile, m_tile, v_tile, g_tile]
theorem tile_m : (out0_6 (F := Ideal) (iblk m c 0 t) (iblk m c 1 t) (iblk m c 2 t) (iblk m c 3 t) : S24x128.Idx → EReal) y
    = newM (at2 (M m c) (t.val * 24 + (y 0).val) (y 1).val) (at2 (G m c) (t.val * 24 + (y 0).val) (y 1).val) := by
  frame_out
  rw [pay_m, m_tile, g_tile]
theorem tile_v : (out0_7 (F := Ideal) (iblk m c 0 t) (iblk m c 1 t) (iblk m c 2 t) (iblk m c 3 t) : S24x128.Idx → EReal) y
    = newV (at2 (V2 m c) (t.val * 24 + (y 0).val) (y 1).val) (at2 (G m c) (t.val * 24 + (y 0).val) (y 1).val) := by
  frame_out
  rw [pay_v, v_tile, g_tile]

theorem index4 : ∀ t : Fin cfg0.N, win0_4.index t 0 = t.val ∧ win0_4.index t 1 = 0 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = t.val ∧ win0_7.index t 1 = 0 := (by decide +kernel : ∀ t : Fin grid0.N, _)

theorem col : (0 * 128 + (y 1).val) = (y 1).val := by rw [Nat.zero_mul, Nat.zero_add]

theorem final_g : (dats m 0 c).arrAt 4 cfg0.N = G m c := by
  refine Eq.trans (b := fun i : S456x128.Idx => at2 (G m c) (i 0).val (i 1).val) ?_ (funext fun i => (at2_of (G m c) i rfl rfl).symm)
  refine (dats m 0 c).arrAt_eq_of_covers 4 _ (by decide +kernel) (fun t hf y => ?_)
  blk_simp
  rw [after0_4, (index4 t).1, (index4 t).2]
  refine (tile_g m c t y).trans ?_
  rw [col]
theorem final_d : (dats m 0 c).arrAt 5 cfg0.N = fun i : S456x128.Idx => delta (W m c i) (M m c i) (V2 m c i) (G m c i) := by
  refine Eq.trans (b := fun i : S456x128.Idx => delta (at2 (W m c) (i 0).val (i 1).val) (at2 (M m c) (i 0).val (i 1).val)
    (at2 (V2 m c) (i 0).val (i 1).val) (at2 (G m c) (i 0).val (i 1).val)) ?_ (funext fun i => ?_)
  · refine (dats m 0 c).arrAt_eq_of_covers 5 _ (by decide +kernel) (fun t hf y => ?_)
    blk_simp
    rw [after0_5, (index5 t).1, (index5 t).2]
    refine (tile_d m c t y).trans ?_
    rw [col]
  · rw [← at2_of (W m c) i rfl rfl, ← at2_of (M m c) i rfl rfl, ← at2_of (V2 m c) i rfl rfl, ← at2_of (G m c) i rfl rfl]
theorem final_m : (dats m 0 c).arrAt 6 cfg0.N = fun i : S456x128.Idx => newM (M m c i) (G m c i) := by
  refine Eq.trans (b := fun i : S456x128.Idx => newM (at2 (M m c) (i 0).val (i 1).val) (at2 (G m c) (i 0).val (i 1).val))
    ?_ (funext fun i => ?_)
  · refine (dats m 0 c).arrAt_eq_of_covers 6 _ (by decide +kernel) (fun t hf y => ?_)
    blk_simp
    rw [after0_6, (index6 t).1, (index6 t).2]
    refine (tile_m m c t y).trans ?_
    rw [col]
  · rw [← at2_of (M m c) i rfl rfl, ← at2_of (G m c) i rfl rfl]
theorem final_v : (dats m 0 c).arrAt 7 cfg0.N = fun i : S456x128.Idx => newV (V2 m c i) (G m c i) := by
  refine Eq.trans (b := fun i : S456x128.Idx => newV (at2 (V2 m c) (i 0).val (i 1).val) (at2 (G m c) (i 0).val (i 1).val))
    ?_ (funext fun i => ?_)
  · refine (dats m 0 c).arrAt_eq_of_covers 7 _ (by decide +kernel) (fun t hf y => ?_)
    blk_simp
    rw [after0_7, (index7 t).1, (index7 t).2]
    refine (tile_v m c t y).trans ?_
    rw [col]
  · rw [← at2_of (V2 m c) i rfl rfl, ← at2_of (G m c) i rfl rfl]

end Kernel

section Ref

open Cert.Reference26Ideal Cert.Reference26Ideal.Gen Cert.Reference26Ideal.Read

variable (W M V G : S456x128.Idx → EReal)

theorem ref_m : val_main_v4 (F := Ideal) M G = fun i => newM (M i) (G i) := rfl
theorem ref_v : val_main_v10 (F := Ideal) V G = fun i => newV (V i) (G i) := rfl
theorem ref_d : val_main_v23 (F := Ideal) W M V G = fun i => delta (W i) (M i) (V i) (G i) := rfl

end Ref

theorem algebraic : Cert.algebraic_Kernel26Ideal_Reference26Ideal := by
  intro m g m' g' _ hm
  refine ⟨_, _, _, _, Cert.Kernel26Ideal.Value.run_blocks m g,
    (θ_run Cert.Reference26Ideal.defs _ _).mono (fun r h c => ?_) (Cert.Reference26Ideal.Value.run (F := Ideal) m' g')⟩
  obtain ⟨h0, h1, h2, h3, hk⟩ := h c
  obtain ⟨e0, e1, e2, e3⟩ := hm c
  refine ⟨h0.trans (e3.trans (final_g m c).symm), h1.trans (Eq.trans ?_ (final_d m c).symm),
    h2.trans (Eq.trans ?_ (final_m m c).symm), h3.trans (Eq.trans ?_ (final_v m c).symm), hk⟩
  · refine (Cert.Reference26Ideal.Read.val_main_v23_eq _ _ _ _).trans ?_
    rw [e0, e1, e2, e3]
    exact ref_d _ _ _ _
  · refine (Cert.Reference26Ideal.Read.val_main_v4_eq _ _).trans ?_
    rw [e1, e3]
    exact ref_m _ _
  · refine (Cert.Reference26Ideal.Read.val_main_v10_eq _ _).trans ?_
    rw [e2, e3]
    exact ref_v _ _

end Cert.Proof.Adam

end
-- ==== Proof.AdamO.lean ====
/- The optimiser's step on a weight of two layers, one of which has its gradient here and the other on the sibling core. -/
module

public import proofs.«01_k».proof.Proof.Adam
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read

@[expose] public section

set_option maxRecDepth 16384

noncomputable section

namespace Cert.Proof.AdamO

open Idealize.ShloMosaic Idealize.ShloMosaic.TcCoe Idealize.SL.Sem Idealize.ShloMosaic.Pipeline
open Cert.Proof.Adam

/-- The gradient of layer `l`: the core's own where the layer is the core's. -/
def pick (core : BitVec 32) (l : ℕ) (a b : EReal) : EReal := Scalar.select (IntOp.cmpi .eq (BitVec.ofNat 32 l) core) a b

section At

variable {l n c' : ℕ} (core : BitVec 32) (W M V : (⟨3, ![l, n, c']⟩ : Shape).Idx → EReal) (A B : (⟨2, ![n, c']⟩ : Shape).Idx → EReal)

/-- The entry at layer `x`, row `y`, column `z` of the gradient, the new moments and what is added to the weights. -/
def gAt (x y z : ℕ) : EReal := pick core x (at2 A y z) (at2 B y z)
def mAt (x y z : ℕ) : EReal := newM (at3 M x y z) (gAt core A B x y z)
def vAt (x y z : ℕ) : EReal := newV (at3 V x y z) (gAt core A B x y z)
def dAt (x y z : ℕ) : EReal := delta (at3 W x y z) (at3 M x y z) (at3 V x y z) (gAt core A B x y z)

theorem eq3 (f : ℕ → ℕ → ℕ → EReal) {x x' y y' z z' : ℕ} (hx : x = x') (hy : y = y') (hz : z = z') : f x y z = f x' y' z' := by
  subst hx hy hz; rfl

theorem pick_eq {a a' b b' : EReal} {x x' : ℕ} (hx : x = x') (ha : a = a') (hb : b = b') :
    pick core x a b = pick core x' a' b' := by subst hx ha hb; rfl
theorem newM_eq {a a' b b' : EReal} (ha : a = a') (hb : b = b') : newM a b = newM a' b' := by subst ha hb; rfl
theorem newV_eq {a a' b b' : EReal} (ha : a = a') (hb : b = b') : newV a b = newV a' b' := by subst ha hb; rfl
theorem delta_eq {a a' b b' d d' e e' : EReal} (ha : a = a') (hb : b = b') (hd : d = d') (he : e = e') :
    delta a b d e = delta a' b' d' e' := by subst ha hb hd he; rfl

end At

open Cert.Kernel27Ideal Cert.Kernel27Ideal.Gen

section Pay

variable (i : grid0.Coords) (core : BitVec 32) (w m v : S1x128x1024.Idx → EReal) (a b : S128x1024.Idx → EReal) (r : Fin 128) (j : Fin 1024)

theorem pay_g : k0_pay4 (F := Ideal) i core a b (ix2 r j) = pick core (i 0).val (a (ix2 r j)) (b (ix2 r j)) :=
  apply_ite (fun f : S128x1024.Idx → EReal => f (ix2 r j)) _ _ _
theorem pay_g3 : k0_pay5 (F := Ideal) i core a b (ix3 0 r j) = pick core (i 0).val (a (ix2 r j)) (b (ix2 r j)) := by
  have h := pay_g i core a b r j
  unfold k0_pay5
  generalize k0_pay4 (F := Ideal) i core a b = g at h ⊢
  pointwise
  exact h
theorem pay_m : k0_pay7 (F := Ideal) i core a b m (ix2 r j) = newM (m (ix3 0 r j)) (pick core (i 0).val (a (ix2 r j)) (b (ix2 r j))) := by
  have h := pay_g i core a b r j
  unfold k0_pay7
  generalize k0_pay4 (F := Ideal) i core a b = g at h ⊢
  pointwise
  rw [h]; rfl
theorem pay_v : k0_pay8 (F := Ideal) i core a b v (ix2 r j) = newV (v (ix3 0 r j)) (pick core (i 0).val (a (ix2 r j)) (b (ix2 r j))) := by
  have h := pay_g i core a b r j
  unfold k0_pay8
  generalize k0_pay4 (F := Ideal) i core a b = g at h ⊢
  pointwise
  rw [h]; rfl
theorem pay_m3 : k0_pay1 (F := Ideal) (k0_pay7 (F := Ideal) i core a b m) (ix3 0 r j)
    = newM (m (ix3 0 r j)) (pick core (i 0).val (a (ix2 r j)) (b (ix2 r j))) := by
  refine Eq.trans ?_ (pay_m i core m a b r j)
  unfold k0_pay1
  generalize k0_pay7 (F := Ideal) i core a b m = g
  pointwise
theorem pay_v3 : k0_pay2 (F := Ideal) (k0_pay8 (F := Ideal) i core a b v) (ix3 0 r j)
    = newV (v (ix3 0 r j)) (pick core (i 0).val (a (ix2 r j)) (b (ix2 r j))) := by
  refine Eq.trans ?_ (pay_v i core v a b r j)
  unfold k0_pay2
  generalize k0_pay8 (F := Ideal) i core a b v = g
  pointwise
theorem pay_d3 : k0_pay3 (F := Ideal) (k0_pay6 w) (k0_pay9 (F := Ideal) i core a b m v) (ix3 0 r j)
    = delta (w (ix3 0 r j)) (m (ix3 0 r j)) (v (ix3 0 r j)) (pick core (i 0).val (a (ix2 r j)) (b (ix2 r j))) := by
  have hm := pay_m i core m a b r j
  have hv := pay_v i core v a b r j
  unfold k0_pay3 k0_pay6 k0_pay9
  generalize k0_pay7 (F := Ideal) i core a b m = p at hm ⊢
  generalize k0_pay8 (F := Ideal) i core a b v = q at hv ⊢
  pointwise
  rw [hm, hv]; rfl

/- The same, of a core's place and blocks known to be equal to these. -/
variable {i core w m v a b}
variable {core' : BitVec 32} {w' m' v' : S1x128x1024.Idx → EReal} {a' b' : S128x1024.Idx → EReal}
  (hc : core' = core) (ha : a' = a) (hb : b' = b)
include hc ha hb

theorem got_g : k0_pay5 (F := Ideal) i core' a' b' (ix3 0 r j) = pick core (i 0).val (a (ix2 r j)) (b (ix2 r j)) := by
  subst hc ha hb; exact pay_g3 ..
theorem got_m (hm : m' = m) : k0_pay1 (F := Ideal) (k0_pay7 (F := Ideal) i core' a' b' m') (ix3 0 r j)
    = newM (m (ix3 0 r j)) (pick core (i 0).val (a (ix2 r j)) (b (ix2 r j))) := by
  subst hc ha hb hm; exact pay_m3 ..
theorem got_v (hv : v' = v) : k0_pay2 (F := Ideal) (k0_pay8 (F := Ideal) i core' a' b' v') (ix3 0 r j)
    = newV (v (ix3 0 r j)) (pick core (i 0).val (a (ix2 r j)) (b (ix2 r j))) := by
  subst hc ha hb hv; exact pay_v3 ..
theorem got_d (hw : w' = w) (hm : m' = m) (hv : v' = v) :
    k0_pay3 (F := Ideal) (k0_pay6 w') (k0_pay9 (F := Ideal) i core' a' b' m' v') (ix3 0 r j)
    = delta (w (ix3 0 r j)) (m (ix3 0 r j)) (v (ix3 0 r j)) (pick core (i 0).val (a (ix2 r j)) (b (ix2 r j))) := by
  subst hc ha hb hw hm hv; exact pay_d3 ..

end Pay

variable (m : (ℓ : Loc nD τ sig) → Buf (Elt Ideal) ℓ) (c : Dev nD)

/-- The arguments: the weights, their moments, the two gradients, and the core's place. -/
abbrev W : S2x256x1024.Idx → EReal := m ((c : Thread nD τ).loc main_arg0)
abbrev M : S2x256x1024.Idx → EReal := m ((c : Thread nD τ).loc main_arg1)
abbrev V2 : S2x256x1024.Idx → EReal := m ((c : Thread nD τ).loc main_arg2)
abbrev GA : S256x1024.Idx → EReal := m ((c : Thread nD τ).loc main_arg3)
abbrev GB : S256x1024.Idx → EReal := m ((c : Thread nD τ).loc main_arg4)
abbrev core : BitVec 32 := (m ((c : Thread nD τ).loc main_arg5) : S1.Idx → BitVec 32) (ix1 0)

abbrev hO : Ok m := trivial
abbrev cf := cfgM m (hO m)
/-- The layer of a grid point, and its tile. -/
abbrev lay (t : Fin (cf m).N) : ℕ := t.val / 2
abbrev til (t : Fin (cf m).N) : ℕ := t.val % 2

theorem coord0 : ∀ t : Fin grid0.N, (grid0.coords t 0).val = t.val / 2 := by decide +kernel

variable (t : Fin (cf m).N) (r : Fin 128) (j : Fin 1024)

theorem one (z z' : S1.Idx) : z = z' := funext fun a => Fin.ext (by
  have h : (z a).val < 1 := by have := (z a).isLt; revert this; fin_cases a; exact id
  have h' : (z' a).val < 1 := by have := (z' a).isLt; revert this; fin_cases a; exact id
  omega)

theorem core_eq : View.readAt (Elt Ideal) (View.whole main_arg5) (Rect.unit ![0] ![1] inb_S1_S1_0).toLoadRect
        (tbl m 0) (Shape.Idx.first (by decide)) = core m c := by
  obtain rfl : c = 0 := Subsingleton.elim _ _
  exact congrArg (m (((0 : Dev nD) : Thread nD τ).loc main_arg5) : S1.Idx → BitVec 32) (one _ _)

theorem at0 : ∀ t : Fin grid0.N, cc0_transform_0 (grid0.coords t) = ![t.val / 2, t.val % 2, 0] := by decide +kernel
theorem at1 : ∀ t : Fin grid0.N, cc0_transform_1 (grid0.coords t) = ![t.val / 2, t.val % 2, 0] := by decide +kernel
theorem at2' : ∀ t : Fin grid0.N, cc0_transform_2 (grid0.coords t) = ![t.val / 2, t.val % 2, 0] := by decide +kernel
theorem at3' : ∀ t : Fin grid0.N, cc0_transform_3 (grid0.coords t) = ![t.val % 2, 0] := by decide +kernel
theorem at4' : ∀ t : Fin grid0.N, cc0_transform_4 (grid0.coords t) = ![t.val % 2, 0] := by decide +kernel
theorem w_tile : iblk m (hO m) c 0 t (ix3 0 r j : S1x128x1024.Idx) = at3 (W m c) (t.val / 2) (t.val % 2 * 128 + r) j := by
  unfold W; rw [← V_main_arg0 m c]
  refine at3_of (V m c main_arg0) _ ?_ ?_ ?_ <;> blk_simp
  · exact congrFun (at0 t) 0
  · exact congrArg (· * 128 + r.val) (congrFun (at0 t) 1)
  · exact (congrArg (· * 1024 + j.val) (congrFun (at0 t) 2)).trans (by simp)
theorem m_tile : iblk m (hO m) c 1 t (ix3 0 r j : S1x128x1024.Idx) = at3 (M m c) (t.val / 2) (t.val % 2 * 128 + r) j := by
  unfold M; rw [← V_main_arg1 m c]
  refine at3_of (V m c main_arg1) _ ?_ ?_ ?_ <;> blk_simp
  · exact congrFun (at1 t) 0
  · exact congrArg (· * 128 + r.val) (congrFun (at1 t) 1)
  · exact (congrArg (· * 1024 + j.val) (congrFun (at1 t) 2)).trans (by simp)
theorem v_tile : iblk m (hO m) c 2 t (ix3 0 r j : S1x128x1024.Idx) = at3 (V2 m c) (t.val / 2) (t.val % 2 * 128 + r) j := by
  unfold V2; rw [← V_main_arg2 m c]
  refine at3_of (V m c main_arg2) _ ?_ ?_ ?_ <;> blk_simp
  · exact congrFun (at2' t) 0
  · exact congrArg (· * 128 + r.val) (congrFun (at2' t) 1)
  · exact (congrArg (· * 1024 + j.val) (congrFun (at2' t) 2)).trans (by simp)
theorem ga_tile : iblk m (hO m) c 3 t (ix2 r j : S128x1024.Idx) = at2 (GA m c) (t.val % 2 * 128 + r) j := by
  unfold GA; rw [← V_main_arg3 m c]
  refine at2_of (V m c main_arg3) _ ?_ ?_ <;> blk_simp
  · exact congrArg (· * 128 + r.val) (congrFun (at3' t) 0)
  · exact (congrArg (· * 1024 + j.val) (congrFun (at3' t) 1)).trans (by simp)
theorem gb_tile : iblk m (hO m) c 4 t (ix2 r j : S128x1024.Idx) = at2 (GB m c) (t.val % 2 * 128 + r) j := by
  unfold GB; rw [← V_main_arg4 m c]
  refine at2_of (V m c main_arg4) _ ?_ ?_ <;> blk_simp
  · exact congrArg (· * 128 + r.val) (congrFun (at4' t) 0)
  · exact (congrArg (· * 1024 + j.val) (congrFun (at4' t) 1)).trans (by simp)

theorem g_pick : pick (core m c) (grid0.coords t 0).val (iblk m (hO m) c 3 t (ix2 r j : S128x1024.Idx)) (iblk m (hO m) c 4 t (ix2 r j : S128x1024.Idx))
    = gAt (core m c) (GA m c) (GB m c) (t.val / 2) (t.val % 2 * 128 + r.val) j.val :=
  pick_eq _ (coord0 t) (ga_tile m c t r j) (gb_tile m c t r j)

theorem tile_g : ((outsAt0 m (hO m) c t).1 : Vec Ideal S1x128x1024 .f32) (ix3 0 r j)
    = gAt (core m c) (GA m c) (GB m c) (t.val / 2) (t.val % 2 * 128 + r.val) j.val := by
  unfold outsAt0
  frame_out
  exact (got_g r j (core_eq m c) ((hs0_3 m (hO m) t).read_unread _) ((hs0_4 m (hO m) t).read_unread _)).trans (g_pick m c t r j)
theorem tile_d : ((outsAt0 m (hO m) c t).2.1 : Vec Ideal S1x128x1024 .f32) (ix3 0 r j)
    = dAt (core m c) (W m c) (M m c) (V2 m c) (GA m c) (GB m c) (t.val / 2) (t.val % 2 * 128 + r.val) j.val := by
  unfold outsAt0
  frame_out
  exact (got_d r j (core_eq m c) ((hs0_3 m (hO m) t).read_unread _) ((hs0_4 m (hO m) t).read_unread _) ((hs0_0 m (hO m) t).read_unread _)
    ((hs0_1 m (hO m) t).read_unread _) ((hs0_2 m (hO m) t).read_unread _)).trans
    (delta_eq (w_tile m c t r j) (m_tile m c t r j) (v_tile m c t r j) (g_pick m c t r j))
theorem tile_m : ((outsAt0 m (hO m) c t).2.2.1 : Vec Ideal S1x128x1024 .f32) (ix3 0 r j)
    = mAt (core m c) (M m c) (GA m c) (GB m c) (t.val / 2) (t.val % 2 * 128 + r.val) j.val := by
  unfold outsAt0
  frame_out
  exact (got_m r j (core_eq m c) ((hs0_3 m (hO m) t).read_unread _) ((hs0_4 m (hO m) t).read_unread _) ((hs0_1 m (hO m) t).read_unread _)).trans
    (newM_eq (m_tile m c t r j) (g_pick m c t r j))
theorem tile_v : ((outsAt0 m (hO m) c t).2.2.2 : Vec Ideal S1x128x1024 .f32) (ix3 0 r j)
    = vAt (core m c) (V2 m c) (GA m c) (GB m c) (t.val / 2) (t.val % 2 * 128 + r.val) j.val := by
  unfold outsAt0
  frame_out
  exact (got_v r j (core_eq m c) ((hs0_3 m (hO m) t).read_unread _) ((hs0_4 m (hO m) t).read_unread _) ((hs0_2 m (hO m) t).read_unread _)).trans
    (newV_eq (v_tile m c t r j) (g_pick m c t r j))

theorem at5 : ∀ t : Fin grid0.N, cc0_transform_5 (grid0.coords t) = ![t.val / 2, t.val % 2, 0] := by decide +kernel
theorem surj : ∀ β : (a : Fin 3) → Fin (((![2, 256, 1024] : Fin 3 → ℕ) a + (![1, 128, 1024] : Fin 3 → ℕ) a - 1) / (![1, 128, 1024] : Fin 3 → ℕ) a),
    ∃ t : Fin grid0.N, ∀ a, cc0_transform_5 (grid0.coords t) a = (β a).val := by
  decide +kernel
theorem size : ∀ a : Fin 3, 0 < (![1, 128, 1024] : Fin 3 → ℕ) a := by decide
theorem row0 : t.val / 2 = cc0_transform_5 (grid0.coords t) 0 := (congrFun (at5 t) 0).symm
theorem row1 : t.val % 2 * 128 + r.val = cc0_transform_5 (grid0.coords t) 1 * 128 + r.val :=
  congrArg (· * 128 + r.val) (congrFun (at5 t) 1).symm
theorem row2 : j.val = cc0_transform_5 (grid0.coords t) 2 * 1024 + j.val :=
  ((congrArg (· * 1024 + j.val) (congrFun (at5 t) 2)).trans (by simp)).symm

theorem at6 : cc0_transform_6 = cc0_transform_5 := rfl
theorem at7 : cc0_transform_7 = cc0_transform_5 := rfl
theorem at8 : cc0_transform_8 = cc0_transform_5 := rfl
theorem cov5 : ((cf m).win 5).Covers :=
  ⟨size, fun β => (surj β).imp fun t h => ⟨flush0_5 _ t, fun a => ⟨h a, Or.inl rfl⟩⟩⟩
theorem cov6 : ((cf m).win 6).Covers :=
  ⟨size, fun β => (surj β).imp fun t h => ⟨flush0_6 _ t, fun a => ⟨h a, Or.inl rfl⟩⟩⟩
theorem cov7 : ((cf m).win 7).Covers :=
  ⟨size, fun β => (surj β).imp fun t h => ⟨flush0_7 _ t, fun a => ⟨h a, Or.inl rfl⟩⟩⟩
theorem cov8 : ((cf m).win 8).Covers :=
  ⟨size, fun β => (surj β).imp fun t h => ⟨flush0_8 _ t, fun a => ⟨h a, Or.inl rfl⟩⟩⟩

theorem split (y : S1x128x1024.Idx) : ∃ (r : Fin 128) (j : Fin 1024), y = ix3 0 r j :=
  ⟨y 1, y 2, (ix3_eta y).symm.trans (congrArg (ix3 · (y 1) (y 2)) (Subsingleton.elim (α := Fin 1) _ _))⟩

theorem final_g : (dats m (hO m) 0 c).arrAt 5 (cf m).N = fun i : S2x256x1024.Idx =>
    gAt (core m c) (GA m c) (GB m c) (i 0).val (i 1).val (i 2).val := by
  refine (dats m (hO m) 0 c).arrAt_eq_of_covers 5 _ (cov5 m) (fun t hf (y : S1x128x1024.Idx) => ?_)
  obtain ⟨r, j, rfl⟩ := split y
  blk_simp
  rw [after0_5]
  exact (tile_g m c t r j).trans (eq3 _ (row0 m t) (row1 m t r) (row2 m t j))
theorem final_d : (dats m (hO m) 0 c).arrAt 6 (cf m).N = fun i : S2x256x1024.Idx =>
    dAt (core m c) (W m c) (M m c) (V2 m c) (GA m c) (GB m c) (i 0).val (i 1).val (i 2).val := by
  refine (dats m (hO m) 0 c).arrAt_eq_of_covers 6 _ (cov6 m) (fun t hf (y : S1x128x1024.Idx) => ?_)
  obtain ⟨r, j, rfl⟩ := split y
  blk_simp
  rw [after0_6]
  exact (tile_d m c t r j).trans (eq3 _ (row0 m t) (row1 m t r) (row2 m t j))
theorem final_m : (dats m (hO m) 0 c).arrAt 7 (cf m).N = fun i : S2x256x1024.Idx =>
    mAt (core m c) (M m c) (GA m c) (GB m c) (i 0).val (i 1).val (i 2).val := by
  refine (dats m (hO m) 0 c).arrAt_eq_of_covers 7 _ (cov7 m) (fun t hf (y : S1x128x1024.Idx) => ?_)
  obtain ⟨r, j, rfl⟩ := split y
  blk_simp
  rw [after0_7]
  exact (tile_m m c t r j).trans (eq3 _ (row0 m t) (row1 m t r) (row2 m t j))
theorem final_v : (dats m (hO m) 0 c).arrAt 8 (cf m).N = fun i : S2x256x1024.Idx =>
    vAt (core m c) (V2 m c) (GA m c) (GB m c) (i 0).val (i 1).val (i 2).val := by
  refine (dats m (hO m) 0 c).arrAt_eq_of_covers 8 _ (cov8 m) (fun t hf (y : S1x128x1024.Idx) => ?_)
  obtain ⟨r, j, rfl⟩ := split y
  blk_simp
  rw [after0_8]
  exact (tile_v m c t r j).trans (eq3 _ (row0 m t) (row1 m t r) (row2 m t j))

section Ref

open Cert.Reference27Ideal.Read

variable (W M V : S2x256x1024.Idx → EReal) (A B : S256x1024.Idx → EReal) (p : S1.Idx → BitVec 32)

theorem ref_g : val_main_v5 (F := Ideal) A B p = fun i => gAt (p (ix1 0)) A B (i 0).val (i 1).val (i 2).val := by
  funext i
  have h (z : S1.Idx) : p z = p (ix1 0) := congrArg p (one _ _)
  rw [val_main_v5_apply, val_main_call0_v0_apply, val_main_v4_apply, val_main_v1_apply, val_main_v0_apply, val_main_v3_apply,
    val_main_v2_apply, val_main_call0_v1_apply, val_main_call0_v2_apply, h]
  exact pick_eq _ rfl (at2_of A _ rfl rfl) (at2_of B _ rfl rfl)
theorem ref_m : val_main_v10 (F := Ideal) M A B p = fun i => mAt (p (ix1 0)) M A B (i 0).val (i 1).val (i 2).val :=
  (rfl : _ = fun i => newM (M i) (val_main_v5 (F := Ideal) A B p i)).trans
    (funext fun i => newM_eq (at3_of M i rfl rfl rfl) (congrFun (ref_g A B p) i))
theorem ref_v : val_main_v16 (F := Ideal) V A B p = fun i => vAt (p (ix1 0)) V A B (i 0).val (i 1).val (i 2).val :=
  (rfl : _ = fun i => newV (V i) (val_main_v5 (F := Ideal) A B p i)).trans
    (funext fun i => newV_eq (at3_of V i rfl rfl rfl) (congrFun (ref_g A B p) i))
theorem ref_d : val_main_v29 (F := Ideal) W M V A B p = fun i => dAt (p (ix1 0)) W M V A B (i 0).val (i 1).val (i 2).val :=
  (rfl : _ = fun i => delta (W i) (M i) (V i) (val_main_v5 (F := Ideal) A B p i)).trans
    (funext fun i => delta_eq (at3_of W i rfl rfl rfl) (at3_of M i rfl rfl rfl) (at3_of V i rfl rfl rfl) (congrFun (ref_g A B p) i))

end Ref

theorem algebraic : Cert.algebraic_Kernel27Ideal_Reference27Ideal := by
  intro m g m' g' _ hm
  refine ⟨_, _, _, _, (θ_run Cert.Kernel27Ideal.defs _ _).mono
      (fun r h c => ⟨(h.1 c).1 5, (h.1 c).1 6, (h.1 c).1 7, (h.1 c).1 8, h.2 c⟩) (θ_run_and (run_main m g (hO m)) (unchanged m g (hO m))),
    (θ_run Cert.Reference27Ideal.defs _ _).mono (fun r h c => ?_) (Cert.Reference27Ideal.Value.run (F := Ideal) m' g')⟩
  obtain ⟨h0, h1, h2, h3, hk⟩ := h c
  obtain ⟨e0, e1, e2, e3, e4, e5⟩ := hm c
  refine ⟨h0.trans (Eq.trans ?_ (final_g m c).symm), h1.trans (Eq.trans ?_ (final_d m c).symm),
    h2.trans (Eq.trans ?_ (final_m m c).symm), h3.trans (Eq.trans ?_ (final_v m c).symm), hk⟩
  · refine (Cert.Reference27Ideal.Read.val_main_v5_eq _ _ _).trans ?_
    rw [e3, e4, e5]
    exact ref_g _ _ _
  · refine (Cert.Reference27Ideal.Read.val_main_v29_eq _ _ _ _ _ _).trans ?_
    rw [e0, e1, e2, e3, e4, e5]
    exact ref_d _ _ _ _ _ _
  · refine (Cert.Reference27Ideal.Read.val_main_v10_eq _ _ _ _).trans ?_
    rw [e1, e3, e4, e5]
    exact ref_m _ _ _ _
  · refine (Cert.Reference27Ideal.Read.val_main_v16_eq _ _ _ _).trans ?_
    rw [e2, e3, e4, e5]
    exact ref_v _ _ _ _

end Cert.Proof.AdamO

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read
public import proofs.«01_k».proof.Proof.ScConv
public import proofs.«01_k».proof.Proof.GatedNorm
public import proofs.«01_k».proof.Proof.Mat3
public import proofs.«01_k».proof.Proof.Mat4
public import proofs.«01_k».proof.Proof.Mat5
public import proofs.«01_k».proof.Proof.Mat6
public import proofs.«01_k».proof.Proof.Mat7
public import proofs.«01_k».proof.Proof.Mat8
public import proofs.«01_k».proof.Proof.Mat9
public import proofs.«01_k».proof.Proof.Mat10
public import proofs.«01_k».proof.Proof.Mat11
public import proofs.«01_k».proof.Proof.Mat12
public import proofs.«01_k».proof.Proof.Mat13
public import proofs.«01_k».proof.Proof.Mat14
public import proofs.«01_k».proof.Proof.Mat15
public import proofs.«01_k».proof.Proof.Mat16
public import proofs.«01_k».proof.Proof.Mat17
public import proofs.«01_k».proof.Proof.Mat18
public import proofs.«01_k».proof.Proof.Mat19
public import proofs.«01_k».proof.Proof.Mat20
public import proofs.«01_k».proof.Proof.Mat21
public import proofs.«01_k».proof.Proof.Mat22
public import proofs.«01_k».proof.Proof.Merge
public import proofs.«01_k».proof.Proof.PreNorm
public import proofs.«01_k».proof.Proof.Loss
public import proofs.«01_k».proof.Proof.Adam
public import proofs.«01_k».proof.Proof.AdamO
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_finite : Cert.quiescent_KernelIdeal_pre_finite := fun m ρ _ => Cert.KernelIdeal.Gen.frame m ρ

theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frame_referenceIdeal_finite : Cert.quiescent_ReferenceIdeal_pre_finite := fun m ρ _ => frame_referenceIdeal m ρ trivial

theorem preserves_mask : Cert.preserves_Kernel_KernelIdeal :=
  IdealRules.named_const.statement Cert.KernelIdeal.κ "mask" .f32 0xF149F2CA#32 ⊥ rfl

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem frame_kernel10 : Cert.quiescent_Kernel10 := fun m ρ _ => Cert.Kernel10.Gen.frame m ρ

theorem frame_kernel10Ideal : Cert.quiescent_Kernel10Ideal := fun m ρ _ => Cert.Kernel10Ideal.Gen.frame m ρ

theorem frame_reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem frame_kernel11 : Cert.quiescent_Kernel11 := fun m ρ _ => Cert.Kernel11.Gen.frame m ρ

theorem frame_kernel11Ideal : Cert.quiescent_Kernel11Ideal := fun m ρ _ => Cert.Kernel11Ideal.Gen.frame m ρ

theorem frame_reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem frame_kernel12 : Cert.quiescent_Kernel12 := fun m ρ _ => Cert.Kernel12.Gen.frame m ρ

theorem frame_kernel12Ideal : Cert.quiescent_Kernel12Ideal := fun m ρ _ => Cert.Kernel12Ideal.Gen.frame m ρ

theorem frame_reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem frame_kernel13 : Cert.quiescent_Kernel13 := fun m ρ _ => Cert.Kernel13.Gen.frame m ρ

theorem frame_kernel13Ideal : Cert.quiescent_Kernel13Ideal := fun m ρ _ => Cert.Kernel13Ideal.Gen.frame m ρ

theorem frame_reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem frame_kernel14 : Cert.quiescent_Kernel14 := fun m ρ _ => Cert.Kernel14.Gen.frame m ρ

theorem frame_kernel14Ideal : Cert.quiescent_Kernel14Ideal := fun m ρ _ => Cert.Kernel14Ideal.Gen.frame m ρ

theorem frame_reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

theorem frame_kernel15 : Cert.quiescent_Kernel15 := fun m ρ _ => Cert.Kernel15.Gen.frame m ρ

theorem frame_kernel15Ideal : Cert.quiescent_Kernel15Ideal := fun m ρ _ => Cert.Kernel15Ideal.Gen.frame m ρ

theorem frame_reference15Ideal : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem frame_kernel16 : Cert.quiescent_Kernel16 := fun m ρ _ => Cert.Kernel16.Gen.frame m ρ

theorem frame_kernel16Ideal : Cert.quiescent_Kernel16Ideal := fun m ρ _ => Cert.Kernel16Ideal.Gen.frame m ρ

theorem frame_reference16Ideal : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

theorem frame_kernel17 : Cert.quiescent_Kernel17 := fun m ρ _ => Cert.Kernel17.Gen.frame m ρ

theorem frame_kernel17Ideal : Cert.quiescent_Kernel17Ideal := fun m ρ _ => Cert.Kernel17Ideal.Gen.frame m ρ

theorem frame_reference17Ideal : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

theorem frame_kernel18 : Cert.quiescent_Kernel18 := fun m ρ _ => Cert.Kernel18.Gen.frame m ρ

theorem frame_kernel18Ideal : Cert.quiescent_Kernel18Ideal := fun m ρ _ => Cert.Kernel18Ideal.Gen.frame m ρ

theorem frame_reference18Ideal : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

theorem frame_kernel19 : Cert.quiescent_Kernel19 := fun m ρ _ => Cert.Kernel19.Gen.frame m ρ

theorem frame_kernel19Ideal : Cert.quiescent_Kernel19Ideal := fun m ρ _ => Cert.Kernel19Ideal.Gen.frame m ρ

theorem frame_reference19Ideal : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

theorem frame_kernel20 : Cert.quiescent_Kernel20 := fun m ρ _ => Cert.Kernel20.Gen.frame m ρ

theorem frame_kernel20Ideal : Cert.quiescent_Kernel20Ideal := fun m ρ _ => Cert.Kernel20Ideal.Gen.frame m ρ

theorem frame_reference20Ideal : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

theorem frame_kernel21 : Cert.quiescent_Kernel21 := fun m ρ _ => Cert.Kernel21.Gen.frame m ρ

theorem frame_kernel21Ideal : Cert.quiescent_Kernel21Ideal := fun m ρ _ => Cert.Kernel21Ideal.Gen.frame m ρ

theorem frame_reference21Ideal : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

theorem frame_kernel22 : Cert.quiescent_Kernel22 := fun m ρ _ => Cert.Kernel22.Gen.frame m ρ

theorem frame_kernel22Ideal : Cert.quiescent_Kernel22Ideal := fun m ρ _ => Cert.Kernel22Ideal.Gen.frame m ρ

theorem frame_reference22Ideal : Cert.quiescent_Reference22Ideal := fun m ρ _ =>
  (θ_run Cert.Reference22Ideal.defs _ _).mono (fun r h => ⟨fun c => (h c).2, sem_eq_zero_of_no_sems (by decide) r.2⟩)
    (Cert.Reference22Ideal.Value.run m ρ)

theorem frame_kernel23 : Cert.quiescent_Kernel23 := fun m ρ _ => Cert.Kernel23.Gen.frame m ρ

theorem frame_kernel23Ideal : Cert.quiescent_Kernel23Ideal := fun m ρ _ => Cert.Kernel23Ideal.Gen.frame m ρ

theorem frame_reference23Ideal : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run m ρ)

theorem frame_kernel24 : Cert.quiescent_Kernel24 := fun m ρ _ => Cert.Kernel24.Gen.frame m ρ

theorem frame_kernel24Ideal : Cert.quiescent_Kernel24Ideal := fun m ρ _ => Cert.Kernel24Ideal.Gen.frame m ρ

theorem frame_reference24Ideal : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run m ρ)

theorem frame_kernel25 : Cert.quiescent_Kernel25 := fun m ρ _ => Cert.Kernel25.Gen.frame m ρ

theorem frame_kernel25Ideal : Cert.quiescent_Kernel25Ideal := fun m ρ _ => Cert.Kernel25Ideal.Gen.frame m ρ

theorem frame_reference25Ideal : Cert.quiescent_Reference25Ideal := fun m ρ _ =>
  (θ_run Cert.Reference25Ideal.defs _ _).mono (fun r h => ⟨fun c => (h c).2.2, sem_eq_zero_of_no_sems (by decide) r.2⟩)
    (Cert.Reference25Ideal.Value.run m ρ)

theorem frame_kernel26 : Cert.quiescent_Kernel26 := fun m ρ _ => Cert.Kernel26.Gen.frame m ρ

theorem frame_kernel26Ideal : Cert.quiescent_Kernel26Ideal := fun m ρ _ => Cert.Kernel26Ideal.Gen.frame m ρ

theorem frame_reference26Ideal : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run m ρ)

theorem frame_kernel27 : Cert.quiescent_Kernel27 := fun m ρ _ => Cert.Kernel27.Gen.frame m ρ trivial

theorem frame_kernel27Ideal : Cert.quiescent_Kernel27Ideal := fun m ρ _ => Cert.Kernel27Ideal.Gen.frame m ρ trivial

theorem frame_reference27Ideal : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Pre_finite.Gen.facts,
    frame_kernel, frame_kernelIdeal, frame_kernelIdeal_finite, frame_referenceIdeal, frame_referenceIdeal_finite,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    frame_kernel9, frame_kernel9Ideal, frame_reference9Ideal,
    frame_kernel10, frame_kernel10Ideal, frame_reference10Ideal,
    frame_kernel11, frame_kernel11Ideal, frame_reference11Ideal,
    frame_kernel12, frame_kernel12Ideal, frame_reference12Ideal,
    frame_kernel13, frame_kernel13Ideal, frame_reference13Ideal,
    frame_kernel14, frame_kernel14Ideal, frame_reference14Ideal,
    frame_kernel15, frame_kernel15Ideal, frame_reference15Ideal,
    frame_kernel16, frame_kernel16Ideal, frame_reference16Ideal,
    frame_kernel17, frame_kernel17Ideal, frame_reference17Ideal,
    frame_kernel18, frame_kernel18Ideal, frame_reference18Ideal,
    frame_kernel19, frame_kernel19Ideal, frame_reference19Ideal,
    frame_kernel20, frame_kernel20Ideal, frame_reference20Ideal,
    frame_kernel21, frame_kernel21Ideal, frame_reference21Ideal,
    frame_kernel22, frame_kernel22Ideal, frame_reference22Ideal,
    frame_kernel23, frame_kernel23Ideal, frame_reference23Ideal,
    frame_kernel24, frame_kernel24Ideal, frame_reference24Ideal,
    frame_kernel25, frame_kernel25Ideal, frame_reference25Ideal,
    frame_kernel26, frame_kernel26Ideal, frame_reference26Ideal,
    frame_kernel27, frame_kernel27Ideal, frame_reference27Ideal,
    preserves_mask, GatedNorm.algebraic,
    trivial, ScConv.algebraic,
    trivial, Mat3.algebraic,
    trivial, Mat4.algebraic,
    trivial, Mat5.algebraic,
    trivial, Mat6.algebraic,
    trivial, Mat7.algebraic,
    trivial, Mat8.algebraic,
    trivial, Mat9.algebraic,
    trivial, Mat10.algebraic,
    trivial, Mat11.algebraic,
    trivial, Mat12.algebraic,
    trivial, Mat13.algebraic,
    trivial, Mat14.algebraic,
    trivial, Mat15.algebraic,
    trivial, Mat16.algebraic,
    trivial, Mat17.algebraic,
    trivial, Mat18.algebraic,
    trivial, Mat19.algebraic,
    trivial, Mat20.algebraic,
    trivial, Mat21.algebraic,
    trivial, Mat22.algebraic,
    trivial, Merge.algebraic,
    trivial, PreNorm.algebraic,
    trivial, Loss.algebraic,
    trivial, Adam.algebraic,
    trivial, AdamO.algebraic⟩

end Cert.Proof

end
